-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tau_nonzero [hPre_tau_nonzero : Cert.Pre_tau_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_tau_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tau_nonzero [hPre_tau_nonzero : Cert.Pre_tau_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tau_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tau_nonzero [hKernelIdeal : Cert.KernelIdeal.Facts] [hPre_tau_nonzero : Cert.Pre_tau_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tau_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tau_nonzero [hReferenceIdeal : Cert.ReferenceIdeal.Facts] [hPre_tau_nonzero : Cert.Pre_tau_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tau_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_tau_nonzero [hKernelIdeal : Cert.KernelIdeal.Facts] [hReferenceIdeal : Cert.ReferenceIdeal.Facts] [hPre_tau_nonzero : Cert.Pre_tau_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tau_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_v43)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v61)) (v4 : (c : Dev Cert.KernelIdeal.nD) → Buf (Elt Ideal) ((c.tc : Thread Cert.KernelIdeal.nD Cert.KernelIdeal.τ).loc Cert.KernelIdeal.main_v78)) (v5 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v61) = v3 c
          ∧ r.2.mem ((c.tc : Thread Cert.KernelIdeal.nD Cert.KernelIdeal.τ).loc Cert.KernelIdeal.main_v78) = v4 c
          ∧ r.2.mem ((c.tc : Thread Cert.KernelIdeal.nD Cert.KernelIdeal.τ).loc Cert.KernelIdeal.main_v86) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38_7) = v0 c
          ∧ r.2.mem ((c.tc : Thread Cert.ReferenceIdeal.nD Cert.ReferenceIdeal.τ).loc Cert.ReferenceIdeal.main_v38_8) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_v56) = v3 c
          ∧ r.2.mem ((c.tc : Thread Cert.ReferenceIdeal.nD Cert.ReferenceIdeal.τ).loc Cert.ReferenceIdeal.main_v71) = v4 c
          ∧ r.2.mem ((c.tc : Thread Cert.ReferenceIdeal.nD Cert.ReferenceIdeal.τ).loc Cert.ReferenceIdeal.main_v38_9) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tau_nonzero : Cert.Pre_tau_nonzero.Facts),
    quiescent_Kernel (hKernel := hKernel)
    ∧ quiescent_KernelIdeal (hKernelIdeal := hKernelIdeal)
    ∧ quiescent_KernelIdeal_pre_tau_nonzero (hKernelIdeal := hKernelIdeal) (hPre_tau_nonzero := hPre_tau_nonzero)
    ∧ quiescent_ReferenceIdeal (hReferenceIdeal := hReferenceIdeal)
    ∧ quiescent_ReferenceIdeal_pre_tau_nonzero (hReferenceIdeal := hReferenceIdeal) (hPre_tau_nonzero := hPre_tau_nonzero)
    ∧ preserves_Kernel_KernelIdeal
    ∧ algebraic_KernelIdeal_ReferenceIdeal_pre_tau_nonzero (hKernelIdeal := hKernelIdeal) (hReferenceIdeal := hReferenceIdeal) (hPre_tau_nonzero := hPre_tau_nonzero)
-- ==== Pre_tau_nonzero.lean ====
abbrev S32768x256 : Shape := ⟨2, ![32768, 256]⟩
abbrev S32768x8x256 : Shape := ⟨3, ![32768, 8, 256]⟩
abbrev S32768x8 : Shape := ⟨2, ![32768, 8]⟩
abbrev S_ : Shape := ⟨0, ![]⟩
abbrev S128x256 : Shape := ⟨2, ![128, 256]⟩

class Facts : Prop where

variable [Facts]

def fn {F : FTy → Type} [FloatOps F] (main_arg0 : FVec F S32768x256 .f32) (main_arg1 : FVec F S32768x8x256 .f32) (main_arg2 : FVec F S32768x8 .f32) (main_arg3 : IVec S_ 32) (main_arg4 : FVec F S128x256 .f32) : IVec S_ 1 :=
  let main_c : IVec S_ 32 := constantI S_ 32 0#32
  let main_v0 : IVec S_ 1 := cmpi .ne main_arg3 main_c
  main_v0
-- ==== Kernel.lean ====
abbrev S32768x256 : Shape := ⟨2, ![32768, 256]⟩
abbrev S32768x8x256 : Shape := ⟨3, ![32768, 8, 256]⟩
abbrev S32768x8 : Shape := ⟨2, ![32768, 8]⟩
abbrev S_ : Shape := ⟨0, ![]⟩
abbrev S128x256 : Shape := ⟨2, ![128, 256]⟩
abbrev S32768 : Shape := ⟨1, ![32768]⟩
abbrev S32768x1 : Shape := ⟨2, ![32768, 1]⟩
abbrev S128 : Shape := ⟨1, ![128]⟩
abbrev S128x1 : Shape := ⟨2, ![128, 1]⟩
abbrev S128x32768 : Shape := ⟨2, ![128, 32768]⟩
abbrev S4096x256 : Shape := ⟨2, ![4096, 256]⟩
abbrev S128x4096 : Shape := ⟨2, ![128, 4096]⟩
abbrev S128x16x2048 : Shape := ⟨3, ![128, 16, 2048]⟩
abbrev S128x16x640 : Shape := ⟨3, ![128, 16, 640]⟩
abbrev S16 : Shape := ⟨1, ![16]⟩
abbrev S1x16x1 : Shape := ⟨3, ![1, 16, 1]⟩
abbrev S128x10240 : Shape := ⟨2, ![128, 10240]⟩
abbrev S128x640 : Shape := ⟨2, ![128, 640]⟩
abbrev S128x640x1 : Shape := ⟨3, ![128, 640, 1]⟩
abbrev S1 : Shape := ⟨1, ![1]⟩
abbrev S1x1x1 : Shape := ⟨3, ![1, 1, 1]⟩
abbrev S2 : Shape := ⟨1, ![2]⟩
abbrev S128x2 : Shape := ⟨2, ![128, 2]⟩
abbrev S512 : Shape := ⟨1, ![512]⟩
abbrev S1x512 : Shape := ⟨2, ![1, 512]⟩
abbrev S128x512 : Shape := ⟨2, ![128, 512]⟩
abbrev S1x1 : Shape := ⟨2, ![1, 1]⟩
abbrev S1x128 : Shape := ⟨2, ![1, 128]⟩
abbrev S640x640 : Shape := ⟨2, ![640, 640]⟩
abbrev S512x640 : Shape := ⟨2, ![512, 640]⟩
abbrev S1x640 : Shape := ⟨2, ![1, 640]⟩
abbrev S640 : Shape := ⟨1, ![640]⟩
abbrev S1x1x640 : Shape := ⟨3, ![1, 1, 640]⟩
abbrev S128x640x2 : Shape := ⟨3, ![128, 640, 2]⟩
abbrev S128x8x256 : Shape := ⟨3, ![128, 8, 256]⟩

abbrev nBuf : Space → Nat
  | .hbm => 652
  | .vmem => 15
  | .smem => 1
  | _ => 0

abbrev hbmTy0_0 (i : Nat) : BufTy := match i % 128 with
  | 0 => ⟨S32768x256, .f32⟩
  | 1 => ⟨S32768x8x256, .f32⟩
  | 2 => ⟨S32768x8, .f32⟩
  | 3 => ⟨S_, .i32⟩
  | 4 => ⟨S128x256, .f32⟩
  | 5 => ⟨S32768x256, .f32⟩
  | 6 => ⟨S_, .f32⟩
  | 7 => ⟨S32768, .f32⟩
  | 8 => ⟨S32768x1, .f32⟩
  | 9 => ⟨S32768x1, .f32⟩
  | 10 => ⟨S_, .f32⟩
  | 11 => ⟨S32768x1, .f32⟩
  | 12 => ⟨S32768x1, .f32⟩
  | 13 => ⟨S32768x256, .f32⟩
  | 14 => ⟨S32768x256, .f32⟩
  | 15 => ⟨S128x256, .f32⟩
  | 16 => ⟨S_, .f32⟩
  | 17 => ⟨S128, .f32⟩
  | 18 => ⟨S128x1, .f32⟩
  | 19 => ⟨S128x1, .f32⟩
  | 20 => ⟨S_, .f32⟩
  | 21 => ⟨S128x1, .f32⟩
  | 22 => ⟨S128x1, .f32⟩
  | 23 => ⟨S128x256, .f32⟩
  | 24 => ⟨S128x256, .f32⟩
  | 25 => ⟨S128x32768, .f32⟩
  | 26 => ⟨S128x16x2048, .f32⟩
  | 27 => ⟨S128x16x640, .f32⟩
  | 28 => ⟨S128x16x640, .i32⟩
  | 29 => ⟨S16, .i32⟩
  | 30 => ⟨S_, .i32⟩
  | 31 => ⟨S16, .i32⟩
  | 32 => ⟨S16, .i32⟩
  | 33 => ⟨S1x16x1, .i32⟩
  | 34 => ⟨S128x16x640, .i32⟩
  | 35 => ⟨S128x16x640, .i32⟩
  | 36 => ⟨S128x10240, .f32⟩
  | 37 => ⟨S128x10240, .i32⟩
  | 38 => ⟨S128x640, .f32⟩
  | 39 => ⟨S128x640, .i32⟩
  | 40 => ⟨S_, .i32⟩
  | 41 => ⟨S128x640, .i32⟩
  | 42 => ⟨S128x640, .i1⟩
  | 43 => ⟨S_, .i32⟩
  | 44 => ⟨S128x640, .i32⟩
  | 45 => ⟨S128x640, .i32⟩
  | 46 => ⟨S128x640, .i32⟩
  | 47 => ⟨S128x640x1, .i32⟩
  | 48 => ⟨S1, .i32⟩
  | 49 => ⟨S_, .i32⟩
  | 50 => ⟨S128x640x1, .i32⟩
  | 51 => ⟨S128x640x1, .i1⟩
  | 52 => ⟨S1x1x1, .i32⟩
  | 53 => ⟨S128x640x1, .i32⟩
  | 54 => ⟨S128x640x1, .i1⟩
  | 55 => ⟨S128x640x1, .i1⟩
  | 56 => ⟨S_, .i1⟩
  | 57 => ⟨S128x640, .i1⟩
  | 58 => ⟨S128x640, .i32⟩
  | 59 => ⟨S_, .i32⟩
  | 60 => ⟨S128x640, .i32⟩
  | 61 => ⟨S128x640, .i32⟩
  | 62 => ⟨S_, .i32⟩
  | 63 => ⟨S_, .i32⟩
  | 64 => ⟨S_, .i32⟩
  | 65 => ⟨S_, .i32⟩
  | 66 => ⟨S1, .i32⟩
  | 67 => ⟨S_, .i32⟩
  | 68 => ⟨S_, .i32⟩
  | 69 => ⟨S_, .i32⟩
  | 70 => ⟨S1, .i32⟩
  | 71 => ⟨S2, .i32⟩
  | 72 => ⟨S128, .i32⟩
  | 73 => ⟨S128, .i32⟩
  | 74 => ⟨S_, .i32⟩
  | 75 => ⟨S128, .i32⟩
  | 76 => ⟨S128, .i32⟩
  | 77 => ⟨S128x1, .i32⟩
  | 78 => ⟨S_, .i32⟩
  | 79 => ⟨S128, .i32⟩
  | 80 => ⟨S128, .i32⟩
  | 81 => ⟨S128x1, .i32⟩
  | 82 => ⟨S128x2, .i32⟩
  | 83 => ⟨S1, .i32⟩
  | 84 => ⟨S_, .i32⟩
  | 85 => ⟨S1, .i32⟩
  | 86 => ⟨S_, .i32⟩
  | 87 => ⟨S128x1, .i32⟩
  | 88 => ⟨S128x1, .i32⟩
  | 89 => ⟨S_, .i32⟩
  | 90 => ⟨S_, .i32⟩
  | 91 => ⟨S_, .i32⟩
  | 92 => ⟨S128x1, .i32⟩
  | 93 => ⟨S128x1, .i32⟩
  | 94 => ⟨S128x1, .i32⟩
  | 95 => ⟨S128x1, .i32⟩
  | 96 => ⟨S128x1, .i32⟩
  | 97 => ⟨S_, .i32⟩
  | 98 => ⟨S128x1, .i32⟩
  | 99 => ⟨S128x1, .i32⟩
  | 100 => ⟨S_, .i32⟩
  | 101 => ⟨S128x1, .i32⟩
  | 102 => ⟨S128x1, .i32⟩
  | 103 => ⟨S128x1, .i32⟩
  | 104 => ⟨S128x1, .i32⟩
  | 105 => ⟨S128x1, .i32⟩
  | 106 => ⟨S_, .i32⟩
  | 107 => ⟨S128x1, .i32⟩
  | 108 => ⟨S128x1, .i32⟩
  | 109 => ⟨S_, .i32⟩
  | 110 => ⟨S128x1, .i32⟩
  | 111 => ⟨S128x1, .i32⟩
  | 112 => ⟨S128x1, .i32⟩
  | 113 => ⟨S128x1, .i32⟩
  | 114 => ⟨S128x1, .i32⟩
  | 115 => ⟨S_, .i32⟩
  | 116 => ⟨S128x1, .i32⟩
  | 117 => ⟨S128x1, .i32⟩
  | 118 => ⟨S_, .i32⟩
  | 119 => ⟨S128x1, .i32⟩
  | 120 => ⟨S128x1, .i32⟩
  | 121 => ⟨S128x1, .i32⟩
  | 122 => ⟨S128x1, .i32⟩
  | 123 => ⟨S128x1, .i32⟩
  | 124 => ⟨S_, .i32⟩
  | 125 => ⟨S128x1, .i32⟩
  | 126 => ⟨S128x1, .i32⟩
  | 127 => ⟨S_, .i32⟩
  | _ => ⟨S32768x256, .f32⟩

abbrev hbmTy0_1 (i : Nat) : BufTy := match i % 128 with
  | 0 => ⟨S128x1, .i32⟩
  | 1 => ⟨S128x1, .i32⟩
  | 2 => ⟨S128x1, .i32⟩
  | 3 => ⟨S128x1, .i32⟩
  | 4 => ⟨S128x1, .i32⟩
  | 5 => ⟨S128x1, .i32⟩
  | 6 => ⟨S128x1, .i32⟩
  | 7 => ⟨S128x1, .i32⟩
  | 8 => ⟨S_, .i32⟩
  | 9 => ⟨S128x1, .i32⟩
  | 10 => ⟨S128x1, .i32⟩
  | 11 => ⟨S128x1, .i32⟩
  | 12 => ⟨S_, .i32⟩
  | 13 => ⟨S128x1, .i32⟩
  | 14 => ⟨S128x1, .i32⟩
  | 15 => ⟨S_, .i32⟩
  | 16 => ⟨S128x1, .i32⟩
  | 17 => ⟨S128x1, .i32⟩
  | 18 => ⟨S128x1, .i32⟩
  | 19 => ⟨S128x1, .i32⟩
  | 20 => ⟨S128x1, .i32⟩
  | 21 => ⟨S_, .i32⟩
  | 22 => ⟨S128x1, .i32⟩
  | 23 => ⟨S128x1, .i32⟩
  | 24 => ⟨S_, .i32⟩
  | 25 => ⟨S128x1, .i32⟩
  | 26 => ⟨S128x1, .i32⟩
  | 27 => ⟨S128x1, .i32⟩
  | 28 => ⟨S128x1, .i32⟩
  | 29 => ⟨S128x1, .i32⟩
  | 30 => ⟨S_, .i32⟩
  | 31 => ⟨S128x1, .i32⟩
  | 32 => ⟨S128x1, .i32⟩
  | 33 => ⟨S_, .i32⟩
  | 34 => ⟨S128x1, .i32⟩
  | 35 => ⟨S128x1, .i32⟩
  | 36 => ⟨S128x1, .i32⟩
  | 37 => ⟨S128x1, .i32⟩
  | 38 => ⟨S128x1, .i32⟩
  | 39 => ⟨S_, .i32⟩
  | 40 => ⟨S128x1, .i32⟩
  | 41 => ⟨S128x1, .i32⟩
  | 42 => ⟨S_, .i32⟩
  | 43 => ⟨S128x1, .i32⟩
  | 44 => ⟨S128x1, .i32⟩
  | 45 => ⟨S128x1, .i32⟩
  | 46 => ⟨S128x1, .i32⟩
  | 47 => ⟨S128x1, .i32⟩
  | 48 => ⟨S128x1, .i32⟩
  | 49 => ⟨S128x1, .i32⟩
  | 50 => ⟨S128x1, .i32⟩
  | 51 => ⟨S_, .i32⟩
  | 52 => ⟨S128x1, .i32⟩
  | 53 => ⟨S128x1, .i32⟩
  | 54 => ⟨S128x1, .i32⟩
  | 55 => ⟨S_, .i32⟩
  | 56 => ⟨S128x1, .i32⟩
  | 57 => ⟨S128x1, .i32⟩
  | 58 => ⟨S_, .i32⟩
  | 59 => ⟨S128x1, .i32⟩
  | 60 => ⟨S128x1, .i32⟩
  | 61 => ⟨S128x1, .i32⟩
  | 62 => ⟨S128x1, .i32⟩
  | 63 => ⟨S128x1, .i32⟩
  | 64 => ⟨S_, .i32⟩
  | 65 => ⟨S128x1, .i32⟩
  | 66 => ⟨S128x1, .i32⟩
  | 67 => ⟨S_, .i32⟩
  | 68 => ⟨S128x1, .i32⟩
  | 69 => ⟨S128x1, .i32⟩
  | 70 => ⟨S128x1, .i32⟩
  | 71 => ⟨S128x1, .i32⟩
  | 72 => ⟨S128x1, .i32⟩
  | 73 => ⟨S_, .i32⟩
  | 74 => ⟨S128x1, .i32⟩
  | 75 => ⟨S128x1, .i32⟩
  | 76 => ⟨S_, .i32⟩
  | 77 => ⟨S128x1, .i32⟩
  | 78 => ⟨S128x1, .i32⟩
  | 79 => ⟨S128x1, .i32⟩
  | 80 => ⟨S128x1, .i32⟩
  | 81 => ⟨S128x1, .i32⟩
  | 82 => ⟨S_, .i32⟩
  | 83 => ⟨S128x1, .i32⟩
  | 84 => ⟨S128x1, .i32⟩
  | 85 => ⟨S_, .i32⟩
  | 86 => ⟨S128x1, .i32⟩
  | 87 => ⟨S128x1, .i32⟩
  | 88 => ⟨S128x1, .i32⟩
  | 89 => ⟨S128x1, .i32⟩
  | 90 => ⟨S128x1, .i32⟩
  | 91 => ⟨S128x1, .i32⟩
  | 92 => ⟨S128x1, .i32⟩
  | 93 => ⟨S128x1, .i32⟩
  | 94 => ⟨S_, .i32⟩
  | 95 => ⟨S128x1, .i32⟩
  | 96 => ⟨S128x1, .i32⟩
  | 97 => ⟨S128x1, .i32⟩
  | 98 => ⟨S_, .i32⟩
  | 99 => ⟨S128x1, .i32⟩
  | 100 => ⟨S128x1, .i32⟩
  | 101 => ⟨S_, .i32⟩
  | 102 => ⟨S128x1, .i32⟩
  | 103 => ⟨S128x1, .i32⟩
  | 104 => ⟨S128x1, .i32⟩
  | 105 => ⟨S128x1, .i32⟩
  | 106 => ⟨S128x1, .i32⟩
  | 107 => ⟨S_, .i32⟩
  | 108 => ⟨S128x1, .i32⟩
  | 109 => ⟨S128x1, .i32⟩
  | 110 => ⟨S_, .i32⟩
  | 111 => ⟨S128x1, .i32⟩
  | 112 => ⟨S128x1, .i32⟩
  | 113 => ⟨S128x1, .i32⟩
  | 114 => ⟨S128x1, .i32⟩
  | 115 => ⟨S128x1, .i32⟩
  | 116 => ⟨S_, .i32⟩
  | 117 => ⟨S128x1, .i32⟩
  | 118 => ⟨S128x1, .i32⟩
  | 119 => ⟨S_, .i32⟩
  | 120 => ⟨S128x1, .i32⟩
  | 121 => ⟨S128x1, .i32⟩
  | 122 => ⟨S128x1, .i32⟩
  | 123 => ⟨S128x1, .i32⟩
  | 124 => ⟨S128x1, .i32⟩
  | 125 => ⟨S_, .i32⟩
  | 126 => ⟨S128x1, .i32⟩
  | 127 => ⟨S128x1, .i32⟩
  | _ => ⟨S32768x256, .f32⟩

abbrev hbmTy0_2 (i : Nat) : BufTy := match i % 128 with
  | 0 => ⟨S_, .i32⟩
  | 1 => ⟨S128x1, .i32⟩
  | 2 => ⟨S128x1, .i32⟩
  | 3 => ⟨S128x1, .i32⟩
  | 4 => ⟨S128x1, .i32⟩
  | 5 => ⟨S128x1, .i32⟩
  | 6 => ⟨S128x1, .i32⟩
  | 7 => ⟨S128x1, .i32⟩
  | 8 => ⟨S128x1, .i32⟩
  | 9 => ⟨S_, .i32⟩
  | 10 => ⟨S128x1, .i32⟩
  | 11 => ⟨S128x1, .i32⟩
  | 12 => ⟨S128x1, .i32⟩
  | 13 => ⟨S_, .i32⟩
  | 14 => ⟨S128x1, .i32⟩
  | 15 => ⟨S128x1, .i32⟩
  | 16 => ⟨S_, .i32⟩
  | 17 => ⟨S128x1, .i32⟩
  | 18 => ⟨S128x1, .i32⟩
  | 19 => ⟨S128x1, .i32⟩
  | 20 => ⟨S128x1, .i32⟩
  | 21 => ⟨S128x1, .i32⟩
  | 22 => ⟨S_, .i32⟩
  | 23 => ⟨S128x1, .i32⟩
  | 24 => ⟨S128x1, .i32⟩
  | 25 => ⟨S_, .i32⟩
  | 26 => ⟨S128x1, .i32⟩
  | 27 => ⟨S128x1, .i32⟩
  | 28 => ⟨S128x1, .i32⟩
  | 29 => ⟨S128x1, .i32⟩
  | 30 => ⟨S128x1, .i32⟩
  | 31 => ⟨S_, .i32⟩
  | 32 => ⟨S128x1, .i32⟩
  | 33 => ⟨S128x1, .i32⟩
  | 34 => ⟨S_, .i32⟩
  | 35 => ⟨S128x1, .i32⟩
  | 36 => ⟨S128x1, .i32⟩
  | 37 => ⟨S128x1, .i32⟩
  | 38 => ⟨S128x1, .i32⟩
  | 39 => ⟨S128x1, .i32⟩
  | 40 => ⟨S_, .i32⟩
  | 41 => ⟨S128x1, .i32⟩
  | 42 => ⟨S128x1, .i32⟩
  | 43 => ⟨S_, .i32⟩
  | 44 => ⟨S128x1, .i32⟩
  | 45 => ⟨S128x1, .i32⟩
  | 46 => ⟨S128x1, .i32⟩
  | 47 => ⟨S128x1, .i32⟩
  | 48 => ⟨S128x1, .i32⟩
  | 49 => ⟨S128x1, .i32⟩
  | 50 => ⟨S128x1, .i32⟩
  | 51 => ⟨S128x1, .i32⟩
  | 52 => ⟨S_, .i32⟩
  | 53 => ⟨S128x1, .i32⟩
  | 54 => ⟨S128x1, .i32⟩
  | 55 => ⟨S128x2, .i32⟩
  | 56 => ⟨S_, .f32⟩
  | 57 => ⟨S_, .f32⟩
  | 58 => ⟨S_, .f32⟩
  | 59 => ⟨S_, .f32⟩
  | 60 => ⟨S1, .f32⟩
  | 61 => ⟨S1, .f32⟩
  | 62 => ⟨S128x1, .i32⟩
  | 63 => ⟨S128, .i32⟩
  | 64 => ⟨S128x1, .i32⟩
  | 65 => ⟨S128, .i32⟩
  | 66 => ⟨S512, .i64⟩
  | 67 => ⟨S_, .i64⟩
  | 68 => ⟨S512, .i64⟩
  | 69 => ⟨S512, .i64⟩
  | 70 => ⟨S_, .i64⟩
  | 71 => ⟨S512, .i64⟩
  | 72 => ⟨S512, .i64⟩
  | 73 => ⟨S512, .i32⟩
  | 74 => ⟨S512, .i32⟩
  | 75 => ⟨S1x512, .i32⟩
  | 76 => ⟨S1x512, .i32⟩
  | 77 => ⟨S128x1, .i32⟩
  | 78 => ⟨S128x1, .i32⟩
  | 79 => ⟨S128x1, .i32⟩
  | 80 => ⟨S_, .i32⟩
  | 81 => ⟨S128x1, .i32⟩
  | 82 => ⟨S128x1, .i32⟩
  | 83 => ⟨S128x512, .i32⟩
  | 84 => ⟨S128x512, .i32⟩
  | 85 => ⟨S128x512, .i32⟩
  | 86 => ⟨S128x512, .i32⟩
  | 87 => ⟨S128x512, .i32⟩
  | 88 => ⟨S128x512, .i32⟩
  | 89 => ⟨S128x512, .i32⟩
  | 90 => ⟨S_, .i32⟩
  | 91 => ⟨S128x512, .i32⟩
  | 92 => ⟨S128x512, .i32⟩
  | 93 => ⟨S_, .i32⟩
  | 94 => ⟨S128x512, .i32⟩
  | 95 => ⟨S128x512, .i32⟩
  | 96 => ⟨S128x512, .i32⟩
  | 97 => ⟨S128x512, .i32⟩
  | 98 => ⟨S128x512, .i32⟩
  | 99 => ⟨S_, .i32⟩
  | 100 => ⟨S128x512, .i32⟩
  | 101 => ⟨S128x512, .i32⟩
  | 102 => ⟨S_, .i32⟩
  | 103 => ⟨S128x512, .i32⟩
  | 104 => ⟨S128x512, .i32⟩
  | 105 => ⟨S128x512, .i32⟩
  | 106 => ⟨S128x512, .i32⟩
  | 107 => ⟨S128x512, .i32⟩
  | 108 => ⟨S_, .i32⟩
  | 109 => ⟨S128x512, .i32⟩
  | 110 => ⟨S128x512, .i32⟩
  | 111 => ⟨S_, .i32⟩
  | 112 => ⟨S128x512, .i32⟩
  | 113 => ⟨S128x512, .i32⟩
  | 114 => ⟨S128x512, .i32⟩
  | 115 => ⟨S128x512, .i32⟩
  | 116 => ⟨S128x512, .i32⟩
  | 117 => ⟨S_, .i32⟩
  | 118 => ⟨S128x512, .i32⟩
  | 119 => ⟨S128x512, .i32⟩
  | 120 => ⟨S_, .i32⟩
  | 121 => ⟨S128x512, .i32⟩
  | 122 => ⟨S128x512, .i32⟩
  | 123 => ⟨S128x512, .i32⟩
  | 124 => ⟨S128x512, .i32⟩
  | 125 => ⟨S128x512, .i32⟩
  | 126 => ⟨S128x512, .i32⟩
  | 127 => ⟨S128x512, .i32⟩
  | _ => ⟨S32768x256, .f32⟩

abbrev hbmTy0_3 (i : Nat) : BufTy := match i % 128 with
  | 0 => ⟨S128x512, .i32⟩
  | 1 => ⟨S_, .i32⟩
  | 2 => ⟨S128x512, .i32⟩
  | 3 => ⟨S128x512, .i32⟩
  | 4 => ⟨S128x512, .i32⟩
  | 5 => ⟨S_, .i32⟩
  | 6 => ⟨S128x512, .i32⟩
  | 7 => ⟨S128x512, .i32⟩
  | 8 => ⟨S_, .i32⟩
  | 9 => ⟨S128x512, .i32⟩
  | 10 => ⟨S128x512, .i32⟩
  | 11 => ⟨S128x512, .i32⟩
  | 12 => ⟨S128x512, .i32⟩
  | 13 => ⟨S128x512, .i32⟩
  | 14 => ⟨S_, .i32⟩
  | 15 => ⟨S128x512, .i32⟩
  | 16 => ⟨S128x512, .i32⟩
  | 17 => ⟨S_, .i32⟩
  | 18 => ⟨S128x512, .i32⟩
  | 19 => ⟨S128x512, .i32⟩
  | 20 => ⟨S128x512, .i32⟩
  | 21 => ⟨S128x512, .i32⟩
  | 22 => ⟨S128x512, .i32⟩
  | 23 => ⟨S_, .i32⟩
  | 24 => ⟨S128x512, .i32⟩
  | 25 => ⟨S128x512, .i32⟩
  | 26 => ⟨S_, .i32⟩
  | 27 => ⟨S128x512, .i32⟩
  | 28 => ⟨S128x512, .i32⟩
  | 29 => ⟨S128x512, .i32⟩
  | 30 => ⟨S128x512, .i32⟩
  | 31 => ⟨S128x512, .i32⟩
  | 32 => ⟨S_, .i32⟩
  | 33 => ⟨S128x512, .i32⟩
  | 34 => ⟨S128x512, .i32⟩
  | 35 => ⟨S_, .i32⟩
  | 36 => ⟨S128x512, .i32⟩
  | 37 => ⟨S128x512, .i32⟩
  | 38 => ⟨S128x512, .i32⟩
  | 39 => ⟨S128x512, .i32⟩
  | 40 => ⟨S128x512, .i32⟩
  | 41 => ⟨S128x512, .i32⟩
  | 42 => ⟨S128x512, .i32⟩
  | 43 => ⟨S128x512, .i32⟩
  | 44 => ⟨S_, .i32⟩
  | 45 => ⟨S128x512, .i32⟩
  | 46 => ⟨S128x512, .i32⟩
  | 47 => ⟨S128x512, .i32⟩
  | 48 => ⟨S_, .i32⟩
  | 49 => ⟨S128x512, .i32⟩
  | 50 => ⟨S128x512, .i32⟩
  | 51 => ⟨S_, .i32⟩
  | 52 => ⟨S128x512, .i32⟩
  | 53 => ⟨S128x512, .i32⟩
  | 54 => ⟨S128x512, .i32⟩
  | 55 => ⟨S128x512, .i32⟩
  | 56 => ⟨S128x512, .i32⟩
  | 57 => ⟨S_, .i32⟩
  | 58 => ⟨S128x512, .i32⟩
  | 59 => ⟨S128x512, .i32⟩
  | 60 => ⟨S_, .i32⟩
  | 61 => ⟨S128x512, .i32⟩
  | 62 => ⟨S128x512, .i32⟩
  | 63 => ⟨S128x512, .i32⟩
  | 64 => ⟨S128x512, .i32⟩
  | 65 => ⟨S128x512, .i32⟩
  | 66 => ⟨S_, .i32⟩
  | 67 => ⟨S128x512, .i32⟩
  | 68 => ⟨S128x512, .i32⟩
  | 69 => ⟨S_, .i32⟩
  | 70 => ⟨S128x512, .i32⟩
  | 71 => ⟨S128x512, .i32⟩
  | 72 => ⟨S128x512, .i32⟩
  | 73 => ⟨S128x512, .i32⟩
  | 74 => ⟨S128x512, .i32⟩
  | 75 => ⟨S_, .i32⟩
  | 76 => ⟨S128x512, .i32⟩
  | 77 => ⟨S128x512, .i32⟩
  | 78 => ⟨S_, .i32⟩
  | 79 => ⟨S128x512, .i32⟩
  | 80 => ⟨S128x512, .i32⟩
  | 81 => ⟨S128x512, .i32⟩
  | 82 => ⟨S128x512, .i32⟩
  | 83 => ⟨S128x512, .i32⟩
  | 84 => ⟨S128x512, .i32⟩
  | 85 => ⟨S128x512, .i32⟩
  | 86 => ⟨S128x512, .i32⟩
  | 87 => ⟨S_, .i32⟩
  | 88 => ⟨S128x512, .i32⟩
  | 89 => ⟨S128x512, .i32⟩
  | 90 => ⟨S128x512, .i32⟩
  | 91 => ⟨S_, .i32⟩
  | 92 => ⟨S128x512, .i32⟩
  | 93 => ⟨S128x512, .i32⟩
  | 94 => ⟨S_, .i32⟩
  | 95 => ⟨S128x512, .i32⟩
  | 96 => ⟨S128x512, .i32⟩
  | 97 => ⟨S128x512, .i32⟩
  | 98 => ⟨S128x512, .i32⟩
  | 99 => ⟨S128x512, .i32⟩
  | 100 => ⟨S_, .i32⟩
  | 101 => ⟨S128x512, .i32⟩
  | 102 => ⟨S128x512, .i32⟩
  | 103 => ⟨S_, .i32⟩
  | 104 => ⟨S128x512, .i32⟩
  | 105 => ⟨S128x512, .i32⟩
  | 106 => ⟨S128x512, .i32⟩
  | 107 => ⟨S128x512, .i32⟩
  | 108 => ⟨S128x512, .i32⟩
  | 109 => ⟨S_, .i32⟩
  | 110 => ⟨S128x512, .i32⟩
  | 111 => ⟨S128x512, .i32⟩
  | 112 => ⟨S_, .i32⟩
  | 113 => ⟨S128x512, .i32⟩
  | 114 => ⟨S128x512, .i32⟩
  | 115 => ⟨S128x512, .i32⟩
  | 116 => ⟨S128x512, .i32⟩
  | 117 => ⟨S128x512, .i32⟩
  | 118 => ⟨S_, .i32⟩
  | 119 => ⟨S128x512, .i32⟩
  | 120 => ⟨S128x512, .i32⟩
  | 121 => ⟨S_, .i32⟩
  | 122 => ⟨S128x512, .i32⟩
  | 123 => ⟨S128x512, .i32⟩
  | 124 => ⟨S128x512, .i32⟩
  | 125 => ⟨S128x512, .i32⟩
  | 126 => ⟨S128x512, .i32⟩
  | 127 => ⟨S128x512, .i32⟩
  | _ => ⟨S32768x256, .f32⟩

abbrev hbmTy0_4 (i : Nat) : BufTy := match i % 128 with
  | 0 => ⟨S128x512, .i32⟩
  | 1 => ⟨S128x512, .i32⟩
  | 2 => ⟨S_, .i32⟩
  | 3 => ⟨S128x512, .i32⟩
  | 4 => ⟨S128x512, .i32⟩
  | 5 => ⟨S128x512, .i32⟩
  | 6 => ⟨S_, .i32⟩
  | 7 => ⟨S128x512, .i32⟩
  | 8 => ⟨S128x512, .i32⟩
  | 9 => ⟨S_, .i32⟩
  | 10 => ⟨S128x512, .i32⟩
  | 11 => ⟨S128x512, .i32⟩
  | 12 => ⟨S128x512, .i32⟩
  | 13 => ⟨S128x512, .i32⟩
  | 14 => ⟨S128x512, .i32⟩
  | 15 => ⟨S_, .i32⟩
  | 16 => ⟨S128x512, .i32⟩
  | 17 => ⟨S128x512, .i32⟩
  | 18 => ⟨S_, .i32⟩
  | 19 => ⟨S128x512, .i32⟩
  | 20 => ⟨S128x512, .i32⟩
  | 21 => ⟨S128x512, .i32⟩
  | 22 => ⟨S128x512, .i32⟩
  | 23 => ⟨S128x512, .i32⟩
  | 24 => ⟨S_, .i32⟩
  | 25 => ⟨S128x512, .i32⟩
  | 26 => ⟨S128x512, .i32⟩
  | 27 => ⟨S_, .i32⟩
  | 28 => ⟨S128x512, .i32⟩
  | 29 => ⟨S128x512, .i32⟩
  | 30 => ⟨S128x512, .i32⟩
  | 31 => ⟨S128x512, .i32⟩
  | 32 => ⟨S128x512, .i32⟩
  | 33 => ⟨S_, .i32⟩
  | 34 => ⟨S128x512, .i32⟩
  | 35 => ⟨S128x512, .i32⟩
  | 36 => ⟨S_, .i32⟩
  | 37 => ⟨S128x512, .i32⟩
  | 38 => ⟨S128x512, .i32⟩
  | 39 => ⟨S128x512, .i32⟩
  | 40 => ⟨S128x512, .i32⟩
  | 41 => ⟨S128x512, .i32⟩
  | 42 => ⟨S128x512, .i32⟩
  | 43 => ⟨S128x512, .i32⟩
  | 44 => ⟨S128x512, .i32⟩
  | 45 => ⟨S_, .i32⟩
  | 46 => ⟨S128x512, .i32⟩
  | 47 => ⟨S128x512, .i32⟩
  | 48 => ⟨S128x512, .i32⟩
  | 49 => ⟨S_, .i32⟩
  | 50 => ⟨S128x512, .i32⟩
  | 51 => ⟨S128x512, .i32⟩
  | 52 => ⟨S_, .i32⟩
  | 53 => ⟨S128x512, .i32⟩
  | 54 => ⟨S128x512, .i32⟩
  | 55 => ⟨S128x512, .f32⟩
  | 56 => ⟨S_, .f32⟩
  | 57 => ⟨S128x512, .f32⟩
  | 58 => ⟨S128x512, .f32⟩
  | 59 => ⟨S1, .f32⟩
  | 60 => ⟨S1x1, .f32⟩
  | 61 => ⟨S128x512, .f32⟩
  | 62 => ⟨S128x512, .f32⟩
  | 63 => ⟨S1x1, .f32⟩
  | 64 => ⟨S128x512, .f32⟩
  | 65 => ⟨S128x512, .f32⟩
  | 66 => ⟨S1x1, .f32⟩
  | 67 => ⟨S128x512, .f32⟩
  | 68 => ⟨S128x512, .f32⟩
  | 69 => ⟨S_, .f32⟩
  | 70 => ⟨S128x512, .f32⟩
  | 71 => ⟨S128x512, .f32⟩
  | 72 => ⟨S128x512, .f32⟩
  | 73 => ⟨S128x512, .f32⟩
  | 74 => ⟨S_, .f32⟩
  | 75 => ⟨S128x512, .f32⟩
  | 76 => ⟨S128x512, .f32⟩
  | 77 => ⟨S128x512, .f32⟩
  | 78 => ⟨S128x512, .f32⟩
  | 79 => ⟨S_, .f32⟩
  | 80 => ⟨S1, .f32⟩
  | 81 => ⟨S128x640, .f32⟩
  | 82 => ⟨S1x128, .i32⟩
  | 83 => ⟨S128, .i32⟩
  | 84 => ⟨S128, .i32⟩
  | 85 => ⟨S128x1, .i32⟩
  | 86 => ⟨S128x640, .i32⟩
  | 87 => ⟨S_, .f32⟩
  | 88 => ⟨S128x32768, .f32⟩
  | 89 => ⟨S_, .i32⟩
  | 90 => ⟨S128x640, .i32⟩
  | 91 => ⟨S128x640, .i1⟩
  | 92 => ⟨S_, .i32⟩
  | 93 => ⟨S128x640, .i32⟩
  | 94 => ⟨S128x640, .i32⟩
  | 95 => ⟨S128x640, .i32⟩
  | 96 => ⟨S_, .i32⟩
  | 97 => ⟨S128x640, .i32⟩
  | 98 => ⟨S128x640, .i1⟩
  | 99 => ⟨S_, .i32⟩
  | 100 => ⟨S128x640, .i32⟩
  | 101 => ⟨S128x640, .i32⟩
  | 102 => ⟨S128x640, .i32⟩
  | 103 => ⟨S128x640x1, .i32⟩
  | 104 => ⟨S128x640x1, .i32⟩
  | 105 => ⟨S128x640x2, .i32⟩
  | 106 => ⟨S128x32768, .f32⟩
  | 107 => ⟨S_, .f32⟩
  | 108 => ⟨S128x32768, .f32⟩
  | 109 => ⟨S128, .i32⟩
  | 110 => ⟨S_, .i32⟩
  | 111 => ⟨S128, .i32⟩
  | 112 => ⟨S128, .i1⟩
  | 113 => ⟨S_, .i32⟩
  | 114 => ⟨S128, .i32⟩
  | 115 => ⟨S128, .i32⟩
  | 116 => ⟨S128, .i32⟩
  | 117 => ⟨S_, .i32⟩
  | 118 => ⟨S128, .i32⟩
  | 119 => ⟨S128, .i1⟩
  | 120 => ⟨S_, .i32⟩
  | 121 => ⟨S128, .i32⟩
  | 122 => ⟨S128, .i32⟩
  | 123 => ⟨S128, .i32⟩
  | 124 => ⟨S128x1, .i32⟩
  | 125 => ⟨S128x1, .i32⟩
  | 126 => ⟨S128x2, .i32⟩
  | 127 => ⟨S_, .f32⟩
  | _ => ⟨S32768x256, .f32⟩

abbrev hbmTy0_5 (i : Nat) : BufTy := match i % 128 with
  | 0 => ⟨S128, .f32⟩
  | 1 => ⟨S128x32768, .f32⟩
  | 2 => ⟨S_, .i32⟩
  | 3 => ⟨S128, .i32⟩
  | 4 => ⟨S128, .i1⟩
  | 5 => ⟨S_, .i32⟩
  | 6 => ⟨S128, .i32⟩
  | 7 => ⟨S128, .i32⟩
  | 8 => ⟨S128, .i32⟩
  | 9 => ⟨S128x1, .i32⟩
  | 10 => ⟨S128x8x256, .f32⟩
  | 11 => ⟨S128x256, .f32⟩
  | _ => ⟨S32768x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S32768x256, .f32⟩

abbrev bufTy : (tb : Table) → Fin (tcTables nBuf tb) → BufTy
  | .hbm, ⟨i, _⟩ => hbmTy i
  | .local _ .vmem, ⟨0, _⟩ => ⟨S128x256, .f32⟩
  | .local _ .vmem, ⟨1, _⟩ => ⟨S4096x256, .f32⟩
  | .local _ .vmem, ⟨2, _⟩ => ⟨S4096x256, .f32⟩
  | .local _ .vmem, ⟨3, _⟩ => ⟨S128x4096, .f32⟩
  | .local _ .vmem, ⟨4, _⟩ => ⟨S128x4096, .f32⟩
  | .local _ .vmem, ⟨5, _⟩ => ⟨S128x640, .f32⟩
  | .local _ .vmem, ⟨6, _⟩ => ⟨S128x640, .i32⟩
  | .local _ .vmem, ⟨7, _⟩ => ⟨S128x512, .f32⟩
  | .local _ .vmem, ⟨8, _⟩ => ⟨S128x640, .f32⟩
  | .local _ .vmem, ⟨9, _⟩ => ⟨S1x128, .i32⟩
  | .local _ .vmem, ⟨10, _⟩ => ⟨S128x4096, .f32⟩
  | .local _ .vmem, ⟨11, _⟩ => ⟨S128x4096, .f32⟩
  | .local _ .vmem, ⟨12, _⟩ => ⟨S4096x256, .f32⟩
  | .local _ .vmem, ⟨13, _⟩ => ⟨S4096x256, .f32⟩
  | .local _ .vmem, ⟨14, _⟩ => ⟨S128x256, .f32⟩
  | .local _ .smem, ⟨0, _⟩ => ⟨S1, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_values : Ref sig .tc := ⟨.hbm, 27, rfl⟩
abbrev main_indices : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_values_1 : Ref sig .tc := ⟨.hbm, 38, rfl⟩
abbrev main_indices_2 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_c_4 : Ref sig .tc := ⟨.hbm, 59, rfl⟩
abbrev main_call2_v14 : Ref sig .tc := ⟨.hbm, 60, rfl⟩
abbrev main_v20 : Ref sig .tc := ⟨.hbm, 61, rfl⟩
abbrev main_c_3 : Ref sig .tc := ⟨.hbm, 62, rfl⟩
abbrev main_c_4 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_c_5 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_c_0 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_v12 : Ref sig .tc := ⟨.hbm, 88, rfl⟩
abbrev main_call3_call0_v0 : Ref sig .tc := ⟨.hbm, 89, rfl⟩
abbrev main_call3_call0_c : Ref sig .tc := ⟨.hbm, 90, rfl⟩
abbrev main_call3_call0_v1 : Ref sig .tc := ⟨.hbm, 91, rfl⟩
abbrev main_call3_call0_v2 : Ref sig .tc := ⟨.hbm, 92, rfl⟩
abbrev main_call3_call0_v3 : Ref sig .tc := ⟨.hbm, 93, rfl⟩
abbrev main_call3_call0_v4 : Ref sig .tc := ⟨.hbm, 94, rfl⟩
abbrev main_call3_call0_v5 : Ref sig .tc := ⟨.hbm, 95, rfl⟩
abbrev main_call3_call0_v6 : Ref sig .tc := ⟨.hbm, 96, rfl⟩
abbrev main_call3_call0_c_0 : Ref sig .tc := ⟨.hbm, 97, rfl⟩
abbrev main_call3_call0_v7 : Ref sig .tc := ⟨.hbm, 98, rfl⟩
abbrev main_call3_call0_v8 : Ref sig .tc := ⟨.hbm, 99, rfl⟩
abbrev main_call3_call0_c_1 : Ref sig .tc := ⟨.hbm, 100, rfl⟩
abbrev main_call3_call0_v9 : Ref sig .tc := ⟨.hbm, 101, rfl⟩
abbrev main_call3_call0_v10 : Ref sig .tc := ⟨.hbm, 102, rfl⟩
abbrev main_call3_call0_v11 : Ref sig .tc := ⟨.hbm, 103, rfl⟩
abbrev main_call3_call0_v12 : Ref sig .tc := ⟨.hbm, 104, rfl⟩
abbrev main_call3_call0_v13 : Ref sig .tc := ⟨.hbm, 105, rfl⟩
abbrev main_call3_call0_c_2 : Ref sig .tc := ⟨.hbm, 106, rfl⟩
abbrev main_call3_call0_v14 : Ref sig .tc := ⟨.hbm, 107, rfl⟩
abbrev main_call3_call0_v15 : Ref sig .tc := ⟨.hbm, 108, rfl⟩
abbrev main_call3_call0_c_3 : Ref sig .tc := ⟨.hbm, 109, rfl⟩
abbrev main_call3_call0_v16 : Ref sig .tc := ⟨.hbm, 110, rfl⟩
abbrev main_call3_call0_v17 : Ref sig .tc := ⟨.hbm, 111, rfl⟩
abbrev main_call3_call0_v18 : Ref sig .tc := ⟨.hbm, 112, rfl⟩
abbrev main_call3_call0_v19 : Ref sig .tc := ⟨.hbm, 113, rfl⟩
abbrev main_call3_call0_v20 : Ref sig .tc := ⟨.hbm, 114, rfl⟩
abbrev main_call3_call0_c_4 : Ref sig .tc := ⟨.hbm, 115, rfl⟩
abbrev main_call3_call0_v21 : Ref sig .tc := ⟨.hbm, 116, rfl⟩
abbrev main_call3_call0_v22 : Ref sig .tc := ⟨.hbm, 117, rfl⟩
abbrev main_call3_call0_c_5 : Ref sig .tc := ⟨.hbm, 118, rfl⟩
abbrev main_call3_call0_v23 : Ref sig .tc := ⟨.hbm, 119, rfl⟩
abbrev main_call3_call0_v24 : Ref sig .tc := ⟨.hbm, 120, rfl⟩
abbrev main_call3_call0_v25 : Ref sig .tc := ⟨.hbm, 121, rfl⟩
abbrev main_call3_call0_v26 : Ref sig .tc := ⟨.hbm, 122, rfl⟩
abbrev main_call3_call0_v27 : Ref sig .tc := ⟨.hbm, 123, rfl⟩
abbrev main_call3_call0_c_6 : Ref sig .tc := ⟨.hbm, 124, rfl⟩
abbrev main_call3_call0_v28 : Ref sig .tc := ⟨.hbm, 125, rfl⟩
abbrev main_call3_call0_v29 : Ref sig .tc := ⟨.hbm, 126, rfl⟩
abbrev main_call3_call0_c_7 : Ref sig .tc := ⟨.hbm, 127, rfl⟩
abbrev main_call3_call0_v30 : Ref sig .tc := ⟨.hbm, 128, rfl⟩
abbrev main_call3_call0_v31 : Ref sig .tc := ⟨.hbm, 129, rfl⟩
abbrev main_call3_call0_v32 : Ref sig .tc := ⟨.hbm, 130, rfl⟩
abbrev main_call3_call0_v33 : Ref sig .tc := ⟨.hbm, 131, rfl⟩
abbrev main_call3_call0_v34 : Ref sig .tc := ⟨.hbm, 132, rfl⟩
abbrev main_call3_call0_v35 : Ref sig .tc := ⟨.hbm, 133, rfl⟩
abbrev main_call3_call0_v36 : Ref sig .tc := ⟨.hbm, 134, rfl⟩
abbrev main_call3_call0_v37 : Ref sig .tc := ⟨.hbm, 135, rfl⟩
abbrev main_call3_call0_c_8 : Ref sig .tc := ⟨.hbm, 136, rfl⟩
abbrev main_call3_call0_v38 : Ref sig .tc := ⟨.hbm, 137, rfl⟩
abbrev main_call3_call0_v39 : Ref sig .tc := ⟨.hbm, 138, rfl⟩
abbrev main_call3_call0_v40 : Ref sig .tc := ⟨.hbm, 139, rfl⟩
abbrev main_call3_call0_c_9 : Ref sig .tc := ⟨.hbm, 140, rfl⟩
abbrev main_call3_call0_v41 : Ref sig .tc := ⟨.hbm, 141, rfl⟩
abbrev main_call3_call0_v42 : Ref sig .tc := ⟨.hbm, 142, rfl⟩
abbrev main_call3_call0_c_10 : Ref sig .tc := ⟨.hbm, 143, rfl⟩
abbrev main_call3_call0_v43 : Ref sig .tc := ⟨.hbm, 144, rfl⟩
abbrev main_call3_call0_v44 : Ref sig .tc := ⟨.hbm, 145, rfl⟩
abbrev main_call3_call0_v45 : Ref sig .tc := ⟨.hbm, 146, rfl⟩
abbrev main_call3_call0_v46 : Ref sig .tc := ⟨.hbm, 147, rfl⟩
abbrev main_call3_call0_v47 : Ref sig .tc := ⟨.hbm, 148, rfl⟩
abbrev main_call3_call0_c_11 : Ref sig .tc := ⟨.hbm, 149, rfl⟩
abbrev main_call3_call0_v48 : Ref sig .tc := ⟨.hbm, 150, rfl⟩
abbrev main_call3_call0_v49 : Ref sig .tc := ⟨.hbm, 151, rfl⟩
abbrev main_call3_call0_c_12 : Ref sig .tc := ⟨.hbm, 152, rfl⟩
abbrev main_call3_call0_v50 : Ref sig .tc := ⟨.hbm, 153, rfl⟩
abbrev main_call3_call0_v51 : Ref sig .tc := ⟨.hbm, 154, rfl⟩
abbrev main_call3_call0_v52 : Ref sig .tc := ⟨.hbm, 155, rfl⟩
abbrev main_call3_call0_v53 : Ref sig .tc := ⟨.hbm, 156, rfl⟩
abbrev main_call3_call0_v54 : Ref sig .tc := ⟨.hbm, 157, rfl⟩
abbrev main_call3_call0_c_13 : Ref sig .tc := ⟨.hbm, 158, rfl⟩
abbrev main_call3_call0_v55 : Ref sig .tc := ⟨.hbm, 159, rfl⟩
abbrev main_call3_call0_v56 : Ref sig .tc := ⟨.hbm, 160, rfl⟩
abbrev main_call3_call0_c_14 : Ref sig .tc := ⟨.hbm, 161, rfl⟩
abbrev main_call3_call0_v57 : Ref sig .tc := ⟨.hbm, 162, rfl⟩
abbrev main_call3_call0_v58 : Ref sig .tc := ⟨.hbm, 163, rfl⟩
abbrev main_call3_call0_v59 : Ref sig .tc := ⟨.hbm, 164, rfl⟩
abbrev main_call3_call0_v60 : Ref sig .tc := ⟨.hbm, 165, rfl⟩
abbrev main_call3_call0_v61 : Ref sig .tc := ⟨.hbm, 166, rfl⟩
abbrev main_call3_call0_c_15 : Ref sig .tc := ⟨.hbm, 167, rfl⟩
abbrev main_call3_call0_v62 : Ref sig .tc := ⟨.hbm, 168, rfl⟩
abbrev main_call3_call0_v63 : Ref sig .tc := ⟨.hbm, 169, rfl⟩
abbrev main_call3_call0_c_16 : Ref sig .tc := ⟨.hbm, 170, rfl⟩
abbrev main_call3_call0_v64 : Ref sig .tc := ⟨.hbm, 171, rfl⟩
abbrev main_call3_call0_v65 : Ref sig .tc := ⟨.hbm, 172, rfl⟩
abbrev main_call3_call0_v66 : Ref sig .tc := ⟨.hbm, 173, rfl⟩
abbrev main_call3_call0_v67 : Ref sig .tc := ⟨.hbm, 174, rfl⟩
abbrev main_call3_call0_v68 : Ref sig .tc := ⟨.hbm, 175, rfl⟩
abbrev main_call3_call0_v69 : Ref sig .tc := ⟨.hbm, 176, rfl⟩
abbrev main_call3_call0_v70 : Ref sig .tc := ⟨.hbm, 177, rfl⟩
abbrev main_call3_call0_v71 : Ref sig .tc := ⟨.hbm, 178, rfl⟩
abbrev main_call3_call0_c_17 : Ref sig .tc := ⟨.hbm, 179, rfl⟩
abbrev main_call3_call0_v72 : Ref sig .tc := ⟨.hbm, 180, rfl⟩
abbrev main_call3_call0_v73 : Ref sig .tc := ⟨.hbm, 181, rfl⟩
abbrev main_call3_call0_v74 : Ref sig .tc := ⟨.hbm, 182, rfl⟩
abbrev main_call3_call0_c_18 : Ref sig .tc := ⟨.hbm, 183, rfl⟩
abbrev main_call3_call0_v75 : Ref sig .tc := ⟨.hbm, 184, rfl⟩
abbrev main_call3_call0_v76 : Ref sig .tc := ⟨.hbm, 185, rfl⟩
abbrev main_call3_call0_c_19 : Ref sig .tc := ⟨.hbm, 186, rfl⟩
abbrev main_call3_call0_v77 : Ref sig .tc := ⟨.hbm, 187, rfl⟩
abbrev main_call3_call0_v78 : Ref sig .tc := ⟨.hbm, 188, rfl⟩
abbrev main_call3_call0_v79 : Ref sig .tc := ⟨.hbm, 189, rfl⟩
abbrev main_call3_call0_v80 : Ref sig .tc := ⟨.hbm, 190, rfl⟩
abbrev main_call3_call0_v81 : Ref sig .tc := ⟨.hbm, 191, rfl⟩
abbrev main_call3_call0_c_20 : Ref sig .tc := ⟨.hbm, 192, rfl⟩
abbrev main_call3_call0_v82 : Ref sig .tc := ⟨.hbm, 193, rfl⟩
abbrev main_call3_call0_v83 : Ref sig .tc := ⟨.hbm, 194, rfl⟩
abbrev main_call3_call0_c_21 : Ref sig .tc := ⟨.hbm, 195, rfl⟩
abbrev main_call3_call0_v84 : Ref sig .tc := ⟨.hbm, 196, rfl⟩
abbrev main_call3_call0_v85 : Ref sig .tc := ⟨.hbm, 197, rfl⟩
abbrev main_call3_call0_v86 : Ref sig .tc := ⟨.hbm, 198, rfl⟩
abbrev main_call3_call0_v87 : Ref sig .tc := ⟨.hbm, 199, rfl⟩
abbrev main_call3_call0_v88 : Ref sig .tc := ⟨.hbm, 200, rfl⟩
abbrev main_call3_call0_c_22 : Ref sig .tc := ⟨.hbm, 201, rfl⟩
abbrev main_call3_call0_v89 : Ref sig .tc := ⟨.hbm, 202, rfl⟩
abbrev main_call3_call0_v90 : Ref sig .tc := ⟨.hbm, 203, rfl⟩
abbrev main_call3_call0_c_23 : Ref sig .tc := ⟨.hbm, 204, rfl⟩
abbrev main_call3_call0_v91 : Ref sig .tc := ⟨.hbm, 205, rfl⟩
abbrev main_call3_call0_v92 : Ref sig .tc := ⟨.hbm, 206, rfl⟩
abbrev main_call3_call0_v93 : Ref sig .tc := ⟨.hbm, 207, rfl⟩
abbrev main_call3_call0_v94 : Ref sig .tc := ⟨.hbm, 208, rfl⟩
abbrev main_call3_call0_v95 : Ref sig .tc := ⟨.hbm, 209, rfl⟩
abbrev main_call3_call0_c_24 : Ref sig .tc := ⟨.hbm, 210, rfl⟩
abbrev main_call3_call0_v96 : Ref sig .tc := ⟨.hbm, 211, rfl⟩
abbrev main_call3_call0_v97 : Ref sig .tc := ⟨.hbm, 212, rfl⟩
abbrev main_call3_call0_c_25 : Ref sig .tc := ⟨.hbm, 213, rfl⟩
abbrev main_call3_call0_v98 : Ref sig .tc := ⟨.hbm, 214, rfl⟩
abbrev main_call3_call0_v99 : Ref sig .tc := ⟨.hbm, 215, rfl⟩
abbrev main_call3_call0_v100 : Ref sig .tc := ⟨.hbm, 216, rfl⟩
abbrev main_call3_call0_v101 : Ref sig .tc := ⟨.hbm, 217, rfl⟩
abbrev main_call3_call0_v102 : Ref sig .tc := ⟨.hbm, 218, rfl⟩
abbrev main_call3_call0_v103 : Ref sig .tc := ⟨.hbm, 219, rfl⟩
abbrev main_call3_call0_v104 : Ref sig .tc := ⟨.hbm, 220, rfl⟩
abbrev main_call3_call0_v105 : Ref sig .tc := ⟨.hbm, 221, rfl⟩
abbrev main_call3_call0_c_26 : Ref sig .tc := ⟨.hbm, 222, rfl⟩
abbrev main_call3_call0_v106 : Ref sig .tc := ⟨.hbm, 223, rfl⟩
abbrev main_call3_call0_v107 : Ref sig .tc := ⟨.hbm, 224, rfl⟩
abbrev main_call3_call0_v108 : Ref sig .tc := ⟨.hbm, 225, rfl⟩
abbrev main_call3_call0_c_27 : Ref sig .tc := ⟨.hbm, 226, rfl⟩
abbrev main_call3_call0_v109 : Ref sig .tc := ⟨.hbm, 227, rfl⟩
abbrev main_call3_call0_v110 : Ref sig .tc := ⟨.hbm, 228, rfl⟩
abbrev main_call3_call0_c_28 : Ref sig .tc := ⟨.hbm, 229, rfl⟩
abbrev main_call3_call0_v111 : Ref sig .tc := ⟨.hbm, 230, rfl⟩
abbrev main_call3_call0_v112 : Ref sig .tc := ⟨.hbm, 231, rfl⟩
abbrev main_call3_call0_v113 : Ref sig .tc := ⟨.hbm, 232, rfl⟩
abbrev main_call3_call0_v114 : Ref sig .tc := ⟨.hbm, 233, rfl⟩
abbrev main_call3_call0_v115 : Ref sig .tc := ⟨.hbm, 234, rfl⟩
abbrev main_call3_call0_c_29 : Ref sig .tc := ⟨.hbm, 235, rfl⟩
abbrev main_call3_call0_v116 : Ref sig .tc := ⟨.hbm, 236, rfl⟩
abbrev main_call3_call0_v117 : Ref sig .tc := ⟨.hbm, 237, rfl⟩
abbrev main_call3_call0_c_30 : Ref sig .tc := ⟨.hbm, 238, rfl⟩
abbrev main_call3_call0_v118 : Ref sig .tc := ⟨.hbm, 239, rfl⟩
abbrev main_call3_call0_v119 : Ref sig .tc := ⟨.hbm, 240, rfl⟩
abbrev main_call3_call0_v120 : Ref sig .tc := ⟨.hbm, 241, rfl⟩
abbrev main_call3_call0_v121 : Ref sig .tc := ⟨.hbm, 242, rfl⟩
abbrev main_call3_call0_v122 : Ref sig .tc := ⟨.hbm, 243, rfl⟩
abbrev main_call3_call0_c_31 : Ref sig .tc := ⟨.hbm, 244, rfl⟩
abbrev main_call3_call0_v123 : Ref sig .tc := ⟨.hbm, 245, rfl⟩
abbrev main_call3_call0_v124 : Ref sig .tc := ⟨.hbm, 246, rfl⟩
abbrev main_call3_call0_c_32 : Ref sig .tc := ⟨.hbm, 247, rfl⟩
abbrev main_call3_call0_v125 : Ref sig .tc := ⟨.hbm, 248, rfl⟩
abbrev main_call3_call0_v126 : Ref sig .tc := ⟨.hbm, 249, rfl⟩
abbrev main_call3_call0_v127 : Ref sig .tc := ⟨.hbm, 250, rfl⟩
abbrev main_call3_call0_v128 : Ref sig .tc := ⟨.hbm, 251, rfl⟩
abbrev main_call3_call0_v129 : Ref sig .tc := ⟨.hbm, 252, rfl⟩
abbrev main_call3_call0_c_33 : Ref sig .tc := ⟨.hbm, 253, rfl⟩
abbrev main_call3_call0_v130 : Ref sig .tc := ⟨.hbm, 254, rfl⟩
abbrev main_call3_call0_v131 : Ref sig .tc := ⟨.hbm, 255, rfl⟩
abbrev main_call3_call0_c_34 : Ref sig .tc := ⟨.hbm, 256, rfl⟩
abbrev main_call3_call0_v132 : Ref sig .tc := ⟨.hbm, 257, rfl⟩
abbrev main_call3_call0_v133 : Ref sig .tc := ⟨.hbm, 258, rfl⟩
abbrev main_call3_call0_v134 : Ref sig .tc := ⟨.hbm, 259, rfl⟩
abbrev main_call3_call0_v135 : Ref sig .tc := ⟨.hbm, 260, rfl⟩
abbrev main_call3_call0_v136 : Ref sig .tc := ⟨.hbm, 261, rfl⟩
abbrev main_call3_call0_v137 : Ref sig .tc := ⟨.hbm, 262, rfl⟩
abbrev main_call3_call0_v138 : Ref sig .tc := ⟨.hbm, 263, rfl⟩
abbrev main_call3_call0_v139 : Ref sig .tc := ⟨.hbm, 264, rfl⟩
abbrev main_call3_call0_c_35 : Ref sig .tc := ⟨.hbm, 265, rfl⟩
abbrev main_call3_call0_v140 : Ref sig .tc := ⟨.hbm, 266, rfl⟩
abbrev main_call3_call0_v141 : Ref sig .tc := ⟨.hbm, 267, rfl⟩
abbrev main_call3_call0_v142 : Ref sig .tc := ⟨.hbm, 268, rfl⟩
abbrev main_call3_call0_c_36 : Ref sig .tc := ⟨.hbm, 269, rfl⟩
abbrev main_call3_call0_v143 : Ref sig .tc := ⟨.hbm, 270, rfl⟩
abbrev main_call3_call0_v144 : Ref sig .tc := ⟨.hbm, 271, rfl⟩
abbrev main_call3_call0_c_37 : Ref sig .tc := ⟨.hbm, 272, rfl⟩
abbrev main_call3_call0_v145 : Ref sig .tc := ⟨.hbm, 273, rfl⟩
abbrev main_call3_call0_v146 : Ref sig .tc := ⟨.hbm, 274, rfl⟩
abbrev main_call3_call0_v147 : Ref sig .tc := ⟨.hbm, 275, rfl⟩
abbrev main_call3_call0_v148 : Ref sig .tc := ⟨.hbm, 276, rfl⟩
abbrev main_call3_call0_v149 : Ref sig .tc := ⟨.hbm, 277, rfl⟩
abbrev main_call3_call0_c_38 : Ref sig .tc := ⟨.hbm, 278, rfl⟩
abbrev main_call3_call0_v150 : Ref sig .tc := ⟨.hbm, 279, rfl⟩
abbrev main_call3_call0_v151 : Ref sig .tc := ⟨.hbm, 280, rfl⟩
abbrev main_call3_call0_c_39 : Ref sig .tc := ⟨.hbm, 281, rfl⟩
abbrev main_call3_call0_v152 : Ref sig .tc := ⟨.hbm, 282, rfl⟩
abbrev main_call3_call0_v153 : Ref sig .tc := ⟨.hbm, 283, rfl⟩
abbrev main_call3_call0_v154 : Ref sig .tc := ⟨.hbm, 284, rfl⟩
abbrev main_call3_call0_v155 : Ref sig .tc := ⟨.hbm, 285, rfl⟩
abbrev main_call3_call0_v156 : Ref sig .tc := ⟨.hbm, 286, rfl⟩
abbrev main_call3_call0_c_40 : Ref sig .tc := ⟨.hbm, 287, rfl⟩
abbrev main_call3_call0_v157 : Ref sig .tc := ⟨.hbm, 288, rfl⟩
abbrev main_call3_call0_v158 : Ref sig .tc := ⟨.hbm, 289, rfl⟩
abbrev main_call3_call0_c_41 : Ref sig .tc := ⟨.hbm, 290, rfl⟩
abbrev main_call3_call0_v159 : Ref sig .tc := ⟨.hbm, 291, rfl⟩
abbrev main_call3_call0_v160 : Ref sig .tc := ⟨.hbm, 292, rfl⟩
abbrev main_call3_call0_v161 : Ref sig .tc := ⟨.hbm, 293, rfl⟩
abbrev main_call3_call0_v162 : Ref sig .tc := ⟨.hbm, 294, rfl⟩
abbrev main_call3_call0_v163 : Ref sig .tc := ⟨.hbm, 295, rfl⟩
abbrev main_call3_call0_c_42 : Ref sig .tc := ⟨.hbm, 296, rfl⟩
abbrev main_call3_call0_v164 : Ref sig .tc := ⟨.hbm, 297, rfl⟩
abbrev main_call3_call0_v165 : Ref sig .tc := ⟨.hbm, 298, rfl⟩
abbrev main_call3_call0_c_43 : Ref sig .tc := ⟨.hbm, 299, rfl⟩
abbrev main_call3_call0_v166 : Ref sig .tc := ⟨.hbm, 300, rfl⟩
abbrev main_call3_call0_v167 : Ref sig .tc := ⟨.hbm, 301, rfl⟩
abbrev main_call3_call0_v168 : Ref sig .tc := ⟨.hbm, 302, rfl⟩
abbrev main_call3_call0_v169 : Ref sig .tc := ⟨.hbm, 303, rfl⟩
abbrev main_call3_call0_v170 : Ref sig .tc := ⟨.hbm, 304, rfl⟩
abbrev main_call3_v13_0 : Ref sig .tc := ⟨.hbm, 305, rfl⟩
abbrev main_call3_call0_v172 : Ref sig .tc := ⟨.hbm, 306, rfl⟩
abbrev main_call3_call0_v173 : Ref sig .tc := ⟨.hbm, 307, rfl⟩
abbrev main_call3_call0_c_44 : Ref sig .tc := ⟨.hbm, 308, rfl⟩
abbrev main_call3_call0_v174 : Ref sig .tc := ⟨.hbm, 309, rfl⟩
abbrev main_call3_v13_1 : Ref sig .tc := ⟨.hbm, 310, rfl⟩
abbrev main_v30 : Ref sig .tc := ⟨.hbm, 311, rfl⟩
abbrev main_cst_6 : Ref sig .tc := ⟨.hbm, 312, rfl⟩
abbrev main_cst_7 : Ref sig .tc := ⟨.hbm, 313, rfl⟩
abbrev main_call4_v0 : Ref sig .tc := ⟨.hbm, 314, rfl⟩
abbrev main_call4_v1 : Ref sig .tc := ⟨.hbm, 315, rfl⟩
abbrev main_call4_v2 : Ref sig .tc := ⟨.hbm, 316, rfl⟩
abbrev main_call4_v3 : Ref sig .tc := ⟨.hbm, 317, rfl⟩
abbrev main_call4_v4 : Ref sig .tc := ⟨.hbm, 318, rfl⟩
abbrev main_call4_v5 : Ref sig .tc := ⟨.hbm, 319, rfl⟩
abbrev main_call4_v6 : Ref sig .tc := ⟨.hbm, 320, rfl⟩
abbrev main_call4_v7 : Ref sig .tc := ⟨.hbm, 321, rfl⟩
abbrev main_call4_v8 : Ref sig .tc := ⟨.hbm, 322, rfl⟩
abbrev main_call4_c : Ref sig .tc := ⟨.hbm, 323, rfl⟩
abbrev main_call4_v9 : Ref sig .tc := ⟨.hbm, 324, rfl⟩
abbrev main_call4_v10 : Ref sig .tc := ⟨.hbm, 325, rfl⟩
abbrev main_call4_c_0 : Ref sig .tc := ⟨.hbm, 326, rfl⟩
abbrev main_call4_v11 : Ref sig .tc := ⟨.hbm, 327, rfl⟩
abbrev main_call4_v12 : Ref sig .tc := ⟨.hbm, 328, rfl⟩
abbrev main_call4_v13 : Ref sig .tc := ⟨.hbm, 329, rfl⟩
abbrev main_call4_v14 : Ref sig .tc := ⟨.hbm, 330, rfl⟩
abbrev main_call4_v15 : Ref sig .tc := ⟨.hbm, 331, rfl⟩
abbrev main_call4_v16 : Ref sig .tc := ⟨.hbm, 332, rfl⟩
abbrev main_call4_v17 : Ref sig .tc := ⟨.hbm, 333, rfl⟩
abbrev main_call4_v18 : Ref sig .tc := ⟨.hbm, 334, rfl⟩
abbrev main_call4_call0_v0 : Ref sig .tc := ⟨.hbm, 335, rfl⟩
abbrev main_call4_call0_c : Ref sig .tc := ⟨.hbm, 336, rfl⟩
abbrev main_call4_call0_v1 : Ref sig .tc := ⟨.hbm, 337, rfl⟩
abbrev main_call4_call0_v2 : Ref sig .tc := ⟨.hbm, 338, rfl⟩
abbrev main_call4_call0_v3 : Ref sig .tc := ⟨.hbm, 339, rfl⟩
abbrev main_call4_call0_v4 : Ref sig .tc := ⟨.hbm, 340, rfl⟩
abbrev main_call4_call0_v5 : Ref sig .tc := ⟨.hbm, 341, rfl⟩
abbrev main_call4_call0_v6 : Ref sig .tc := ⟨.hbm, 342, rfl⟩
abbrev main_call4_call0_v7 : Ref sig .tc := ⟨.hbm, 343, rfl⟩
abbrev main_call4_call0_v8 : Ref sig .tc := ⟨.hbm, 344, rfl⟩
abbrev main_call4_call0_v9 : Ref sig .tc := ⟨.hbm, 345, rfl⟩
abbrev main_call4_call0_c_0 : Ref sig .tc := ⟨.hbm, 346, rfl⟩
abbrev main_call4_call0_v10 : Ref sig .tc := ⟨.hbm, 347, rfl⟩
abbrev main_call4_call0_v11 : Ref sig .tc := ⟨.hbm, 348, rfl⟩
abbrev main_call4_call0_c_1 : Ref sig .tc := ⟨.hbm, 349, rfl⟩
abbrev main_call4_call0_v12 : Ref sig .tc := ⟨.hbm, 350, rfl⟩
abbrev main_call4_call0_v13 : Ref sig .tc := ⟨.hbm, 351, rfl⟩
abbrev main_call4_call0_v14 : Ref sig .tc := ⟨.hbm, 352, rfl⟩
abbrev main_call4_call0_v15 : Ref sig .tc := ⟨.hbm, 353, rfl⟩
abbrev main_call4_call0_v16 : Ref sig .tc := ⟨.hbm, 354, rfl⟩
abbrev main_call4_call0_c_2 : Ref sig .tc := ⟨.hbm, 355, rfl⟩
abbrev main_call4_call0_v17 : Ref sig .tc := ⟨.hbm, 356, rfl⟩
abbrev main_call4_call0_v18 : Ref sig .tc := ⟨.hbm, 357, rfl⟩
abbrev main_call4_call0_c_3 : Ref sig .tc := ⟨.hbm, 358, rfl⟩
abbrev main_call4_call0_v19 : Ref sig .tc := ⟨.hbm, 359, rfl⟩
abbrev main_call4_call0_v20 : Ref sig .tc := ⟨.hbm, 360, rfl⟩
abbrev main_call4_call0_v21 : Ref sig .tc := ⟨.hbm, 361, rfl⟩
abbrev main_call4_call0_v22 : Ref sig .tc := ⟨.hbm, 362, rfl⟩
abbrev main_call4_call0_v23 : Ref sig .tc := ⟨.hbm, 363, rfl⟩
abbrev main_call4_call0_c_4 : Ref sig .tc := ⟨.hbm, 364, rfl⟩
abbrev main_call4_call0_v24 : Ref sig .tc := ⟨.hbm, 365, rfl⟩
abbrev main_call4_call0_v25 : Ref sig .tc := ⟨.hbm, 366, rfl⟩
abbrev main_call4_call0_c_5 : Ref sig .tc := ⟨.hbm, 367, rfl⟩
abbrev main_call4_call0_v26 : Ref sig .tc := ⟨.hbm, 368, rfl⟩
abbrev main_call4_call0_v27 : Ref sig .tc := ⟨.hbm, 369, rfl⟩
abbrev main_call4_call0_v28 : Ref sig .tc := ⟨.hbm, 370, rfl⟩
abbrev main_call4_call0_v29 : Ref sig .tc := ⟨.hbm, 371, rfl⟩
abbrev main_call4_call0_v30 : Ref sig .tc := ⟨.hbm, 372, rfl⟩
abbrev main_call4_call0_c_6 : Ref sig .tc := ⟨.hbm, 373, rfl⟩
abbrev main_call4_call0_v31 : Ref sig .tc := ⟨.hbm, 374, rfl⟩
abbrev main_call4_call0_v32 : Ref sig .tc := ⟨.hbm, 375, rfl⟩
abbrev main_call4_call0_c_7 : Ref sig .tc := ⟨.hbm, 376, rfl⟩
abbrev main_call4_call0_v33 : Ref sig .tc := ⟨.hbm, 377, rfl⟩
abbrev main_call4_call0_v34 : Ref sig .tc := ⟨.hbm, 378, rfl⟩
abbrev main_call4_call0_v35 : Ref sig .tc := ⟨.hbm, 379, rfl⟩
abbrev main_call4_call0_v36 : Ref sig .tc := ⟨.hbm, 380, rfl⟩
abbrev main_call4_call0_v37 : Ref sig .tc := ⟨.hbm, 381, rfl⟩
abbrev main_call4_call0_v38 : Ref sig .tc := ⟨.hbm, 382, rfl⟩
abbrev main_call4_call0_v39 : Ref sig .tc := ⟨.hbm, 383, rfl⟩
abbrev main_call4_call0_v40 : Ref sig .tc := ⟨.hbm, 384, rfl⟩
abbrev main_call4_call0_c_8 : Ref sig .tc := ⟨.hbm, 385, rfl⟩
abbrev main_call4_call0_v41 : Ref sig .tc := ⟨.hbm, 386, rfl⟩
abbrev main_call4_call0_v42 : Ref sig .tc := ⟨.hbm, 387, rfl⟩
abbrev main_call4_call0_v43 : Ref sig .tc := ⟨.hbm, 388, rfl⟩
abbrev main_call4_call0_c_9 : Ref sig .tc := ⟨.hbm, 389, rfl⟩
abbrev main_call4_call0_v44 : Ref sig .tc := ⟨.hbm, 390, rfl⟩
abbrev main_call4_call0_v45 : Ref sig .tc := ⟨.hbm, 391, rfl⟩
abbrev main_call4_call0_c_10 : Ref sig .tc := ⟨.hbm, 392, rfl⟩
abbrev main_call4_call0_v46 : Ref sig .tc := ⟨.hbm, 393, rfl⟩
abbrev main_call4_call0_v47 : Ref sig .tc := ⟨.hbm, 394, rfl⟩
abbrev main_call4_call0_v48 : Ref sig .tc := ⟨.hbm, 395, rfl⟩
abbrev main_call4_call0_v49 : Ref sig .tc := ⟨.hbm, 396, rfl⟩
abbrev main_call4_call0_v50 : Ref sig .tc := ⟨.hbm, 397, rfl⟩
abbrev main_call4_call0_c_11 : Ref sig .tc := ⟨.hbm, 398, rfl⟩
abbrev main_call4_call0_v51 : Ref sig .tc := ⟨.hbm, 399, rfl⟩
abbrev main_call4_call0_v52 : Ref sig .tc := ⟨.hbm, 400, rfl⟩
abbrev main_call4_call0_c_12 : Ref sig .tc := ⟨.hbm, 401, rfl⟩
abbrev main_call4_call0_v53 : Ref sig .tc := ⟨.hbm, 402, rfl⟩
abbrev main_call4_call0_v54 : Ref sig .tc := ⟨.hbm, 403, rfl⟩
abbrev main_call4_call0_v55 : Ref sig .tc := ⟨.hbm, 404, rfl⟩
abbrev main_call4_call0_v56 : Ref sig .tc := ⟨.hbm, 405, rfl⟩
abbrev main_call4_call0_v57 : Ref sig .tc := ⟨.hbm, 406, rfl⟩
abbrev main_call4_call0_c_13 : Ref sig .tc := ⟨.hbm, 407, rfl⟩
abbrev main_call4_call0_v58 : Ref sig .tc := ⟨.hbm, 408, rfl⟩
abbrev main_call4_call0_v59 : Ref sig .tc := ⟨.hbm, 409, rfl⟩
abbrev main_call4_call0_c_14 : Ref sig .tc := ⟨.hbm, 410, rfl⟩
abbrev main_call4_call0_v60 : Ref sig .tc := ⟨.hbm, 411, rfl⟩
abbrev main_call4_call0_v61 : Ref sig .tc := ⟨.hbm, 412, rfl⟩
abbrev main_call4_call0_v62 : Ref sig .tc := ⟨.hbm, 413, rfl⟩
abbrev main_call4_call0_v63 : Ref sig .tc := ⟨.hbm, 414, rfl⟩
abbrev main_call4_call0_v64 : Ref sig .tc := ⟨.hbm, 415, rfl⟩
abbrev main_call4_call0_c_15 : Ref sig .tc := ⟨.hbm, 416, rfl⟩
abbrev main_call4_call0_v65 : Ref sig .tc := ⟨.hbm, 417, rfl⟩
abbrev main_call4_call0_v66 : Ref sig .tc := ⟨.hbm, 418, rfl⟩
abbrev main_call4_call0_c_16 : Ref sig .tc := ⟨.hbm, 419, rfl⟩
abbrev main_call4_call0_v67 : Ref sig .tc := ⟨.hbm, 420, rfl⟩
abbrev main_call4_call0_v68 : Ref sig .tc := ⟨.hbm, 421, rfl⟩
abbrev main_call4_call0_v69 : Ref sig .tc := ⟨.hbm, 422, rfl⟩
abbrev main_call4_call0_v70 : Ref sig .tc := ⟨.hbm, 423, rfl⟩
abbrev main_call4_call0_v71 : Ref sig .tc := ⟨.hbm, 424, rfl⟩
abbrev main_call4_call0_v72 : Ref sig .tc := ⟨.hbm, 425, rfl⟩
abbrev main_call4_call0_v73 : Ref sig .tc := ⟨.hbm, 426, rfl⟩
abbrev main_call4_call0_v74 : Ref sig .tc := ⟨.hbm, 427, rfl⟩
abbrev main_call4_call0_c_17 : Ref sig .tc := ⟨.hbm, 428, rfl⟩
abbrev main_call4_call0_v75 : Ref sig .tc := ⟨.hbm, 429, rfl⟩
abbrev main_call4_call0_v76 : Ref sig .tc := ⟨.hbm, 430, rfl⟩
abbrev main_call4_call0_v77 : Ref sig .tc := ⟨.hbm, 431, rfl⟩
abbrev main_call4_call0_c_18 : Ref sig .tc := ⟨.hbm, 432, rfl⟩
abbrev main_call4_call0_v78 : Ref sig .tc := ⟨.hbm, 433, rfl⟩
abbrev main_call4_call0_v79 : Ref sig .tc := ⟨.hbm, 434, rfl⟩
abbrev main_call4_call0_c_19 : Ref sig .tc := ⟨.hbm, 435, rfl⟩
abbrev main_call4_call0_v80 : Ref sig .tc := ⟨.hbm, 436, rfl⟩
abbrev main_call4_call0_v81 : Ref sig .tc := ⟨.hbm, 437, rfl⟩
abbrev main_call4_call0_v82 : Ref sig .tc := ⟨.hbm, 438, rfl⟩
abbrev main_call4_call0_v83 : Ref sig .tc := ⟨.hbm, 439, rfl⟩
abbrev main_call4_call0_v84 : Ref sig .tc := ⟨.hbm, 440, rfl⟩
abbrev main_call4_call0_c_20 : Ref sig .tc := ⟨.hbm, 441, rfl⟩
abbrev main_call4_call0_v85 : Ref sig .tc := ⟨.hbm, 442, rfl⟩
abbrev main_call4_call0_v86 : Ref sig .tc := ⟨.hbm, 443, rfl⟩
abbrev main_call4_call0_c_21 : Ref sig .tc := ⟨.hbm, 444, rfl⟩
abbrev main_call4_call0_v87 : Ref sig .tc := ⟨.hbm, 445, rfl⟩
abbrev main_call4_call0_v88 : Ref sig .tc := ⟨.hbm, 446, rfl⟩
abbrev main_call4_call0_v89 : Ref sig .tc := ⟨.hbm, 447, rfl⟩
abbrev main_call4_call0_v90 : Ref sig .tc := ⟨.hbm, 448, rfl⟩
abbrev main_call4_call0_v91 : Ref sig .tc := ⟨.hbm, 449, rfl⟩
abbrev main_call4_call0_c_22 : Ref sig .tc := ⟨.hbm, 450, rfl⟩
abbrev main_call4_call0_v92 : Ref sig .tc := ⟨.hbm, 451, rfl⟩
abbrev main_call4_call0_v93 : Ref sig .tc := ⟨.hbm, 452, rfl⟩
abbrev main_call4_call0_c_23 : Ref sig .tc := ⟨.hbm, 453, rfl⟩
abbrev main_call4_call0_v94 : Ref sig .tc := ⟨.hbm, 454, rfl⟩
abbrev main_call4_call0_v95 : Ref sig .tc := ⟨.hbm, 455, rfl⟩
abbrev main_call4_call0_v96 : Ref sig .tc := ⟨.hbm, 456, rfl⟩
abbrev main_call4_call0_v97 : Ref sig .tc := ⟨.hbm, 457, rfl⟩
abbrev main_call4_call0_v98 : Ref sig .tc := ⟨.hbm, 458, rfl⟩
abbrev main_call4_call0_c_24 : Ref sig .tc := ⟨.hbm, 459, rfl⟩
abbrev main_call4_call0_v99 : Ref sig .tc := ⟨.hbm, 460, rfl⟩
abbrev main_call4_call0_v100 : Ref sig .tc := ⟨.hbm, 461, rfl⟩
abbrev main_call4_call0_c_25 : Ref sig .tc := ⟨.hbm, 462, rfl⟩
abbrev main_call4_call0_v101 : Ref sig .tc := ⟨.hbm, 463, rfl⟩
abbrev main_call4_call0_v102 : Ref sig .tc := ⟨.hbm, 464, rfl⟩
abbrev main_call4_call0_v103 : Ref sig .tc := ⟨.hbm, 465, rfl⟩
abbrev main_call4_call0_v104 : Ref sig .tc := ⟨.hbm, 466, rfl⟩
abbrev main_call4_call0_v105 : Ref sig .tc := ⟨.hbm, 467, rfl⟩
abbrev main_call4_call0_v106 : Ref sig .tc := ⟨.hbm, 468, rfl⟩
abbrev main_call4_call0_v107 : Ref sig .tc := ⟨.hbm, 469, rfl⟩
abbrev main_call4_call0_v108 : Ref sig .tc := ⟨.hbm, 470, rfl⟩
abbrev main_call4_call0_c_26 : Ref sig .tc := ⟨.hbm, 471, rfl⟩
abbrev main_call4_call0_v109 : Ref sig .tc := ⟨.hbm, 472, rfl⟩
abbrev main_call4_call0_v110 : Ref sig .tc := ⟨.hbm, 473, rfl⟩
abbrev main_call4_call0_v111 : Ref sig .tc := ⟨.hbm, 474, rfl⟩
abbrev main_call4_call0_c_27 : Ref sig .tc := ⟨.hbm, 475, rfl⟩
abbrev main_call4_call0_v112 : Ref sig .tc := ⟨.hbm, 476, rfl⟩
abbrev main_call4_call0_v113 : Ref sig .tc := ⟨.hbm, 477, rfl⟩
abbrev main_call4_call0_c_28 : Ref sig .tc := ⟨.hbm, 478, rfl⟩
abbrev main_call4_call0_v114 : Ref sig .tc := ⟨.hbm, 479, rfl⟩
abbrev main_call4_call0_v115 : Ref sig .tc := ⟨.hbm, 480, rfl⟩
abbrev main_call4_call0_v116 : Ref sig .tc := ⟨.hbm, 481, rfl⟩
abbrev main_call4_call0_v117 : Ref sig .tc := ⟨.hbm, 482, rfl⟩
abbrev main_call4_call0_v118 : Ref sig .tc := ⟨.hbm, 483, rfl⟩
abbrev main_call4_call0_c_29 : Ref sig .tc := ⟨.hbm, 484, rfl⟩
abbrev main_call4_call0_v119 : Ref sig .tc := ⟨.hbm, 485, rfl⟩
abbrev main_call4_call0_v120 : Ref sig .tc := ⟨.hbm, 486, rfl⟩
abbrev main_call4_call0_c_30 : Ref sig .tc := ⟨.hbm, 487, rfl⟩
abbrev main_call4_call0_v121 : Ref sig .tc := ⟨.hbm, 488, rfl⟩
abbrev main_call4_call0_v122 : Ref sig .tc := ⟨.hbm, 489, rfl⟩
abbrev main_call4_call0_v123 : Ref sig .tc := ⟨.hbm, 490, rfl⟩
abbrev main_call4_call0_v124 : Ref sig .tc := ⟨.hbm, 491, rfl⟩
abbrev main_call4_call0_v125 : Ref sig .tc := ⟨.hbm, 492, rfl⟩
abbrev main_call4_call0_c_31 : Ref sig .tc := ⟨.hbm, 493, rfl⟩
abbrev main_call4_call0_v126 : Ref sig .tc := ⟨.hbm, 494, rfl⟩
abbrev main_call4_call0_v127 : Ref sig .tc := ⟨.hbm, 495, rfl⟩
abbrev main_call4_call0_c_32 : Ref sig .tc := ⟨.hbm, 496, rfl⟩
abbrev main_call4_call0_v128 : Ref sig .tc := ⟨.hbm, 497, rfl⟩
abbrev main_call4_call0_v129 : Ref sig .tc := ⟨.hbm, 498, rfl⟩
abbrev main_call4_call0_v130 : Ref sig .tc := ⟨.hbm, 499, rfl⟩
abbrev main_call4_call0_v131 : Ref sig .tc := ⟨.hbm, 500, rfl⟩
abbrev main_call4_call0_v132 : Ref sig .tc := ⟨.hbm, 501, rfl⟩
abbrev main_call4_call0_c_33 : Ref sig .tc := ⟨.hbm, 502, rfl⟩
abbrev main_call4_call0_v133 : Ref sig .tc := ⟨.hbm, 503, rfl⟩
abbrev main_call4_call0_v134 : Ref sig .tc := ⟨.hbm, 504, rfl⟩
abbrev main_call4_call0_c_34 : Ref sig .tc := ⟨.hbm, 505, rfl⟩
abbrev main_call4_call0_v135 : Ref sig .tc := ⟨.hbm, 506, rfl⟩
abbrev main_call4_call0_v136 : Ref sig .tc := ⟨.hbm, 507, rfl⟩
abbrev main_call4_call0_v137 : Ref sig .tc := ⟨.hbm, 508, rfl⟩
abbrev main_call4_call0_v138 : Ref sig .tc := ⟨.hbm, 509, rfl⟩
abbrev main_call4_call0_v139 : Ref sig .tc := ⟨.hbm, 510, rfl⟩
abbrev main_call4_call0_v140 : Ref sig .tc := ⟨.hbm, 511, rfl⟩
abbrev main_call4_call0_v141 : Ref sig .tc := ⟨.hbm, 512, rfl⟩
abbrev main_call4_call0_v142 : Ref sig .tc := ⟨.hbm, 513, rfl⟩
abbrev main_call4_call0_c_35 : Ref sig .tc := ⟨.hbm, 514, rfl⟩
abbrev main_call4_call0_v143 : Ref sig .tc := ⟨.hbm, 515, rfl⟩
abbrev main_call4_call0_v144 : Ref sig .tc := ⟨.hbm, 516, rfl⟩
abbrev main_call4_call0_v145 : Ref sig .tc := ⟨.hbm, 517, rfl⟩
abbrev main_call4_call0_c_36 : Ref sig .tc := ⟨.hbm, 518, rfl⟩
abbrev main_call4_call0_v146 : Ref sig .tc := ⟨.hbm, 519, rfl⟩
abbrev main_call4_call0_v147 : Ref sig .tc := ⟨.hbm, 520, rfl⟩
abbrev main_call4_call0_c_37 : Ref sig .tc := ⟨.hbm, 521, rfl⟩
abbrev main_call4_call0_v148 : Ref sig .tc := ⟨.hbm, 522, rfl⟩
abbrev main_call4_call0_v149 : Ref sig .tc := ⟨.hbm, 523, rfl⟩
abbrev main_call4_call0_v150 : Ref sig .tc := ⟨.hbm, 524, rfl⟩
abbrev main_call4_call0_v151 : Ref sig .tc := ⟨.hbm, 525, rfl⟩
abbrev main_call4_call0_v152 : Ref sig .tc := ⟨.hbm, 526, rfl⟩
abbrev main_call4_call0_c_38 : Ref sig .tc := ⟨.hbm, 527, rfl⟩
abbrev main_call4_call0_v153 : Ref sig .tc := ⟨.hbm, 528, rfl⟩
abbrev main_call4_call0_v154 : Ref sig .tc := ⟨.hbm, 529, rfl⟩
abbrev main_call4_call0_c_39 : Ref sig .tc := ⟨.hbm, 530, rfl⟩
abbrev main_call4_call0_v155 : Ref sig .tc := ⟨.hbm, 531, rfl⟩
abbrev main_call4_call0_v156 : Ref sig .tc := ⟨.hbm, 532, rfl⟩
abbrev main_call4_call0_v157 : Ref sig .tc := ⟨.hbm, 533, rfl⟩
abbrev main_call4_call0_v158 : Ref sig .tc := ⟨.hbm, 534, rfl⟩
abbrev main_call4_call0_v159 : Ref sig .tc := ⟨.hbm, 535, rfl⟩
abbrev main_call4_call0_c_40 : Ref sig .tc := ⟨.hbm, 536, rfl⟩
abbrev main_call4_call0_v160 : Ref sig .tc := ⟨.hbm, 537, rfl⟩
abbrev main_call4_call0_v161 : Ref sig .tc := ⟨.hbm, 538, rfl⟩
abbrev main_call4_call0_c_41 : Ref sig .tc := ⟨.hbm, 539, rfl⟩
abbrev main_call4_call0_v162 : Ref sig .tc := ⟨.hbm, 540, rfl⟩
abbrev main_call4_call0_v163 : Ref sig .tc := ⟨.hbm, 541, rfl⟩
abbrev main_call4_call0_v164 : Ref sig .tc := ⟨.hbm, 542, rfl⟩
abbrev main_call4_call0_v165 : Ref sig .tc := ⟨.hbm, 543, rfl⟩
abbrev main_call4_call0_v166 : Ref sig .tc := ⟨.hbm, 544, rfl⟩
abbrev main_call4_call0_c_42 : Ref sig .tc := ⟨.hbm, 545, rfl⟩
abbrev main_call4_call0_v167 : Ref sig .tc := ⟨.hbm, 546, rfl⟩
abbrev main_call4_call0_v168 : Ref sig .tc := ⟨.hbm, 547, rfl⟩
abbrev main_call4_call0_c_43 : Ref sig .tc := ⟨.hbm, 548, rfl⟩
abbrev main_call4_call0_v169 : Ref sig .tc := ⟨.hbm, 549, rfl⟩
abbrev main_call4_call0_v170 : Ref sig .tc := ⟨.hbm, 550, rfl⟩
abbrev main_call4_call0_v171 : Ref sig .tc := ⟨.hbm, 551, rfl⟩
abbrev main_call4_call0_v172 : Ref sig .tc := ⟨.hbm, 552, rfl⟩
abbrev main_call4_call0_v173 : Ref sig .tc := ⟨.hbm, 553, rfl⟩
abbrev main_call4_v19_0 : Ref sig .tc := ⟨.hbm, 554, rfl⟩
abbrev main_call4_call0_v175 : Ref sig .tc := ⟨.hbm, 555, rfl⟩
abbrev main_call4_call0_v176 : Ref sig .tc := ⟨.hbm, 556, rfl⟩
abbrev main_call4_call0_c_44 : Ref sig .tc := ⟨.hbm, 557, rfl⟩
abbrev main_call4_call0_v177 : Ref sig .tc := ⟨.hbm, 558, rfl⟩
abbrev main_call4_v19_1 : Ref sig .tc := ⟨.hbm, 559, rfl⟩
abbrev main_call4_v20 : Ref sig .tc := ⟨.hbm, 560, rfl⟩
abbrev main_call4_c_1 : Ref sig .tc := ⟨.hbm, 561, rfl⟩
abbrev main_call4_v21 : Ref sig .tc := ⟨.hbm, 562, rfl⟩
abbrev main_call4_v22 : Ref sig .tc := ⟨.hbm, 563, rfl⟩
abbrev main_call4_c_2 : Ref sig .tc := ⟨.hbm, 564, rfl⟩
abbrev main_call4_v23 : Ref sig .tc := ⟨.hbm, 565, rfl⟩
abbrev main_call4_v24 : Ref sig .tc := ⟨.hbm, 566, rfl⟩
abbrev main_call4_v25 : Ref sig .tc := ⟨.hbm, 567, rfl⟩
abbrev main_call4_cst : Ref sig .tc := ⟨.hbm, 568, rfl⟩
abbrev main_call4_v26 : Ref sig .tc := ⟨.hbm, 569, rfl⟩
abbrev main_call4_v27 : Ref sig .tc := ⟨.hbm, 570, rfl⟩
abbrev main_call4_v28 : Ref sig .tc := ⟨.hbm, 571, rfl⟩
abbrev main_call4_v29 : Ref sig .tc := ⟨.hbm, 572, rfl⟩
abbrev main_call4_v30 : Ref sig .tc := ⟨.hbm, 573, rfl⟩
abbrev main_call4_v31 : Ref sig .tc := ⟨.hbm, 574, rfl⟩
abbrev main_call4_v32 : Ref sig .tc := ⟨.hbm, 575, rfl⟩
abbrev main_call4_v33 : Ref sig .tc := ⟨.hbm, 576, rfl⟩
abbrev main_call4_v34 : Ref sig .tc := ⟨.hbm, 577, rfl⟩
abbrev main_call4_v35 : Ref sig .tc := ⟨.hbm, 578, rfl⟩
abbrev main_call4_v36 : Ref sig .tc := ⟨.hbm, 579, rfl⟩
abbrev main_v31 : Ref sig .tc := ⟨.hbm, 580, rfl⟩
abbrev main_cst_8 : Ref sig .tc := ⟨.hbm, 581, rfl⟩
abbrev main_v32 : Ref sig .tc := ⟨.hbm, 582, rfl⟩
abbrev main_v33 : Ref sig .tc := ⟨.hbm, 583, rfl⟩
abbrev main_v34 : Ref sig .tc := ⟨.hbm, 584, rfl⟩
abbrev main_v35 : Ref sig .tc := ⟨.hbm, 585, rfl⟩
abbrev main_cst_9 : Ref sig .tc := ⟨.hbm, 586, rfl⟩
abbrev main_v36 : Ref sig .tc := ⟨.hbm, 587, rfl⟩
abbrev main_v37 : Ref sig .tc := ⟨.hbm, 588, rfl⟩
abbrev main_v38 : Ref sig .tc := ⟨.hbm, 589, rfl⟩
abbrev main_v39 : Ref sig .tc := ⟨.hbm, 590, rfl⟩
abbrev main_v40 : Ref sig .tc := ⟨.hbm, 591, rfl⟩
abbrev main_v41 : Ref sig .tc := ⟨.hbm, 592, rfl⟩
abbrev main_v42_0 : Ref sig .tc := ⟨.hbm, 593, rfl⟩
abbrev main_v42_1 : Ref sig .tc := ⟨.hbm, 594, rfl⟩
abbrev main_v43 : Ref sig .tc := ⟨.hbm, 595, rfl⟩
abbrev main_v44 : Ref sig .tc := ⟨.hbm, 596, rfl⟩
abbrev main_v45 : Ref sig .tc := ⟨.hbm, 597, rfl⟩
abbrev main_v46 : Ref sig .tc := ⟨.hbm, 598, rfl⟩
abbrev main_cst_10 : Ref sig .tc := ⟨.hbm, 599, rfl⟩
abbrev main_v47 : Ref sig .tc := ⟨.hbm, 600, rfl⟩
abbrev main_c_11 : Ref sig .tc := ⟨.hbm, 601, rfl⟩
abbrev main_v48 : Ref sig .tc := ⟨.hbm, 602, rfl⟩
abbrev main_v49 : Ref sig .tc := ⟨.hbm, 603, rfl⟩
abbrev main_c_12 : Ref sig .tc := ⟨.hbm, 604, rfl⟩
abbrev main_v50 : Ref sig .tc := ⟨.hbm, 605, rfl⟩
abbrev main_v51 : Ref sig .tc := ⟨.hbm, 606, rfl⟩
abbrev main_v52 : Ref sig .tc := ⟨.hbm, 607, rfl⟩
abbrev main_c_13 : Ref sig .tc := ⟨.hbm, 608, rfl⟩
abbrev main_v53 : Ref sig .tc := ⟨.hbm, 609, rfl⟩
abbrev main_v54 : Ref sig .tc := ⟨.hbm, 610, rfl⟩
abbrev main_c_14 : Ref sig .tc := ⟨.hbm, 611, rfl⟩
abbrev main_v55 : Ref sig .tc := ⟨.hbm, 612, rfl⟩
abbrev main_v56 : Ref sig .tc := ⟨.hbm, 613, rfl⟩
abbrev main_v57 : Ref sig .tc := ⟨.hbm, 614, rfl⟩
abbrev main_v58 : Ref sig .tc := ⟨.hbm, 615, rfl⟩
abbrev main_v59 : Ref sig .tc := ⟨.hbm, 616, rfl⟩
abbrev main_v60 : Ref sig .tc := ⟨.hbm, 617, rfl⟩
abbrev main_v61 : Ref sig .tc := ⟨.hbm, 618, rfl⟩
abbrev main_cst_15 : Ref sig .tc := ⟨.hbm, 619, rfl⟩
abbrev main_v62 : Ref sig .tc := ⟨.hbm, 620, rfl⟩
abbrev main_v63 : Ref sig .tc := ⟨.hbm, 621, rfl⟩
abbrev main_c_16 : Ref sig .tc := ⟨.hbm, 622, rfl⟩
abbrev main_v64 : Ref sig .tc := ⟨.hbm, 623, rfl⟩
abbrev main_v65 : Ref sig .tc := ⟨.hbm, 624, rfl⟩
abbrev main_c_17 : Ref sig .tc := ⟨.hbm, 625, rfl⟩
abbrev main_v66 : Ref sig .tc := ⟨.hbm, 626, rfl⟩
abbrev main_v67 : Ref sig .tc := ⟨.hbm, 627, rfl⟩
abbrev main_v68 : Ref sig .tc := ⟨.hbm, 628, rfl⟩
abbrev main_c_18 : Ref sig .tc := ⟨.hbm, 629, rfl⟩
abbrev main_v69 : Ref sig .tc := ⟨.hbm, 630, rfl⟩
abbrev main_v70 : Ref sig .tc := ⟨.hbm, 631, rfl⟩
abbrev main_c_19 : Ref sig .tc := ⟨.hbm, 632, rfl⟩
abbrev main_v71 : Ref sig .tc := ⟨.hbm, 633, rfl⟩
abbrev main_v72 : Ref sig .tc := ⟨.hbm, 634, rfl⟩
abbrev main_v73 : Ref sig .tc := ⟨.hbm, 635, rfl⟩
abbrev main_v74 : Ref sig .tc := ⟨.hbm, 636, rfl⟩
abbrev main_v75 : Ref sig .tc := ⟨.hbm, 637, rfl⟩
abbrev main_v76 : Ref sig .tc := ⟨.hbm, 638, rfl⟩
abbrev main_cst_20 : Ref sig .tc := ⟨.hbm, 639, rfl⟩
abbrev main_v77 : Ref sig .tc := ⟨.hbm, 640, rfl⟩
abbrev main_v78 : Ref sig .tc := ⟨.hbm, 641, rfl⟩
abbrev main_c_21 : Ref sig .tc := ⟨.hbm, 642, rfl⟩
abbrev main_v79 : Ref sig .tc := ⟨.hbm, 643, rfl⟩
abbrev main_v80 : Ref sig .tc := ⟨.hbm, 644, rfl⟩
abbrev main_c_22 : Ref sig .tc := ⟨.hbm, 645, rfl⟩
abbrev main_v81 : Ref sig .tc := ⟨.hbm, 646, rfl⟩
abbrev main_v82 : Ref sig .tc := ⟨.hbm, 647, rfl⟩
abbrev main_v83 : Ref sig .tc := ⟨.hbm, 648, rfl⟩
abbrev main_v84 : Ref sig .tc := ⟨.hbm, 649, rfl⟩
abbrev main_v85 : Ref sig .tc := ⟨.hbm, 650, rfl⟩
abbrev main_v86 : Ref sig .tc := ⟨.hbm, 651, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc1_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

@[reducible] def k1_t1_loop : Scf.Loop 32 :=
  let c0_i32 : BitVec 32 := 0#32
  let c128_i32 : BitVec 32 := 128#32
  let v12 : BitVec 32 := Scalar.addi c0_i32 c128_i32
  let c1_i32 : BitVec 32 := 1#32
  ⟨c0_i32, v12, c1_i32⟩
def k1_off1 (k1_t1 : Fin k1_t1_loop.trips) : Fin 2 → Nat :=
  let c0_i32 : BitVec 32 := 0#32
  let c1_i32 : BitVec 32 := 1#32
  let arg6 : BitVec 32 := Scf.iv c0_i32 c1_i32 k1_t1
  let v15 : Index := Scalar.indexCast arg6
  let c0_4 : Index := 0#32
  ![v15.toNat, 0]
def k1_off2 (k1_t1 : Fin k1_t1_loop.trips) : Fin 2 → Nat :=
  let c0_i32 : BitVec 32 := 0#32
  let c1_i32 : BitVec 32 := 1#32
  let arg6 : BitVec 32 := Scf.iv c0_i32 c1_i32 k1_t1
  let v21 : Index := Scalar.indexCast arg6
  let c0_6 : Index := 0#32
  ![v21.toNat, 0]
abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x640 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x640 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S128x640 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x128 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S128x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]
-- ==== KernelIdeal.lean ====
variable {F : FTy → Type} [FloatOps F] [Named F]
def κ : String → Option EReal := fun
  | "neg" => some ⊥
  | _ => none
-- ==== ReferenceIdeal.lean ====
abbrev S32768x256 : Shape := ⟨2, ![32768, 256]⟩
abbrev S32768x8x256 : Shape := ⟨3, ![32768, 8, 256]⟩
abbrev S32768x8 : Shape := ⟨2, ![32768, 8]⟩
abbrev S_ : Shape := ⟨0, ![]⟩
abbrev S128x256 : Shape := ⟨2, ![128, 256]⟩
abbrev S32768 : Shape := ⟨1, ![32768]⟩
abbrev S32768x1 : Shape := ⟨2, ![32768, 1]⟩
abbrev S128 : Shape := ⟨1, ![128]⟩
abbrev S128x1 : Shape := ⟨2, ![128, 1]⟩
abbrev S256x32768 : Shape := ⟨2, ![256, 32768]⟩
abbrev S128x32768 : Shape := ⟨2, ![128, 32768]⟩
abbrev S1 : Shape := ⟨1, ![1]⟩
abbrev S2 : Shape := ⟨1, ![2]⟩
abbrev S128x2 : Shape := ⟨2, ![128, 2]⟩
abbrev S512 : Shape := ⟨1, ![512]⟩
abbrev S1x512 : Shape := ⟨2, ![1, 512]⟩
abbrev S128x512 : Shape := ⟨2, ![128, 512]⟩
abbrev S1x1 : Shape := ⟨2, ![1, 1]⟩
abbrev S128x8x256 : Shape := ⟨3, ![128, 8, 256]⟩
abbrev S1x32768 : Shape := ⟨2, ![1, 32768]⟩
abbrev S512x1 : Shape := ⟨2, ![512, 1]⟩
abbrev S512x8x256 : Shape := ⟨3, ![512, 8, 256]⟩
abbrev S512x1x1 : Shape := ⟨3, ![512, 1, 1]⟩
abbrev S8x256 : Shape := ⟨2, ![8, 256]⟩
abbrev S512x256 : Shape := ⟨2, ![512, 256]⟩
abbrev S256 : Shape := ⟨1, ![256]⟩
abbrev S1x8x256 : Shape := ⟨3, ![1, 8, 256]⟩
abbrev S1x256 : Shape := ⟨2, ![1, 256]⟩
abbrev S128x512x1 : Shape := ⟨3, ![128, 512, 1]⟩
abbrev S128x512x2 : Shape := ⟨3, ![128, 512, 2]⟩

abbrev nBuf : Space → Nat
  | .hbm => 735
  | .vmem => 0
  | .smem => 0
  | _ => 0

abbrev hbmTy0_0 (i : Nat) : BufTy := match i % 128 with
  | 0 => ⟨S32768x256, .f32⟩
  | 1 => ⟨S32768x8x256, .f32⟩
  | 2 => ⟨S32768x8, .f32⟩
  | 3 => ⟨S_, .i32⟩
  | 4 => ⟨S128x256, .f32⟩
  | 5 => ⟨S32768x256, .f32⟩
  | 6 => ⟨S_, .f32⟩
  | 7 => ⟨S32768, .f32⟩
  | 8 => ⟨S32768x1, .f32⟩
  | 9 => ⟨S32768x1, .f32⟩
  | 10 => ⟨S_, .f32⟩
  | 11 => ⟨S32768x1, .f32⟩
  | 12 => ⟨S32768x1, .f32⟩
  | 13 => ⟨S32768x256, .f32⟩
  | 14 => ⟨S32768x256, .f32⟩
  | 15 => ⟨S128x256, .f32⟩
  | 16 => ⟨S_, .f32⟩
  | 17 => ⟨S128, .f32⟩
  | 18 => ⟨S128x1, .f32⟩
  | 19 => ⟨S128x1, .f32⟩
  | 20 => ⟨S_, .f32⟩
  | 21 => ⟨S128x1, .f32⟩
  | 22 => ⟨S128x1, .f32⟩
  | 23 => ⟨S128x256, .f32⟩
  | 24 => ⟨S128x256, .f32⟩
  | 25 => ⟨S256x32768, .f32⟩
  | 26 => ⟨S128x32768, .f32⟩
  | 27 => ⟨S_, .i32⟩
  | 28 => ⟨S_, .i32⟩
  | 29 => ⟨S_, .i32⟩
  | 30 => ⟨S_, .i32⟩
  | 31 => ⟨S1, .i32⟩
  | 32 => ⟨S_, .i32⟩
  | 33 => ⟨S_, .i32⟩
  | 34 => ⟨S_, .i32⟩
  | 35 => ⟨S1, .i32⟩
  | 36 => ⟨S2, .i32⟩
  | 37 => ⟨S128, .i32⟩
  | 38 => ⟨S128, .i32⟩
  | 39 => ⟨S_, .i32⟩
  | 40 => ⟨S128, .i32⟩
  | 41 => ⟨S128, .i32⟩
  | 42 => ⟨S128x1, .i32⟩
  | 43 => ⟨S_, .i32⟩
  | 44 => ⟨S128, .i32⟩
  | 45 => ⟨S128, .i32⟩
  | 46 => ⟨S128x1, .i32⟩
  | 47 => ⟨S128x2, .i32⟩
  | 48 => ⟨S1, .i32⟩
  | 49 => ⟨S_, .i32⟩
  | 50 => ⟨S1, .i32⟩
  | 51 => ⟨S_, .i32⟩
  | 52 => ⟨S128x1, .i32⟩
  | 53 => ⟨S128x1, .i32⟩
  | 54 => ⟨S_, .i32⟩
  | 55 => ⟨S_, .i32⟩
  | 56 => ⟨S_, .i32⟩
  | 57 => ⟨S128x1, .i32⟩
  | 58 => ⟨S128x1, .i32⟩
  | 59 => ⟨S128x1, .i32⟩
  | 60 => ⟨S128x1, .i32⟩
  | 61 => ⟨S128x1, .i32⟩
  | 62 => ⟨S_, .i32⟩
  | 63 => ⟨S128x1, .i32⟩
  | 64 => ⟨S128x1, .i32⟩
  | 65 => ⟨S_, .i32⟩
  | 66 => ⟨S128x1, .i32⟩
  | 67 => ⟨S128x1, .i32⟩
  | 68 => ⟨S128x1, .i32⟩
  | 69 => ⟨S128x1, .i32⟩
  | 70 => ⟨S128x1, .i32⟩
  | 71 => ⟨S_, .i32⟩
  | 72 => ⟨S128x1, .i32⟩
  | 73 => ⟨S128x1, .i32⟩
  | 74 => ⟨S_, .i32⟩
  | 75 => ⟨S128x1, .i32⟩
  | 76 => ⟨S128x1, .i32⟩
  | 77 => ⟨S128x1, .i32⟩
  | 78 => ⟨S128x1, .i32⟩
  | 79 => ⟨S128x1, .i32⟩
  | 80 => ⟨S_, .i32⟩
  | 81 => ⟨S128x1, .i32⟩
  | 82 => ⟨S128x1, .i32⟩
  | 83 => ⟨S_, .i32⟩
  | 84 => ⟨S128x1, .i32⟩
  | 85 => ⟨S128x1, .i32⟩
  | 86 => ⟨S128x1, .i32⟩
  | 87 => ⟨S128x1, .i32⟩
  | 88 => ⟨S128x1, .i32⟩
  | 89 => ⟨S_, .i32⟩
  | 90 => ⟨S128x1, .i32⟩
  | 91 => ⟨S128x1, .i32⟩
  | 92 => ⟨S_, .i32⟩
  | 93 => ⟨S128x1, .i32⟩
  | 94 => ⟨S128x1, .i32⟩
  | 95 => ⟨S128x1, .i32⟩
  | 96 => ⟨S128x1, .i32⟩
  | 97 => ⟨S128x1, .i32⟩
  | 98 => ⟨S128x1, .i32⟩
  | 99 => ⟨S128x1, .i32⟩
  | 100 => ⟨S128x1, .i32⟩
  | 101 => ⟨S_, .i32⟩
  | 102 => ⟨S128x1, .i32⟩
  | 103 => ⟨S128x1, .i32⟩
  | 104 => ⟨S128x1, .i32⟩
  | 105 => ⟨S_, .i32⟩
  | 106 => ⟨S128x1, .i32⟩
  | 107 => ⟨S128x1, .i32⟩
  | 108 => ⟨S_, .i32⟩
  | 109 => ⟨S128x1, .i32⟩
  | 110 => ⟨S128x1, .i32⟩
  | 111 => ⟨S128x1, .i32⟩
  | 112 => ⟨S128x1, .i32⟩
  | 113 => ⟨S128x1, .i32⟩
  | 114 => ⟨S_, .i32⟩
  | 115 => ⟨S128x1, .i32⟩
  | 116 => ⟨S128x1, .i32⟩
  | 117 => ⟨S_, .i32⟩
  | 118 => ⟨S128x1, .i32⟩
  | 119 => ⟨S128x1, .i32⟩
  | 120 => ⟨S128x1, .i32⟩
  | 121 => ⟨S128x1, .i32⟩
  | 122 => ⟨S128x1, .i32⟩
  | 123 => ⟨S_, .i32⟩
  | 124 => ⟨S128x1, .i32⟩
  | 125 => ⟨S128x1, .i32⟩
  | 126 => ⟨S_, .i32⟩
  | 127 => ⟨S128x1, .i32⟩
  | _ => ⟨S32768x256, .f32⟩

abbrev hbmTy0_1 (i : Nat) : BufTy := match i % 128 with
  | 0 => ⟨S128x1, .i32⟩
  | 1 => ⟨S128x1, .i32⟩
  | 2 => ⟨S128x1, .i32⟩
  | 3 => ⟨S128x1, .i32⟩
  | 4 => ⟨S_, .i32⟩
  | 5 => ⟨S128x1, .i32⟩
  | 6 => ⟨S128x1, .i32⟩
  | 7 => ⟨S_, .i32⟩
  | 8 => ⟨S128x1, .i32⟩
  | 9 => ⟨S128x1, .i32⟩
  | 10 => ⟨S128x1, .i32⟩
  | 11 => ⟨S128x1, .i32⟩
  | 12 => ⟨S128x1, .i32⟩
  | 13 => ⟨S128x1, .i32⟩
  | 14 => ⟨S128x1, .i32⟩
  | 15 => ⟨S128x1, .i32⟩
  | 16 => ⟨S_, .i32⟩
  | 17 => ⟨S128x1, .i32⟩
  | 18 => ⟨S128x1, .i32⟩
  | 19 => ⟨S128x1, .i32⟩
  | 20 => ⟨S_, .i32⟩
  | 21 => ⟨S128x1, .i32⟩
  | 22 => ⟨S128x1, .i32⟩
  | 23 => ⟨S_, .i32⟩
  | 24 => ⟨S128x1, .i32⟩
  | 25 => ⟨S128x1, .i32⟩
  | 26 => ⟨S128x1, .i32⟩
  | 27 => ⟨S128x1, .i32⟩
  | 28 => ⟨S128x1, .i32⟩
  | 29 => ⟨S_, .i32⟩
  | 30 => ⟨S128x1, .i32⟩
  | 31 => ⟨S128x1, .i32⟩
  | 32 => ⟨S_, .i32⟩
  | 33 => ⟨S128x1, .i32⟩
  | 34 => ⟨S128x1, .i32⟩
  | 35 => ⟨S128x1, .i32⟩
  | 36 => ⟨S128x1, .i32⟩
  | 37 => ⟨S128x1, .i32⟩
  | 38 => ⟨S_, .i32⟩
  | 39 => ⟨S128x1, .i32⟩
  | 40 => ⟨S128x1, .i32⟩
  | 41 => ⟨S_, .i32⟩
  | 42 => ⟨S128x1, .i32⟩
  | 43 => ⟨S128x1, .i32⟩
  | 44 => ⟨S128x1, .i32⟩
  | 45 => ⟨S128x1, .i32⟩
  | 46 => ⟨S128x1, .i32⟩
  | 47 => ⟨S_, .i32⟩
  | 48 => ⟨S128x1, .i32⟩
  | 49 => ⟨S128x1, .i32⟩
  | 50 => ⟨S_, .i32⟩
  | 51 => ⟨S128x1, .i32⟩
  | 52 => ⟨S128x1, .i32⟩
  | 53 => ⟨S128x1, .i32⟩
  | 54 => ⟨S128x1, .i32⟩
  | 55 => ⟨S128x1, .i32⟩
  | 56 => ⟨S128x1, .i32⟩
  | 57 => ⟨S128x1, .i32⟩
  | 58 => ⟨S128x1, .i32⟩
  | 59 => ⟨S_, .i32⟩
  | 60 => ⟨S128x1, .i32⟩
  | 61 => ⟨S128x1, .i32⟩
  | 62 => ⟨S128x1, .i32⟩
  | 63 => ⟨S_, .i32⟩
  | 64 => ⟨S128x1, .i32⟩
  | 65 => ⟨S128x1, .i32⟩
  | 66 => ⟨S_, .i32⟩
  | 67 => ⟨S128x1, .i32⟩
  | 68 => ⟨S128x1, .i32⟩
  | 69 => ⟨S128x1, .i32⟩
  | 70 => ⟨S128x1, .i32⟩
  | 71 => ⟨S128x1, .i32⟩
  | 72 => ⟨S_, .i32⟩
  | 73 => ⟨S128x1, .i32⟩
  | 74 => ⟨S128x1, .i32⟩
  | 75 => ⟨S_, .i32⟩
  | 76 => ⟨S128x1, .i32⟩
  | 77 => ⟨S128x1, .i32⟩
  | 78 => ⟨S128x1, .i32⟩
  | 79 => ⟨S128x1, .i32⟩
  | 80 => ⟨S128x1, .i32⟩
  | 81 => ⟨S_, .i32⟩
  | 82 => ⟨S128x1, .i32⟩
  | 83 => ⟨S128x1, .i32⟩
  | 84 => ⟨S_, .i32⟩
  | 85 => ⟨S128x1, .i32⟩
  | 86 => ⟨S128x1, .i32⟩
  | 87 => ⟨S128x1, .i32⟩
  | 88 => ⟨S128x1, .i32⟩
  | 89 => ⟨S128x1, .i32⟩
  | 90 => ⟨S_, .i32⟩
  | 91 => ⟨S128x1, .i32⟩
  | 92 => ⟨S128x1, .i32⟩
  | 93 => ⟨S_, .i32⟩
  | 94 => ⟨S128x1, .i32⟩
  | 95 => ⟨S128x1, .i32⟩
  | 96 => ⟨S128x1, .i32⟩
  | 97 => ⟨S128x1, .i32⟩
  | 98 => ⟨S128x1, .i32⟩
  | 99 => ⟨S128x1, .i32⟩
  | 100 => ⟨S128x1, .i32⟩
  | 101 => ⟨S128x1, .i32⟩
  | 102 => ⟨S_, .i32⟩
  | 103 => ⟨S128x1, .i32⟩
  | 104 => ⟨S128x1, .i32⟩
  | 105 => ⟨S128x1, .i32⟩
  | 106 => ⟨S_, .i32⟩
  | 107 => ⟨S128x1, .i32⟩
  | 108 => ⟨S128x1, .i32⟩
  | 109 => ⟨S_, .i32⟩
  | 110 => ⟨S128x1, .i32⟩
  | 111 => ⟨S128x1, .i32⟩
  | 112 => ⟨S128x1, .i32⟩
  | 113 => ⟨S128x1, .i32⟩
  | 114 => ⟨S128x1, .i32⟩
  | 115 => ⟨S_, .i32⟩
  | 116 => ⟨S128x1, .i32⟩
  | 117 => ⟨S128x1, .i32⟩
  | 118 => ⟨S_, .i32⟩
  | 119 => ⟨S128x1, .i32⟩
  | 120 => ⟨S128x1, .i32⟩
  | 121 => ⟨S128x1, .i32⟩
  | 122 => ⟨S128x1, .i32⟩
  | 123 => ⟨S128x1, .i32⟩
  | 124 => ⟨S_, .i32⟩
  | 125 => ⟨S128x1, .i32⟩
  | 126 => ⟨S128x1, .i32⟩
  | 127 => ⟨S_, .i32⟩
  | _ => ⟨S32768x256, .f32⟩

abbrev hbmTy0_2 (i : Nat) : BufTy := match i % 128 with
  | 0 => ⟨S128x1, .i32⟩
  | 1 => ⟨S128x1, .i32⟩
  | 2 => ⟨S128x1, .i32⟩
  | 3 => ⟨S128x1, .i32⟩
  | 4 => ⟨S128x1, .i32⟩
  | 5 => ⟨S_, .i32⟩
  | 6 => ⟨S128x1, .i32⟩
  | 7 => ⟨S128x1, .i32⟩
  | 8 => ⟨S_, .i32⟩
  | 9 => ⟨S128x1, .i32⟩
  | 10 => ⟨S128x1, .i32⟩
  | 11 => ⟨S128x1, .i32⟩
  | 12 => ⟨S128x1, .i32⟩
  | 13 => ⟨S128x1, .i32⟩
  | 14 => ⟨S128x1, .i32⟩
  | 15 => ⟨S128x1, .i32⟩
  | 16 => ⟨S128x1, .i32⟩
  | 17 => ⟨S_, .i32⟩
  | 18 => ⟨S128x1, .i32⟩
  | 19 => ⟨S128x1, .i32⟩
  | 20 => ⟨S128x2, .i32⟩
  | 21 => ⟨S_, .f32⟩
  | 22 => ⟨S_, .f32⟩
  | 23 => ⟨S_, .f32⟩
  | 24 => ⟨S_, .f32⟩
  | 25 => ⟨S1, .f32⟩
  | 26 => ⟨S1, .f32⟩
  | 27 => ⟨S128x1, .i32⟩
  | 28 => ⟨S128, .i32⟩
  | 29 => ⟨S128x1, .i32⟩
  | 30 => ⟨S128, .i32⟩
  | 31 => ⟨S512, .i64⟩
  | 32 => ⟨S_, .i64⟩
  | 33 => ⟨S512, .i64⟩
  | 34 => ⟨S512, .i64⟩
  | 35 => ⟨S_, .i64⟩
  | 36 => ⟨S512, .i64⟩
  | 37 => ⟨S512, .i64⟩
  | 38 => ⟨S512, .i32⟩
  | 39 => ⟨S512, .i32⟩
  | 40 => ⟨S1x512, .i32⟩
  | 41 => ⟨S1x512, .i32⟩
  | 42 => ⟨S128x1, .i32⟩
  | 43 => ⟨S128x1, .i32⟩
  | 44 => ⟨S128x1, .i32⟩
  | 45 => ⟨S_, .i32⟩
  | 46 => ⟨S128x1, .i32⟩
  | 47 => ⟨S128x1, .i32⟩
  | 48 => ⟨S128x512, .i32⟩
  | 49 => ⟨S128x512, .i32⟩
  | 50 => ⟨S128x512, .i32⟩
  | 51 => ⟨S128x512, .i32⟩
  | 52 => ⟨S128x512, .i32⟩
  | 53 => ⟨S128x512, .i32⟩
  | 54 => ⟨S128x512, .i32⟩
  | 55 => ⟨S_, .i32⟩
  | 56 => ⟨S128x512, .i32⟩
  | 57 => ⟨S128x512, .i32⟩
  | 58 => ⟨S_, .i32⟩
  | 59 => ⟨S128x512, .i32⟩
  | 60 => ⟨S128x512, .i32⟩
  | 61 => ⟨S128x512, .i32⟩
  | 62 => ⟨S128x512, .i32⟩
  | 63 => ⟨S128x512, .i32⟩
  | 64 => ⟨S_, .i32⟩
  | 65 => ⟨S128x512, .i32⟩
  | 66 => ⟨S128x512, .i32⟩
  | 67 => ⟨S_, .i32⟩
  | 68 => ⟨S128x512, .i32⟩
  | 69 => ⟨S128x512, .i32⟩
  | 70 => ⟨S128x512, .i32⟩
  | 71 => ⟨S128x512, .i32⟩
  | 72 => ⟨S128x512, .i32⟩
  | 73 => ⟨S_, .i32⟩
  | 74 => ⟨S128x512, .i32⟩
  | 75 => ⟨S128x512, .i32⟩
  | 76 => ⟨S_, .i32⟩
  | 77 => ⟨S128x512, .i32⟩
  | 78 => ⟨S128x512, .i32⟩
  | 79 => ⟨S128x512, .i32⟩
  | 80 => ⟨S128x512, .i32⟩
  | 81 => ⟨S128x512, .i32⟩
  | 82 => ⟨S_, .i32⟩
  | 83 => ⟨S128x512, .i32⟩
  | 84 => ⟨S128x512, .i32⟩
  | 85 => ⟨S_, .i32⟩
  | 86 => ⟨S128x512, .i32⟩
  | 87 => ⟨S128x512, .i32⟩
  | 88 => ⟨S128x512, .i32⟩
  | 89 => ⟨S128x512, .i32⟩
  | 90 => ⟨S128x512, .i32⟩
  | 91 => ⟨S128x512, .i32⟩
  | 92 => ⟨S128x512, .i32⟩
  | 93 => ⟨S128x512, .i32⟩
  | 94 => ⟨S_, .i32⟩
  | 95 => ⟨S128x512, .i32⟩
  | 96 => ⟨S128x512, .i32⟩
  | 97 => ⟨S128x512, .i32⟩
  | 98 => ⟨S_, .i32⟩
  | 99 => ⟨S128x512, .i32⟩
  | 100 => ⟨S128x512, .i32⟩
  | 101 => ⟨S_, .i32⟩
  | 102 => ⟨S128x512, .i32⟩
  | 103 => ⟨S128x512, .i32⟩
  | 104 => ⟨S128x512, .i32⟩
  | 105 => ⟨S128x512, .i32⟩
  | 106 => ⟨S128x512, .i32⟩
  | 107 => ⟨S_, .i32⟩
  | 108 => ⟨S128x512, .i32⟩
  | 109 => ⟨S128x512, .i32⟩
  | 110 => ⟨S_, .i32⟩
  | 111 => ⟨S128x512, .i32⟩
  | 112 => ⟨S128x512, .i32⟩
  | 113 => ⟨S128x512, .i32⟩
  | 114 => ⟨S128x512, .i32⟩
  | 115 => ⟨S128x512, .i32⟩
  | 116 => ⟨S_, .i32⟩
  | 117 => ⟨S128x512, .i32⟩
  | 118 => ⟨S128x512, .i32⟩
  | 119 => ⟨S_, .i32⟩
  | 120 => ⟨S128x512, .i32⟩
  | 121 => ⟨S128x512, .i32⟩
  | 122 => ⟨S128x512, .i32⟩
  | 123 => ⟨S128x512, .i32⟩
  | 124 => ⟨S128x512, .i32⟩
  | 125 => ⟨S_, .i32⟩
  | 126 => ⟨S128x512, .i32⟩
  | 127 => ⟨S128x512, .i32⟩
  | _ => ⟨S32768x256, .f32⟩

abbrev hbmTy0_3 (i : Nat) : BufTy := match i % 128 with
  | 0 => ⟨S_, .i32⟩
  | 1 => ⟨S128x512, .i32⟩
  | 2 => ⟨S128x512, .i32⟩
  | 3 => ⟨S128x512, .i32⟩
  | 4 => ⟨S128x512, .i32⟩
  | 5 => ⟨S128x512, .i32⟩
  | 6 => ⟨S128x512, .i32⟩
  | 7 => ⟨S128x512, .i32⟩
  | 8 => ⟨S128x512, .i32⟩
  | 9 => ⟨S_, .i32⟩
  | 10 => ⟨S128x512, .i32⟩
  | 11 => ⟨S128x512, .i32⟩
  | 12 => ⟨S128x512, .i32⟩
  | 13 => ⟨S_, .i32⟩
  | 14 => ⟨S128x512, .i32⟩
  | 15 => ⟨S128x512, .i32⟩
  | 16 => ⟨S_, .i32⟩
  | 17 => ⟨S128x512, .i32⟩
  | 18 => ⟨S128x512, .i32⟩
  | 19 => ⟨S128x512, .i32⟩
  | 20 => ⟨S128x512, .i32⟩
  | 21 => ⟨S128x512, .i32⟩
  | 22 => ⟨S_, .i32⟩
  | 23 => ⟨S128x512, .i32⟩
  | 24 => ⟨S128x512, .i32⟩
  | 25 => ⟨S_, .i32⟩
  | 26 => ⟨S128x512, .i32⟩
  | 27 => ⟨S128x512, .i32⟩
  | 28 => ⟨S128x512, .i32⟩
  | 29 => ⟨S128x512, .i32⟩
  | 30 => ⟨S128x512, .i32⟩
  | 31 => ⟨S_, .i32⟩
  | 32 => ⟨S128x512, .i32⟩
  | 33 => ⟨S128x512, .i32⟩
  | 34 => ⟨S_, .i32⟩
  | 35 => ⟨S128x512, .i32⟩
  | 36 => ⟨S128x512, .i32⟩
  | 37 => ⟨S128x512, .i32⟩
  | 38 => ⟨S128x512, .i32⟩
  | 39 => ⟨S128x512, .i32⟩
  | 40 => ⟨S_, .i32⟩
  | 41 => ⟨S128x512, .i32⟩
  | 42 => ⟨S128x512, .i32⟩
  | 43 => ⟨S_, .i32⟩
  | 44 => ⟨S128x512, .i32⟩
  | 45 => ⟨S128x512, .i32⟩
  | 46 => ⟨S128x512, .i32⟩
  | 47 => ⟨S128x512, .i32⟩
  | 48 => ⟨S128x512, .i32⟩
  | 49 => ⟨S128x512, .i32⟩
  | 50 => ⟨S128x512, .i32⟩
  | 51 => ⟨S128x512, .i32⟩
  | 52 => ⟨S_, .i32⟩
  | 53 => ⟨S128x512, .i32⟩
  | 54 => ⟨S128x512, .i32⟩
  | 55 => ⟨S128x512, .i32⟩
  | 56 => ⟨S_, .i32⟩
  | 57 => ⟨S128x512, .i32⟩
  | 58 => ⟨S128x512, .i32⟩
  | 59 => ⟨S_, .i32⟩
  | 60 => ⟨S128x512, .i32⟩
  | 61 => ⟨S128x512, .i32⟩
  | 62 => ⟨S128x512, .i32⟩
  | 63 => ⟨S128x512, .i32⟩
  | 64 => ⟨S128x512, .i32⟩
  | 65 => ⟨S_, .i32⟩
  | 66 => ⟨S128x512, .i32⟩
  | 67 => ⟨S128x512, .i32⟩
  | 68 => ⟨S_, .i32⟩
  | 69 => ⟨S128x512, .i32⟩
  | 70 => ⟨S128x512, .i32⟩
  | 71 => ⟨S128x512, .i32⟩
  | 72 => ⟨S128x512, .i32⟩
  | 73 => ⟨S128x512, .i32⟩
  | 74 => ⟨S_, .i32⟩
  | 75 => ⟨S128x512, .i32⟩
  | 76 => ⟨S128x512, .i32⟩
  | 77 => ⟨S_, .i32⟩
  | 78 => ⟨S128x512, .i32⟩
  | 79 => ⟨S128x512, .i32⟩
  | 80 => ⟨S128x512, .i32⟩
  | 81 => ⟨S128x512, .i32⟩
  | 82 => ⟨S128x512, .i32⟩
  | 83 => ⟨S_, .i32⟩
  | 84 => ⟨S128x512, .i32⟩
  | 85 => ⟨S128x512, .i32⟩
  | 86 => ⟨S_, .i32⟩
  | 87 => ⟨S128x512, .i32⟩
  | 88 => ⟨S128x512, .i32⟩
  | 89 => ⟨S128x512, .i32⟩
  | 90 => ⟨S128x512, .i32⟩
  | 91 => ⟨S128x512, .i32⟩
  | 92 => ⟨S128x512, .i32⟩
  | 93 => ⟨S128x512, .i32⟩
  | 94 => ⟨S128x512, .i32⟩
  | 95 => ⟨S_, .i32⟩
  | 96 => ⟨S128x512, .i32⟩
  | 97 => ⟨S128x512, .i32⟩
  | 98 => ⟨S128x512, .i32⟩
  | 99 => ⟨S_, .i32⟩
  | 100 => ⟨S128x512, .i32⟩
  | 101 => ⟨S128x512, .i32⟩
  | 102 => ⟨S_, .i32⟩
  | 103 => ⟨S128x512, .i32⟩
  | 104 => ⟨S128x512, .i32⟩
  | 105 => ⟨S128x512, .i32⟩
  | 106 => ⟨S128x512, .i32⟩
  | 107 => ⟨S128x512, .i32⟩
  | 108 => ⟨S_, .i32⟩
  | 109 => ⟨S128x512, .i32⟩
  | 110 => ⟨S128x512, .i32⟩
  | 111 => ⟨S_, .i32⟩
  | 112 => ⟨S128x512, .i32⟩
  | 113 => ⟨S128x512, .i32⟩
  | 114 => ⟨S128x512, .i32⟩
  | 115 => ⟨S128x512, .i32⟩
  | 116 => ⟨S128x512, .i32⟩
  | 117 => ⟨S_, .i32⟩
  | 118 => ⟨S128x512, .i32⟩
  | 119 => ⟨S128x512, .i32⟩
  | 120 => ⟨S_, .i32⟩
  | 121 => ⟨S128x512, .i32⟩
  | 122 => ⟨S128x512, .i32⟩
  | 123 => ⟨S128x512, .i32⟩
  | 124 => ⟨S128x512, .i32⟩
  | 125 => ⟨S128x512, .i32⟩
  | 126 => ⟨S_, .i32⟩
  | 127 => ⟨S128x512, .i32⟩
  | _ => ⟨S32768x256, .f32⟩

abbrev hbmTy0_4 (i : Nat) : BufTy := match i % 128 with
  | 0 => ⟨S128x512, .i32⟩
  | 1 => ⟨S_, .i32⟩
  | 2 => ⟨S128x512, .i32⟩
  | 3 => ⟨S128x512, .i32⟩
  | 4 => ⟨S128x512, .i32⟩
  | 5 => ⟨S128x512, .i32⟩
  | 6 => ⟨S128x512, .i32⟩
  | 7 => ⟨S128x512, .i32⟩
  | 8 => ⟨S128x512, .i32⟩
  | 9 => ⟨S128x512, .i32⟩
  | 10 => ⟨S_, .i32⟩
  | 11 => ⟨S128x512, .i32⟩
  | 12 => ⟨S128x512, .i32⟩
  | 13 => ⟨S128x512, .i32⟩
  | 14 => ⟨S_, .i32⟩
  | 15 => ⟨S128x512, .i32⟩
  | 16 => ⟨S128x512, .i32⟩
  | 17 => ⟨S_, .i32⟩
  | 18 => ⟨S128x512, .i32⟩
  | 19 => ⟨S128x512, .i32⟩
  | 20 => ⟨S128x512, .f32⟩
  | 21 => ⟨S_, .f32⟩
  | 22 => ⟨S128x512, .f32⟩
  | 23 => ⟨S128x512, .f32⟩
  | 24 => ⟨S1, .f32⟩
  | 25 => ⟨S1x1, .f32⟩
  | 26 => ⟨S128x512, .f32⟩
  | 27 => ⟨S128x512, .f32⟩
  | 28 => ⟨S1x1, .f32⟩
  | 29 => ⟨S128x512, .f32⟩
  | 30 => ⟨S128x512, .f32⟩
  | 31 => ⟨S1x1, .f32⟩
  | 32 => ⟨S128x512, .f32⟩
  | 33 => ⟨S128x512, .f32⟩
  | 34 => ⟨S_, .f32⟩
  | 35 => ⟨S128x512, .f32⟩
  | 36 => ⟨S128x512, .f32⟩
  | 37 => ⟨S128x512, .f32⟩
  | 38 => ⟨S128x512, .f32⟩
  | 39 => ⟨S_, .f32⟩
  | 40 => ⟨S128x512, .f32⟩
  | 41 => ⟨S128x512, .f32⟩
  | 42 => ⟨S128x512, .f32⟩
  | 43 => ⟨S128x512, .f32⟩
  | 44 => ⟨S_, .i1⟩
  | 45 => ⟨S32768, .i1⟩
  | 46 => ⟨S_, .f32⟩
  | 47 => ⟨S128x8x256, .f32⟩
  | 48 => ⟨S_, .i32⟩
  | 49 => ⟨S128, .i32⟩
  | 50 => ⟨S_, .f32⟩
  | 51 => ⟨S128x256, .f32⟩
  | 52 => ⟨S_, .i32⟩
  | 53 => ⟨S128x512, .i32⟩
  | 54 => ⟨S_, .f32⟩
  | 55 => ⟨S128x512, .f32⟩
  | 56 => ⟨S_, .f32⟩
  | 57 => ⟨S128x512, .f32⟩
  | 58 => ⟨S_, .i32⟩
  | 59 => ⟨S128x32768, .f32⟩
  | 60 => ⟨S128x512, .f32⟩
  | 61 => ⟨S_, .i32⟩
  | 62 => ⟨S32768x8x256, .f32⟩
  | 63 => ⟨S32768x256, .f32⟩
  | 64 => ⟨S_, .i32⟩
  | 65 => ⟨S32768, .i1⟩
  | 66 => ⟨S128x8x256, .f32⟩
  | 67 => ⟨S128, .i32⟩
  | 68 => ⟨S128x256, .f32⟩
  | 69 => ⟨S128x512, .i32⟩
  | 70 => ⟨S128x512, .f32⟩
  | 71 => ⟨S128x512, .f32⟩
  | 72 => ⟨S_, .i32⟩
  | 73 => ⟨S_, .i1⟩
  | 74 => ⟨S_, .i32⟩
  | 75 => ⟨S1x32768, .f32⟩
  | 76 => ⟨S32768, .f32⟩
  | 77 => ⟨S_, .i32⟩
  | 78 => ⟨S1x512, .f32⟩
  | 79 => ⟨S512, .f32⟩
  | 80 => ⟨S_, .f32⟩
  | 81 => ⟨S32768, .f32⟩
  | 82 => ⟨S32768, .f32⟩
  | 83 => ⟨S512, .f32⟩
  | 84 => ⟨S512, .i32⟩
  | 85 => ⟨S512, .f32⟩
  | 86 => ⟨S_, .f32⟩
  | 87 => ⟨S512, .f32⟩
  | 88 => ⟨S512, .f32⟩
  | 89 => ⟨S_, .f32⟩
  | 90 => ⟨S_, .f32⟩
  | 91 => ⟨S_, .f32⟩
  | 92 => ⟨S_, .f32⟩
  | 93 => ⟨S1, .f32⟩
  | 94 => ⟨S512, .f32⟩
  | 95 => ⟨S512, .f32⟩
  | 96 => ⟨S512, .f32⟩
  | 97 => ⟨S_, .f32⟩
  | 98 => ⟨S_, .f32⟩
  | 99 => ⟨S1, .f32⟩
  | 100 => ⟨S512, .f32⟩
  | 101 => ⟨S512, .f32⟩
  | 102 => ⟨S1, .f32⟩
  | 103 => ⟨S1, .i32⟩
  | 104 => ⟨S_, .i32⟩
  | 105 => ⟨S_, .f32⟩
  | 106 => ⟨S512, .f32⟩
  | 107 => ⟨S_, .i32⟩
  | 108 => ⟨S_, .i1⟩
  | 109 => ⟨S_, .i32⟩
  | 110 => ⟨S_, .i32⟩
  | 111 => ⟨S_, .i32⟩
  | 112 => ⟨S1, .i32⟩
  | 113 => ⟨S_, .f32⟩
  | 114 => ⟨S512, .f32⟩
  | 115 => ⟨S512, .f32⟩
  | 116 => ⟨S512, .f32⟩
  | 117 => ⟨S_, .i32⟩
  | 118 => ⟨S512, .i32⟩
  | 119 => ⟨S512, .i1⟩
  | 120 => ⟨S_, .i32⟩
  | 121 => ⟨S512, .i32⟩
  | 122 => ⟨S512, .i32⟩
  | 123 => ⟨S512, .i32⟩
  | 124 => ⟨S512x1, .i32⟩
  | 125 => ⟨S512x8x256, .f32⟩
  | 126 => ⟨S512x1x1, .f32⟩
  | 127 => ⟨S512x8x256, .f32⟩
  | _ => ⟨S32768x256, .f32⟩

abbrev hbmTy0_5 (i : Nat) : BufTy := match i % 128 with
  | 0 => ⟨S512x8x256, .f32⟩
  | 1 => ⟨S_, .f32⟩
  | 2 => ⟨S8x256, .f32⟩
  | 3 => ⟨S_, .i32⟩
  | 4 => ⟨S_, .i1⟩
  | 5 => ⟨S_, .i32⟩
  | 6 => ⟨S_, .i32⟩
  | 7 => ⟨S_, .i32⟩
  | 8 => ⟨S1, .i32⟩
  | 9 => ⟨S_, .i32⟩
  | 10 => ⟨S512x1, .f32⟩
  | 11 => ⟨S_, .i32⟩
  | 12 => ⟨S512, .i32⟩
  | 13 => ⟨S512, .i1⟩
  | 14 => ⟨S_, .i32⟩
  | 15 => ⟨S512, .i32⟩
  | 16 => ⟨S512, .i32⟩
  | 17 => ⟨S512, .i32⟩
  | 18 => ⟨S512x1, .i32⟩
  | 19 => ⟨S512x256, .f32⟩
  | 20 => ⟨S512x256, .f32⟩
  | 21 => ⟨S512x256, .f32⟩
  | 22 => ⟨S_, .f32⟩
  | 23 => ⟨S256, .f32⟩
  | 24 => ⟨S_, .i32⟩
  | 25 => ⟨S_, .i1⟩
  | 26 => ⟨S_, .i32⟩
  | 27 => ⟨S_, .i32⟩
  | 28 => ⟨S_, .i32⟩
  | 29 => ⟨S1, .i32⟩
  | 30 => ⟨S_, .i1⟩
  | 31 => ⟨S32768, .i1⟩
  | 32 => ⟨S1x8x256, .f32⟩
  | 33 => ⟨S_, .i32⟩
  | 34 => ⟨S_, .i32⟩
  | 35 => ⟨S128x8x256, .f32⟩
  | 36 => ⟨S1, .i32⟩
  | 37 => ⟨S128, .i32⟩
  | 38 => ⟨S1x256, .f32⟩
  | 39 => ⟨S_, .i32⟩
  | 40 => ⟨S128x256, .f32⟩
  | 41 => ⟨S1x512, .i32⟩
  | 42 => ⟨S_, .i32⟩
  | 43 => ⟨S128x512, .i32⟩
  | 44 => ⟨S1x512, .f32⟩
  | 45 => ⟨S_, .i32⟩
  | 46 => ⟨S128x512, .f32⟩
  | 47 => ⟨S1x512, .f32⟩
  | 48 => ⟨S_, .i32⟩
  | 49 => ⟨S128x512, .f32⟩
  | 50 => ⟨S_, .i32⟩
  | 51 => ⟨S_, .i32⟩
  | 52 => ⟨S128, .i32⟩
  | 53 => ⟨S128x1, .i32⟩
  | 54 => ⟨S128x512, .i32⟩
  | 55 => ⟨S_, .f32⟩
  | 56 => ⟨S128x32768, .f32⟩
  | 57 => ⟨S_, .i32⟩
  | 58 => ⟨S128x512, .i32⟩
  | 59 => ⟨S128x512, .i1⟩
  | 60 => ⟨S_, .i32⟩
  | 61 => ⟨S128x512, .i32⟩
  | 62 => ⟨S128x512, .i32⟩
  | 63 => ⟨S128x512, .i32⟩
  | 64 => ⟨S_, .i32⟩
  | 65 => ⟨S128x512, .i32⟩
  | 66 => ⟨S128x512, .i1⟩
  | 67 => ⟨S_, .i32⟩
  | 68 => ⟨S128x512, .i32⟩
  | 69 => ⟨S128x512, .i32⟩
  | 70 => ⟨S128x512, .i32⟩
  | 71 => ⟨S128x512x1, .i32⟩
  | 72 => ⟨S128x512x1, .i32⟩
  | 73 => ⟨S128x512x2, .i32⟩
  | 74 => ⟨S128x32768, .f32⟩
  | 75 => ⟨S_, .f32⟩
  | 76 => ⟨S128x32768, .f32⟩
  | 77 => ⟨S_, .i32⟩
  | 78 => ⟨S128x512, .i32⟩
  | 79 => ⟨S128x512, .i1⟩
  | 80 => ⟨S_, .i32⟩
  | 81 => ⟨S128x512, .i32⟩
  | 82 => ⟨S128x512, .i32⟩
  | 83 => ⟨S128x512, .i32⟩
  | 84 => ⟨S_, .i32⟩
  | 85 => ⟨S128x512, .i32⟩
  | 86 => ⟨S128x512, .i1⟩
  | 87 => ⟨S_, .i32⟩
  | 88 => ⟨S128x512, .i32⟩
  | 89 => ⟨S128x512, .i32⟩
  | 90 => ⟨S128x512, .i32⟩
  | 91 => ⟨S128x512x1, .i32⟩
  | 92 => ⟨S128x512x1, .i32⟩
  | 93 => ⟨S128x512x2, .i32⟩
  | 94 => ⟨S128x32768, .f32⟩
  | _ => ⟨S32768x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call2_c : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_c_0 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_v12 : Ref sig .tc := ⟨.hbm, 53, rfl⟩
abbrev main_call2_call0_v0 : Ref sig .tc := ⟨.hbm, 54, rfl⟩
abbrev main_call2_call0_c : Ref sig .tc := ⟨.hbm, 55, rfl⟩
abbrev main_call2_call0_v1 : Ref sig .tc := ⟨.hbm, 56, rfl⟩
abbrev main_call2_call0_v2 : Ref sig .tc := ⟨.hbm, 57, rfl⟩
abbrev main_call2_call0_v3 : Ref sig .tc := ⟨.hbm, 58, rfl⟩
abbrev main_call2_call0_v4 : Ref sig .tc := ⟨.hbm, 59, rfl⟩
abbrev main_call2_call0_v5 : Ref sig .tc := ⟨.hbm, 60, rfl⟩
abbrev main_call2_call0_v6 : Ref sig .tc := ⟨.hbm, 61, rfl⟩
abbrev main_call2_call0_c_0 : Ref sig .tc := ⟨.hbm, 62, rfl⟩
abbrev main_call2_call0_v7 : Ref sig .tc := ⟨.hbm, 63, rfl⟩
abbrev main_call2_call0_v8 : Ref sig .tc := ⟨.hbm, 64, rfl⟩
abbrev main_call2_call0_c_1 : Ref sig .tc := ⟨.hbm, 65, rfl⟩
abbrev main_call2_call0_v9 : Ref sig .tc := ⟨.hbm, 66, rfl⟩
abbrev main_call2_call0_v10 : Ref sig .tc := ⟨.hbm, 67, rfl⟩
abbrev main_call2_call0_v11 : Ref sig .tc := ⟨.hbm, 68, rfl⟩
abbrev main_call2_call0_v12 : Ref sig .tc := ⟨.hbm, 69, rfl⟩
abbrev main_call2_call0_v13 : Ref sig .tc := ⟨.hbm, 70, rfl⟩
abbrev main_call2_call0_c_2 : Ref sig .tc := ⟨.hbm, 71, rfl⟩
abbrev main_call2_call0_v14 : Ref sig .tc := ⟨.hbm, 72, rfl⟩
abbrev main_call2_call0_v15 : Ref sig .tc := ⟨.hbm, 73, rfl⟩
abbrev main_call2_call0_c_3 : Ref sig .tc := ⟨.hbm, 74, rfl⟩
abbrev main_call2_call0_v16 : Ref sig .tc := ⟨.hbm, 75, rfl⟩
abbrev main_call2_call0_v17 : Ref sig .tc := ⟨.hbm, 76, rfl⟩
abbrev main_call2_call0_v18 : Ref sig .tc := ⟨.hbm, 77, rfl⟩
abbrev main_call2_call0_v19 : Ref sig .tc := ⟨.hbm, 78, rfl⟩
abbrev main_call2_call0_v20 : Ref sig .tc := ⟨.hbm, 79, rfl⟩
abbrev main_call2_call0_c_4 : Ref sig .tc := ⟨.hbm, 80, rfl⟩
abbrev main_call2_call0_v21 : Ref sig .tc := ⟨.hbm, 81, rfl⟩
abbrev main_call2_call0_v22 : Ref sig .tc := ⟨.hbm, 82, rfl⟩
abbrev main_call2_call0_c_5 : Ref sig .tc := ⟨.hbm, 83, rfl⟩
abbrev main_call2_call0_v23 : Ref sig .tc := ⟨.hbm, 84, rfl⟩
abbrev main_call2_call0_v24 : Ref sig .tc := ⟨.hbm, 85, rfl⟩
abbrev main_call2_call0_v25 : Ref sig .tc := ⟨.hbm, 86, rfl⟩
abbrev main_call2_call0_v26 : Ref sig .tc := ⟨.hbm, 87, rfl⟩
abbrev main_call2_call0_v27 : Ref sig .tc := ⟨.hbm, 88, rfl⟩
abbrev main_call2_call0_c_6 : Ref sig .tc := ⟨.hbm, 89, rfl⟩
abbrev main_call2_call0_v28 : Ref sig .tc := ⟨.hbm, 90, rfl⟩
abbrev main_call2_call0_v29 : Ref sig .tc := ⟨.hbm, 91, rfl⟩
abbrev main_call2_call0_c_7 : Ref sig .tc := ⟨.hbm, 92, rfl⟩
abbrev main_call2_call0_v30 : Ref sig .tc := ⟨.hbm, 93, rfl⟩
abbrev main_call2_call0_v31 : Ref sig .tc := ⟨.hbm, 94, rfl⟩
abbrev main_call2_call0_v32 : Ref sig .tc := ⟨.hbm, 95, rfl⟩
abbrev main_call2_call0_v33 : Ref sig .tc := ⟨.hbm, 96, rfl⟩
abbrev main_call2_call0_v34 : Ref sig .tc := ⟨.hbm, 97, rfl⟩
abbrev main_call2_call0_v35 : Ref sig .tc := ⟨.hbm, 98, rfl⟩
abbrev main_call2_call0_v36 : Ref sig .tc := ⟨.hbm, 99, rfl⟩
abbrev main_call2_call0_v37 : Ref sig .tc := ⟨.hbm, 100, rfl⟩
abbrev main_call2_call0_c_8 : Ref sig .tc := ⟨.hbm, 101, rfl⟩
abbrev main_call2_call0_v38 : Ref sig .tc := ⟨.hbm, 102, rfl⟩
abbrev main_call2_call0_v39 : Ref sig .tc := ⟨.hbm, 103, rfl⟩
abbrev main_call2_call0_v40 : Ref sig .tc := ⟨.hbm, 104, rfl⟩
abbrev main_call2_call0_c_9 : Ref sig .tc := ⟨.hbm, 105, rfl⟩
abbrev main_call2_call0_v41 : Ref sig .tc := ⟨.hbm, 106, rfl⟩
abbrev main_call2_call0_v42 : Ref sig .tc := ⟨.hbm, 107, rfl⟩
abbrev main_call2_call0_c_10 : Ref sig .tc := ⟨.hbm, 108, rfl⟩
abbrev main_call2_call0_v43 : Ref sig .tc := ⟨.hbm, 109, rfl⟩
abbrev main_call2_call0_v44 : Ref sig .tc := ⟨.hbm, 110, rfl⟩
abbrev main_call2_call0_v45 : Ref sig .tc := ⟨.hbm, 111, rfl⟩
abbrev main_call2_call0_v46 : Ref sig .tc := ⟨.hbm, 112, rfl⟩
abbrev main_call2_call0_v47 : Ref sig .tc := ⟨.hbm, 113, rfl⟩
abbrev main_call2_call0_c_11 : Ref sig .tc := ⟨.hbm, 114, rfl⟩
abbrev main_call2_call0_v48 : Ref sig .tc := ⟨.hbm, 115, rfl⟩
abbrev main_call2_call0_v49 : Ref sig .tc := ⟨.hbm, 116, rfl⟩
abbrev main_call2_call0_c_12 : Ref sig .tc := ⟨.hbm, 117, rfl⟩
abbrev main_call2_call0_v50 : Ref sig .tc := ⟨.hbm, 118, rfl⟩
abbrev main_call2_call0_v51 : Ref sig .tc := ⟨.hbm, 119, rfl⟩
abbrev main_call2_call0_v52 : Ref sig .tc := ⟨.hbm, 120, rfl⟩
abbrev main_call2_call0_v53 : Ref sig .tc := ⟨.hbm, 121, rfl⟩
abbrev main_call2_call0_v54 : Ref sig .tc := ⟨.hbm, 122, rfl⟩
abbrev main_call2_call0_c_13 : Ref sig .tc := ⟨.hbm, 123, rfl⟩
abbrev main_call2_call0_v55 : Ref sig .tc := ⟨.hbm, 124, rfl⟩
abbrev main_call2_call0_v56 : Ref sig .tc := ⟨.hbm, 125, rfl⟩
abbrev main_call2_call0_c_14 : Ref sig .tc := ⟨.hbm, 126, rfl⟩
abbrev main_call2_call0_v57 : Ref sig .tc := ⟨.hbm, 127, rfl⟩
abbrev main_call2_call0_v58 : Ref sig .tc := ⟨.hbm, 128, rfl⟩
abbrev main_call2_call0_v59 : Ref sig .tc := ⟨.hbm, 129, rfl⟩
abbrev main_call2_call0_v60 : Ref sig .tc := ⟨.hbm, 130, rfl⟩
abbrev main_call2_call0_v61 : Ref sig .tc := ⟨.hbm, 131, rfl⟩
abbrev main_call2_call0_c_15 : Ref sig .tc := ⟨.hbm, 132, rfl⟩
abbrev main_call2_call0_v62 : Ref sig .tc := ⟨.hbm, 133, rfl⟩
abbrev main_call2_call0_v63 : Ref sig .tc := ⟨.hbm, 134, rfl⟩
abbrev main_call2_call0_c_16 : Ref sig .tc := ⟨.hbm, 135, rfl⟩
abbrev main_call2_call0_v64 : Ref sig .tc := ⟨.hbm, 136, rfl⟩
abbrev main_call2_call0_v65 : Ref sig .tc := ⟨.hbm, 137, rfl⟩
abbrev main_call2_call0_v66 : Ref sig .tc := ⟨.hbm, 138, rfl⟩
abbrev main_call2_call0_v67 : Ref sig .tc := ⟨.hbm, 139, rfl⟩
abbrev main_call2_call0_v68 : Ref sig .tc := ⟨.hbm, 140, rfl⟩
abbrev main_call2_call0_v69 : Ref sig .tc := ⟨.hbm, 141, rfl⟩
abbrev main_call2_call0_v70 : Ref sig .tc := ⟨.hbm, 142, rfl⟩
abbrev main_call2_call0_v71 : Ref sig .tc := ⟨.hbm, 143, rfl⟩
abbrev main_call2_call0_c_17 : Ref sig .tc := ⟨.hbm, 144, rfl⟩
abbrev main_call2_call0_v72 : Ref sig .tc := ⟨.hbm, 145, rfl⟩
abbrev main_call2_call0_v73 : Ref sig .tc := ⟨.hbm, 146, rfl⟩
abbrev main_call2_call0_v74 : Ref sig .tc := ⟨.hbm, 147, rfl⟩
abbrev main_call2_call0_c_18 : Ref sig .tc := ⟨.hbm, 148, rfl⟩
abbrev main_call2_call0_v75 : Ref sig .tc := ⟨.hbm, 149, rfl⟩
abbrev main_call2_call0_v76 : Ref sig .tc := ⟨.hbm, 150, rfl⟩
abbrev main_call2_call0_c_19 : Ref sig .tc := ⟨.hbm, 151, rfl⟩
abbrev main_call2_call0_v77 : Ref sig .tc := ⟨.hbm, 152, rfl⟩
abbrev main_call2_call0_v78 : Ref sig .tc := ⟨.hbm, 153, rfl⟩
abbrev main_call2_call0_v79 : Ref sig .tc := ⟨.hbm, 154, rfl⟩
abbrev main_call2_call0_v80 : Ref sig .tc := ⟨.hbm, 155, rfl⟩
abbrev main_call2_call0_v81 : Ref sig .tc := ⟨.hbm, 156, rfl⟩
abbrev main_call2_call0_c_20 : Ref sig .tc := ⟨.hbm, 157, rfl⟩
abbrev main_call2_call0_v82 : Ref sig .tc := ⟨.hbm, 158, rfl⟩
abbrev main_call2_call0_v83 : Ref sig .tc := ⟨.hbm, 159, rfl⟩
abbrev main_call2_call0_c_21 : Ref sig .tc := ⟨.hbm, 160, rfl⟩
abbrev main_call2_call0_v84 : Ref sig .tc := ⟨.hbm, 161, rfl⟩
abbrev main_call2_call0_v85 : Ref sig .tc := ⟨.hbm, 162, rfl⟩
abbrev main_call2_call0_v86 : Ref sig .tc := ⟨.hbm, 163, rfl⟩
abbrev main_call2_call0_v87 : Ref sig .tc := ⟨.hbm, 164, rfl⟩
abbrev main_call2_call0_v88 : Ref sig .tc := ⟨.hbm, 165, rfl⟩
abbrev main_call2_call0_c_22 : Ref sig .tc := ⟨.hbm, 166, rfl⟩
abbrev main_call2_call0_v89 : Ref sig .tc := ⟨.hbm, 167, rfl⟩
abbrev main_call2_call0_v90 : Ref sig .tc := ⟨.hbm, 168, rfl⟩
abbrev main_call2_call0_c_23 : Ref sig .tc := ⟨.hbm, 169, rfl⟩
abbrev main_call2_call0_v91 : Ref sig .tc := ⟨.hbm, 170, rfl⟩
abbrev main_call2_call0_v92 : Ref sig .tc := ⟨.hbm, 171, rfl⟩
abbrev main_call2_call0_v93 : Ref sig .tc := ⟨.hbm, 172, rfl⟩
abbrev main_call2_call0_v94 : Ref sig .tc := ⟨.hbm, 173, rfl⟩
abbrev main_call2_call0_v95 : Ref sig .tc := ⟨.hbm, 174, rfl⟩
abbrev main_call2_call0_c_24 : Ref sig .tc := ⟨.hbm, 175, rfl⟩
abbrev main_call2_call0_v96 : Ref sig .tc := ⟨.hbm, 176, rfl⟩
abbrev main_call2_call0_v97 : Ref sig .tc := ⟨.hbm, 177, rfl⟩
abbrev main_call2_call0_c_25 : Ref sig .tc := ⟨.hbm, 178, rfl⟩
abbrev main_call2_call0_v98 : Ref sig .tc := ⟨.hbm, 179, rfl⟩
abbrev main_call2_call0_v99 : Ref sig .tc := ⟨.hbm, 180, rfl⟩
abbrev main_call2_call0_v100 : Ref sig .tc := ⟨.hbm, 181, rfl⟩
abbrev main_call2_call0_v101 : Ref sig .tc := ⟨.hbm, 182, rfl⟩
abbrev main_call2_call0_v102 : Ref sig .tc := ⟨.hbm, 183, rfl⟩
abbrev main_call2_call0_v103 : Ref sig .tc := ⟨.hbm, 184, rfl⟩
abbrev main_call2_call0_v104 : Ref sig .tc := ⟨.hbm, 185, rfl⟩
abbrev main_call2_call0_v105 : Ref sig .tc := ⟨.hbm, 186, rfl⟩
abbrev main_call2_call0_c_26 : Ref sig .tc := ⟨.hbm, 187, rfl⟩
abbrev main_call2_call0_v106 : Ref sig .tc := ⟨.hbm, 188, rfl⟩
abbrev main_call2_call0_v107 : Ref sig .tc := ⟨.hbm, 189, rfl⟩
abbrev main_call2_call0_v108 : Ref sig .tc := ⟨.hbm, 190, rfl⟩
abbrev main_call2_call0_c_27 : Ref sig .tc := ⟨.hbm, 191, rfl⟩
abbrev main_call2_call0_v109 : Ref sig .tc := ⟨.hbm, 192, rfl⟩
abbrev main_call2_call0_v110 : Ref sig .tc := ⟨.hbm, 193, rfl⟩
abbrev main_call2_call0_c_28 : Ref sig .tc := ⟨.hbm, 194, rfl⟩
abbrev main_call2_call0_v111 : Ref sig .tc := ⟨.hbm, 195, rfl⟩
abbrev main_call2_call0_v112 : Ref sig .tc := ⟨.hbm, 196, rfl⟩
abbrev main_call2_call0_v113 : Ref sig .tc := ⟨.hbm, 197, rfl⟩
abbrev main_call2_call0_v114 : Ref sig .tc := ⟨.hbm, 198, rfl⟩
abbrev main_call2_call0_v115 : Ref sig .tc := ⟨.hbm, 199, rfl⟩
abbrev main_call2_call0_c_29 : Ref sig .tc := ⟨.hbm, 200, rfl⟩
abbrev main_call2_call0_v116 : Ref sig .tc := ⟨.hbm, 201, rfl⟩
abbrev main_call2_call0_v117 : Ref sig .tc := ⟨.hbm, 202, rfl⟩
abbrev main_call2_call0_c_30 : Ref sig .tc := ⟨.hbm, 203, rfl⟩
abbrev main_call2_call0_v118 : Ref sig .tc := ⟨.hbm, 204, rfl⟩
abbrev main_call2_call0_v119 : Ref sig .tc := ⟨.hbm, 205, rfl⟩
abbrev main_call2_call0_v120 : Ref sig .tc := ⟨.hbm, 206, rfl⟩
abbrev main_call2_call0_v121 : Ref sig .tc := ⟨.hbm, 207, rfl⟩
abbrev main_call2_call0_v122 : Ref sig .tc := ⟨.hbm, 208, rfl⟩
abbrev main_call2_call0_c_31 : Ref sig .tc := ⟨.hbm, 209, rfl⟩
abbrev main_call2_call0_v123 : Ref sig .tc := ⟨.hbm, 210, rfl⟩
abbrev main_call2_call0_v124 : Ref sig .tc := ⟨.hbm, 211, rfl⟩
abbrev main_call2_call0_c_32 : Ref sig .tc := ⟨.hbm, 212, rfl⟩
abbrev main_call2_call0_v125 : Ref sig .tc := ⟨.hbm, 213, rfl⟩
abbrev main_call2_call0_v126 : Ref sig .tc := ⟨.hbm, 214, rfl⟩
abbrev main_call2_call0_v127 : Ref sig .tc := ⟨.hbm, 215, rfl⟩
abbrev main_call2_call0_v128 : Ref sig .tc := ⟨.hbm, 216, rfl⟩
abbrev main_call2_call0_v129 : Ref sig .tc := ⟨.hbm, 217, rfl⟩
abbrev main_call2_call0_c_33 : Ref sig .tc := ⟨.hbm, 218, rfl⟩
abbrev main_call2_call0_v130 : Ref sig .tc := ⟨.hbm, 219, rfl⟩
abbrev main_call2_call0_v131 : Ref sig .tc := ⟨.hbm, 220, rfl⟩
abbrev main_call2_call0_c_34 : Ref sig .tc := ⟨.hbm, 221, rfl⟩
abbrev main_call2_call0_v132 : Ref sig .tc := ⟨.hbm, 222, rfl⟩
abbrev main_call2_call0_v133 : Ref sig .tc := ⟨.hbm, 223, rfl⟩
abbrev main_call2_call0_v134 : Ref sig .tc := ⟨.hbm, 224, rfl⟩
abbrev main_call2_call0_v135 : Ref sig .tc := ⟨.hbm, 225, rfl⟩
abbrev main_call2_call0_v136 : Ref sig .tc := ⟨.hbm, 226, rfl⟩
abbrev main_call2_call0_v137 : Ref sig .tc := ⟨.hbm, 227, rfl⟩
abbrev main_call2_call0_v138 : Ref sig .tc := ⟨.hbm, 228, rfl⟩
abbrev main_call2_call0_v139 : Ref sig .tc := ⟨.hbm, 229, rfl⟩
abbrev main_call2_call0_c_35 : Ref sig .tc := ⟨.hbm, 230, rfl⟩
abbrev main_call2_call0_v140 : Ref sig .tc := ⟨.hbm, 231, rfl⟩
abbrev main_call2_call0_v141 : Ref sig .tc := ⟨.hbm, 232, rfl⟩
abbrev main_call2_call0_v142 : Ref sig .tc := ⟨.hbm, 233, rfl⟩
abbrev main_call2_call0_c_36 : Ref sig .tc := ⟨.hbm, 234, rfl⟩
abbrev main_call2_call0_v143 : Ref sig .tc := ⟨.hbm, 235, rfl⟩
abbrev main_call2_call0_v144 : Ref sig .tc := ⟨.hbm, 236, rfl⟩
abbrev main_call2_call0_c_37 : Ref sig .tc := ⟨.hbm, 237, rfl⟩
abbrev main_call2_call0_v145 : Ref sig .tc := ⟨.hbm, 238, rfl⟩
abbrev main_call2_call0_v146 : Ref sig .tc := ⟨.hbm, 239, rfl⟩
abbrev main_call2_call0_v147 : Ref sig .tc := ⟨.hbm, 240, rfl⟩
abbrev main_call2_call0_v148 : Ref sig .tc := ⟨.hbm, 241, rfl⟩
abbrev main_call2_call0_v149 : Ref sig .tc := ⟨.hbm, 242, rfl⟩
abbrev main_call2_call0_c_38 : Ref sig .tc := ⟨.hbm, 243, rfl⟩
abbrev main_call2_call0_v150 : Ref sig .tc := ⟨.hbm, 244, rfl⟩
abbrev main_call2_call0_v151 : Ref sig .tc := ⟨.hbm, 245, rfl⟩
abbrev main_call2_call0_c_39 : Ref sig .tc := ⟨.hbm, 246, rfl⟩
abbrev main_call2_call0_v152 : Ref sig .tc := ⟨.hbm, 247, rfl⟩
abbrev main_call2_call0_v153 : Ref sig .tc := ⟨.hbm, 248, rfl⟩
abbrev main_call2_call0_v154 : Ref sig .tc := ⟨.hbm, 249, rfl⟩
abbrev main_call2_call0_v155 : Ref sig .tc := ⟨.hbm, 250, rfl⟩
abbrev main_call2_call0_v156 : Ref sig .tc := ⟨.hbm, 251, rfl⟩
abbrev main_call2_call0_c_40 : Ref sig .tc := ⟨.hbm, 252, rfl⟩
abbrev main_call2_call0_v157 : Ref sig .tc := ⟨.hbm, 253, rfl⟩
abbrev main_call2_call0_v158 : Ref sig .tc := ⟨.hbm, 254, rfl⟩
abbrev main_call2_call0_c_41 : Ref sig .tc := ⟨.hbm, 255, rfl⟩
abbrev main_call2_call0_v159 : Ref sig .tc := ⟨.hbm, 256, rfl⟩
abbrev main_call2_call0_v160 : Ref sig .tc := ⟨.hbm, 257, rfl⟩
abbrev main_call2_call0_v161 : Ref sig .tc := ⟨.hbm, 258, rfl⟩
abbrev main_call2_call0_v162 : Ref sig .tc := ⟨.hbm, 259, rfl⟩
abbrev main_call2_call0_v163 : Ref sig .tc := ⟨.hbm, 260, rfl⟩
abbrev main_call2_call0_c_42 : Ref sig .tc := ⟨.hbm, 261, rfl⟩
abbrev main_call2_call0_v164 : Ref sig .tc := ⟨.hbm, 262, rfl⟩
abbrev main_call2_call0_v165 : Ref sig .tc := ⟨.hbm, 263, rfl⟩
abbrev main_call2_call0_c_43 : Ref sig .tc := ⟨.hbm, 264, rfl⟩
abbrev main_call2_call0_v166 : Ref sig .tc := ⟨.hbm, 265, rfl⟩
abbrev main_call2_call0_v167 : Ref sig .tc := ⟨.hbm, 266, rfl⟩
abbrev main_call2_call0_v168 : Ref sig .tc := ⟨.hbm, 267, rfl⟩
abbrev main_call2_call0_v169 : Ref sig .tc := ⟨.hbm, 268, rfl⟩
abbrev main_call2_call0_v170 : Ref sig .tc := ⟨.hbm, 269, rfl⟩
abbrev main_call2_v13_0 : Ref sig .tc := ⟨.hbm, 270, rfl⟩
abbrev main_call2_call0_v172 : Ref sig .tc := ⟨.hbm, 271, rfl⟩
abbrev main_call2_call0_v173 : Ref sig .tc := ⟨.hbm, 272, rfl⟩
abbrev main_call2_call0_c_44 : Ref sig .tc := ⟨.hbm, 273, rfl⟩
abbrev main_call2_call0_v174 : Ref sig .tc := ⟨.hbm, 274, rfl⟩
abbrev main_call2_v13_1 : Ref sig .tc := ⟨.hbm, 275, rfl⟩
abbrev main_v21 : Ref sig .tc := ⟨.hbm, 276, rfl⟩
abbrev main_cst_3 : Ref sig .tc := ⟨.hbm, 277, rfl⟩
abbrev main_cst_4 : Ref sig .tc := ⟨.hbm, 278, rfl⟩
abbrev main_call3_v0 : Ref sig .tc := ⟨.hbm, 279, rfl⟩
abbrev main_call3_v1 : Ref sig .tc := ⟨.hbm, 280, rfl⟩
abbrev main_call3_v2 : Ref sig .tc := ⟨.hbm, 281, rfl⟩
abbrev main_call3_v3 : Ref sig .tc := ⟨.hbm, 282, rfl⟩
abbrev main_call3_v4 : Ref sig .tc := ⟨.hbm, 283, rfl⟩
abbrev main_call3_v5 : Ref sig .tc := ⟨.hbm, 284, rfl⟩
abbrev main_call3_v6 : Ref sig .tc := ⟨.hbm, 285, rfl⟩
abbrev main_call3_v7 : Ref sig .tc := ⟨.hbm, 286, rfl⟩
abbrev main_call3_v8 : Ref sig .tc := ⟨.hbm, 287, rfl⟩
abbrev main_call3_c : Ref sig .tc := ⟨.hbm, 288, rfl⟩
abbrev main_call3_v9 : Ref sig .tc := ⟨.hbm, 289, rfl⟩
abbrev main_call3_v10 : Ref sig .tc := ⟨.hbm, 290, rfl⟩
abbrev main_call3_c_0 : Ref sig .tc := ⟨.hbm, 291, rfl⟩
abbrev main_call3_v11 : Ref sig .tc := ⟨.hbm, 292, rfl⟩
abbrev main_call3_v12 : Ref sig .tc := ⟨.hbm, 293, rfl⟩
abbrev main_call3_v13 : Ref sig .tc := ⟨.hbm, 294, rfl⟩
abbrev main_call3_v14 : Ref sig .tc := ⟨.hbm, 295, rfl⟩
abbrev main_call3_v15 : Ref sig .tc := ⟨.hbm, 296, rfl⟩
abbrev main_call3_v16 : Ref sig .tc := ⟨.hbm, 297, rfl⟩
abbrev main_call3_v17 : Ref sig .tc := ⟨.hbm, 298, rfl⟩
abbrev main_call3_v18 : Ref sig .tc := ⟨.hbm, 299, rfl⟩
abbrev main_call3_call0_v0 : Ref sig .tc := ⟨.hbm, 300, rfl⟩
abbrev main_call3_call0_c : Ref sig .tc := ⟨.hbm, 301, rfl⟩
abbrev main_call3_call0_v1 : Ref sig .tc := ⟨.hbm, 302, rfl⟩
abbrev main_call3_call0_v2 : Ref sig .tc := ⟨.hbm, 303, rfl⟩
abbrev main_call3_call0_v3 : Ref sig .tc := ⟨.hbm, 304, rfl⟩
abbrev main_call3_call0_v4 : Ref sig .tc := ⟨.hbm, 305, rfl⟩
abbrev main_call3_call0_v5 : Ref sig .tc := ⟨.hbm, 306, rfl⟩
abbrev main_call3_call0_v6 : Ref sig .tc := ⟨.hbm, 307, rfl⟩
abbrev main_call3_call0_v7 : Ref sig .tc := ⟨.hbm, 308, rfl⟩
abbrev main_call3_call0_v8 : Ref sig .tc := ⟨.hbm, 309, rfl⟩
abbrev main_call3_call0_v9 : Ref sig .tc := ⟨.hbm, 310, rfl⟩
abbrev main_call3_call0_c_0 : Ref sig .tc := ⟨.hbm, 311, rfl⟩
abbrev main_call3_call0_v10 : Ref sig .tc := ⟨.hbm, 312, rfl⟩
abbrev main_call3_call0_v11 : Ref sig .tc := ⟨.hbm, 313, rfl⟩
abbrev main_call3_call0_c_1 : Ref sig .tc := ⟨.hbm, 314, rfl⟩
abbrev main_call3_call0_v12 : Ref sig .tc := ⟨.hbm, 315, rfl⟩
abbrev main_call3_call0_v13 : Ref sig .tc := ⟨.hbm, 316, rfl⟩
abbrev main_call3_call0_v14 : Ref sig .tc := ⟨.hbm, 317, rfl⟩
abbrev main_call3_call0_v15 : Ref sig .tc := ⟨.hbm, 318, rfl⟩
abbrev main_call3_call0_v16 : Ref sig .tc := ⟨.hbm, 319, rfl⟩
abbrev main_call3_call0_c_2 : Ref sig .tc := ⟨.hbm, 320, rfl⟩
abbrev main_call3_call0_v17 : Ref sig .tc := ⟨.hbm, 321, rfl⟩
abbrev main_call3_call0_v18 : Ref sig .tc := ⟨.hbm, 322, rfl⟩
abbrev main_call3_call0_c_3 : Ref sig .tc := ⟨.hbm, 323, rfl⟩
abbrev main_call3_call0_v19 : Ref sig .tc := ⟨.hbm, 324, rfl⟩
abbrev main_call3_call0_v20 : Ref sig .tc := ⟨.hbm, 325, rfl⟩
abbrev main_call3_call0_v21 : Ref sig .tc := ⟨.hbm, 326, rfl⟩
abbrev main_call3_call0_v22 : Ref sig .tc := ⟨.hbm, 327, rfl⟩
abbrev main_call3_call0_v23 : Ref sig .tc := ⟨.hbm, 328, rfl⟩
abbrev main_call3_call0_c_4 : Ref sig .tc := ⟨.hbm, 329, rfl⟩
abbrev main_call3_call0_v24 : Ref sig .tc := ⟨.hbm, 330, rfl⟩
abbrev main_call3_call0_v25 : Ref sig .tc := ⟨.hbm, 331, rfl⟩
abbrev main_call3_call0_c_5 : Ref sig .tc := ⟨.hbm, 332, rfl⟩
abbrev main_call3_call0_v26 : Ref sig .tc := ⟨.hbm, 333, rfl⟩
abbrev main_call3_call0_v27 : Ref sig .tc := ⟨.hbm, 334, rfl⟩
abbrev main_call3_call0_v28 : Ref sig .tc := ⟨.hbm, 335, rfl⟩
abbrev main_call3_call0_v29 : Ref sig .tc := ⟨.hbm, 336, rfl⟩
abbrev main_call3_call0_v30 : Ref sig .tc := ⟨.hbm, 337, rfl⟩
abbrev main_call3_call0_c_6 : Ref sig .tc := ⟨.hbm, 338, rfl⟩
abbrev main_call3_call0_v31 : Ref sig .tc := ⟨.hbm, 339, rfl⟩
abbrev main_call3_call0_v32 : Ref sig .tc := ⟨.hbm, 340, rfl⟩
abbrev main_call3_call0_c_7 : Ref sig .tc := ⟨.hbm, 341, rfl⟩
abbrev main_call3_call0_v33 : Ref sig .tc := ⟨.hbm, 342, rfl⟩
abbrev main_call3_call0_v34 : Ref sig .tc := ⟨.hbm, 343, rfl⟩
abbrev main_call3_call0_v35 : Ref sig .tc := ⟨.hbm, 344, rfl⟩
abbrev main_call3_call0_v36 : Ref sig .tc := ⟨.hbm, 345, rfl⟩
abbrev main_call3_call0_v37 : Ref sig .tc := ⟨.hbm, 346, rfl⟩
abbrev main_call3_call0_v38 : Ref sig .tc := ⟨.hbm, 347, rfl⟩
abbrev main_call3_call0_v39 : Ref sig .tc := ⟨.hbm, 348, rfl⟩
abbrev main_call3_call0_v40 : Ref sig .tc := ⟨.hbm, 349, rfl⟩
abbrev main_call3_call0_c_8 : Ref sig .tc := ⟨.hbm, 350, rfl⟩
abbrev main_call3_call0_v41 : Ref sig .tc := ⟨.hbm, 351, rfl⟩
abbrev main_call3_call0_v42 : Ref sig .tc := ⟨.hbm, 352, rfl⟩
abbrev main_call3_call0_v43 : Ref sig .tc := ⟨.hbm, 353, rfl⟩
abbrev main_call3_call0_c_9 : Ref sig .tc := ⟨.hbm, 354, rfl⟩
abbrev main_call3_call0_v44 : Ref sig .tc := ⟨.hbm, 355, rfl⟩
abbrev main_call3_call0_v45 : Ref sig .tc := ⟨.hbm, 356, rfl⟩
abbrev main_call3_call0_c_10 : Ref sig .tc := ⟨.hbm, 357, rfl⟩
abbrev main_call3_call0_v46 : Ref sig .tc := ⟨.hbm, 358, rfl⟩
abbrev main_call3_call0_v47 : Ref sig .tc := ⟨.hbm, 359, rfl⟩
abbrev main_call3_call0_v48 : Ref sig .tc := ⟨.hbm, 360, rfl⟩
abbrev main_call3_call0_v49 : Ref sig .tc := ⟨.hbm, 361, rfl⟩
abbrev main_call3_call0_v50 : Ref sig .tc := ⟨.hbm, 362, rfl⟩
abbrev main_call3_call0_c_11 : Ref sig .tc := ⟨.hbm, 363, rfl⟩
abbrev main_call3_call0_v51 : Ref sig .tc := ⟨.hbm, 364, rfl⟩
abbrev main_call3_call0_v52 : Ref sig .tc := ⟨.hbm, 365, rfl⟩
abbrev main_call3_call0_c_12 : Ref sig .tc := ⟨.hbm, 366, rfl⟩
abbrev main_call3_call0_v53 : Ref sig .tc := ⟨.hbm, 367, rfl⟩
abbrev main_call3_call0_v54 : Ref sig .tc := ⟨.hbm, 368, rfl⟩
abbrev main_call3_call0_v55 : Ref sig .tc := ⟨.hbm, 369, rfl⟩
abbrev main_call3_call0_v56 : Ref sig .tc := ⟨.hbm, 370, rfl⟩
abbrev main_call3_call0_v57 : Ref sig .tc := ⟨.hbm, 371, rfl⟩
abbrev main_call3_call0_c_13 : Ref sig .tc := ⟨.hbm, 372, rfl⟩
abbrev main_call3_call0_v58 : Ref sig .tc := ⟨.hbm, 373, rfl⟩
abbrev main_call3_call0_v59 : Ref sig .tc := ⟨.hbm, 374, rfl⟩
abbrev main_call3_call0_c_14 : Ref sig .tc := ⟨.hbm, 375, rfl⟩
abbrev main_call3_call0_v60 : Ref sig .tc := ⟨.hbm, 376, rfl⟩
abbrev main_call3_call0_v61 : Ref sig .tc := ⟨.hbm, 377, rfl⟩
abbrev main_call3_call0_v62 : Ref sig .tc := ⟨.hbm, 378, rfl⟩
abbrev main_call3_call0_v63 : Ref sig .tc := ⟨.hbm, 379, rfl⟩
abbrev main_call3_call0_v64 : Ref sig .tc := ⟨.hbm, 380, rfl⟩
abbrev main_call3_call0_c_15 : Ref sig .tc := ⟨.hbm, 381, rfl⟩
abbrev main_call3_call0_v65 : Ref sig .tc := ⟨.hbm, 382, rfl⟩
abbrev main_call3_call0_v66 : Ref sig .tc := ⟨.hbm, 383, rfl⟩
abbrev main_call3_call0_c_16 : Ref sig .tc := ⟨.hbm, 384, rfl⟩
abbrev main_call3_call0_v67 : Ref sig .tc := ⟨.hbm, 385, rfl⟩
abbrev main_call3_call0_v68 : Ref sig .tc := ⟨.hbm, 386, rfl⟩
abbrev main_call3_call0_v69 : Ref sig .tc := ⟨.hbm, 387, rfl⟩
abbrev main_call3_call0_v70 : Ref sig .tc := ⟨.hbm, 388, rfl⟩
abbrev main_call3_call0_v71 : Ref sig .tc := ⟨.hbm, 389, rfl⟩
abbrev main_call3_call0_v72 : Ref sig .tc := ⟨.hbm, 390, rfl⟩
abbrev main_call3_call0_v73 : Ref sig .tc := ⟨.hbm, 391, rfl⟩
abbrev main_call3_call0_v74 : Ref sig .tc := ⟨.hbm, 392, rfl⟩
abbrev main_call3_call0_c_17 : Ref sig .tc := ⟨.hbm, 393, rfl⟩
abbrev main_call3_call0_v75 : Ref sig .tc := ⟨.hbm, 394, rfl⟩
abbrev main_call3_call0_v76 : Ref sig .tc := ⟨.hbm, 395, rfl⟩
abbrev main_call3_call0_v77 : Ref sig .tc := ⟨.hbm, 396, rfl⟩
abbrev main_call3_call0_c_18 : Ref sig .tc := ⟨.hbm, 397, rfl⟩
abbrev main_call3_call0_v78 : Ref sig .tc := ⟨.hbm, 398, rfl⟩
abbrev main_call3_call0_v79 : Ref sig .tc := ⟨.hbm, 399, rfl⟩
abbrev main_call3_call0_c_19 : Ref sig .tc := ⟨.hbm, 400, rfl⟩
abbrev main_call3_call0_v80 : Ref sig .tc := ⟨.hbm, 401, rfl⟩
abbrev main_call3_call0_v81 : Ref sig .tc := ⟨.hbm, 402, rfl⟩
abbrev main_call3_call0_v82 : Ref sig .tc := ⟨.hbm, 403, rfl⟩
abbrev main_call3_call0_v83 : Ref sig .tc := ⟨.hbm, 404, rfl⟩
abbrev main_call3_call0_v84 : Ref sig .tc := ⟨.hbm, 405, rfl⟩
abbrev main_call3_call0_c_20 : Ref sig .tc := ⟨.hbm, 406, rfl⟩
abbrev main_call3_call0_v85 : Ref sig .tc := ⟨.hbm, 407, rfl⟩
abbrev main_call3_call0_v86 : Ref sig .tc := ⟨.hbm, 408, rfl⟩
abbrev main_call3_call0_c_21 : Ref sig .tc := ⟨.hbm, 409, rfl⟩
abbrev main_call3_call0_v87 : Ref sig .tc := ⟨.hbm, 410, rfl⟩
abbrev main_call3_call0_v88 : Ref sig .tc := ⟨.hbm, 411, rfl⟩
abbrev main_call3_call0_v89 : Ref sig .tc := ⟨.hbm, 412, rfl⟩
abbrev main_call3_call0_v90 : Ref sig .tc := ⟨.hbm, 413, rfl⟩
abbrev main_call3_call0_v91 : Ref sig .tc := ⟨.hbm, 414, rfl⟩
abbrev main_call3_call0_c_22 : Ref sig .tc := ⟨.hbm, 415, rfl⟩
abbrev main_call3_call0_v92 : Ref sig .tc := ⟨.hbm, 416, rfl⟩
abbrev main_call3_call0_v93 : Ref sig .tc := ⟨.hbm, 417, rfl⟩
abbrev main_call3_call0_c_23 : Ref sig .tc := ⟨.hbm, 418, rfl⟩
abbrev main_call3_call0_v94 : Ref sig .tc := ⟨.hbm, 419, rfl⟩
abbrev main_call3_call0_v95 : Ref sig .tc := ⟨.hbm, 420, rfl⟩
abbrev main_call3_call0_v96 : Ref sig .tc := ⟨.hbm, 421, rfl⟩
abbrev main_call3_call0_v97 : Ref sig .tc := ⟨.hbm, 422, rfl⟩
abbrev main_call3_call0_v98 : Ref sig .tc := ⟨.hbm, 423, rfl⟩
abbrev main_call3_call0_c_24 : Ref sig .tc := ⟨.hbm, 424, rfl⟩
abbrev main_call3_call0_v99 : Ref sig .tc := ⟨.hbm, 425, rfl⟩
abbrev main_call3_call0_v100 : Ref sig .tc := ⟨.hbm, 426, rfl⟩
abbrev main_call3_call0_c_25 : Ref sig .tc := ⟨.hbm, 427, rfl⟩
abbrev main_call3_call0_v101 : Ref sig .tc := ⟨.hbm, 428, rfl⟩
abbrev main_call3_call0_v102 : Ref sig .tc := ⟨.hbm, 429, rfl⟩
abbrev main_call3_call0_v103 : Ref sig .tc := ⟨.hbm, 430, rfl⟩
abbrev main_call3_call0_v104 : Ref sig .tc := ⟨.hbm, 431, rfl⟩
abbrev main_call3_call0_v105 : Ref sig .tc := ⟨.hbm, 432, rfl⟩
abbrev main_call3_call0_v106 : Ref sig .tc := ⟨.hbm, 433, rfl⟩
abbrev main_call3_call0_v107 : Ref sig .tc := ⟨.hbm, 434, rfl⟩
abbrev main_call3_call0_v108 : Ref sig .tc := ⟨.hbm, 435, rfl⟩
abbrev main_call3_call0_c_26 : Ref sig .tc := ⟨.hbm, 436, rfl⟩
abbrev main_call3_call0_v109 : Ref sig .tc := ⟨.hbm, 437, rfl⟩
abbrev main_call3_call0_v110 : Ref sig .tc := ⟨.hbm, 438, rfl⟩
abbrev main_call3_call0_v111 : Ref sig .tc := ⟨.hbm, 439, rfl⟩
abbrev main_call3_call0_c_27 : Ref sig .tc := ⟨.hbm, 440, rfl⟩
abbrev main_call3_call0_v112 : Ref sig .tc := ⟨.hbm, 441, rfl⟩
abbrev main_call3_call0_v113 : Ref sig .tc := ⟨.hbm, 442, rfl⟩
abbrev main_call3_call0_c_28 : Ref sig .tc := ⟨.hbm, 443, rfl⟩
abbrev main_call3_call0_v114 : Ref sig .tc := ⟨.hbm, 444, rfl⟩
abbrev main_call3_call0_v115 : Ref sig .tc := ⟨.hbm, 445, rfl⟩
abbrev main_call3_call0_v116 : Ref sig .tc := ⟨.hbm, 446, rfl⟩
abbrev main_call3_call0_v117 : Ref sig .tc := ⟨.hbm, 447, rfl⟩
abbrev main_call3_call0_v118 : Ref sig .tc := ⟨.hbm, 448, rfl⟩
abbrev main_call3_call0_c_29 : Ref sig .tc := ⟨.hbm, 449, rfl⟩
abbrev main_call3_call0_v119 : Ref sig .tc := ⟨.hbm, 450, rfl⟩
abbrev main_call3_call0_v120 : Ref sig .tc := ⟨.hbm, 451, rfl⟩
abbrev main_call3_call0_c_30 : Ref sig .tc := ⟨.hbm, 452, rfl⟩
abbrev main_call3_call0_v121 : Ref sig .tc := ⟨.hbm, 453, rfl⟩
abbrev main_call3_call0_v122 : Ref sig .tc := ⟨.hbm, 454, rfl⟩
abbrev main_call3_call0_v123 : Ref sig .tc := ⟨.hbm, 455, rfl⟩
abbrev main_call3_call0_v124 : Ref sig .tc := ⟨.hbm, 456, rfl⟩
abbrev main_call3_call0_v125 : Ref sig .tc := ⟨.hbm, 457, rfl⟩
abbrev main_call3_call0_c_31 : Ref sig .tc := ⟨.hbm, 458, rfl⟩
abbrev main_call3_call0_v126 : Ref sig .tc := ⟨.hbm, 459, rfl⟩
abbrev main_call3_call0_v127 : Ref sig .tc := ⟨.hbm, 460, rfl⟩
abbrev main_call3_call0_c_32 : Ref sig .tc := ⟨.hbm, 461, rfl⟩
abbrev main_call3_call0_v128 : Ref sig .tc := ⟨.hbm, 462, rfl⟩
abbrev main_call3_call0_v129 : Ref sig .tc := ⟨.hbm, 463, rfl⟩
abbrev main_call3_call0_v130 : Ref sig .tc := ⟨.hbm, 464, rfl⟩
abbrev main_call3_call0_v131 : Ref sig .tc := ⟨.hbm, 465, rfl⟩
abbrev main_call3_call0_v132 : Ref sig .tc := ⟨.hbm, 466, rfl⟩
abbrev main_call3_call0_c_33 : Ref sig .tc := ⟨.hbm, 467, rfl⟩
abbrev main_call3_call0_v133 : Ref sig .tc := ⟨.hbm, 468, rfl⟩
abbrev main_call3_call0_v134 : Ref sig .tc := ⟨.hbm, 469, rfl⟩
abbrev main_call3_call0_c_34 : Ref sig .tc := ⟨.hbm, 470, rfl⟩
abbrev main_call3_call0_v135 : Ref sig .tc := ⟨.hbm, 471, rfl⟩
abbrev main_call3_call0_v136 : Ref sig .tc := ⟨.hbm, 472, rfl⟩
abbrev main_call3_call0_v137 : Ref sig .tc := ⟨.hbm, 473, rfl⟩
abbrev main_call3_call0_v138 : Ref sig .tc := ⟨.hbm, 474, rfl⟩
abbrev main_call3_call0_v139 : Ref sig .tc := ⟨.hbm, 475, rfl⟩
abbrev main_call3_call0_v140 : Ref sig .tc := ⟨.hbm, 476, rfl⟩
abbrev main_call3_call0_v141 : Ref sig .tc := ⟨.hbm, 477, rfl⟩
abbrev main_call3_call0_v142 : Ref sig .tc := ⟨.hbm, 478, rfl⟩
abbrev main_call3_call0_c_35 : Ref sig .tc := ⟨.hbm, 479, rfl⟩
abbrev main_call3_call0_v143 : Ref sig .tc := ⟨.hbm, 480, rfl⟩
abbrev main_call3_call0_v144 : Ref sig .tc := ⟨.hbm, 481, rfl⟩
abbrev main_call3_call0_v145 : Ref sig .tc := ⟨.hbm, 482, rfl⟩
abbrev main_call3_call0_c_36 : Ref sig .tc := ⟨.hbm, 483, rfl⟩
abbrev main_call3_call0_v146 : Ref sig .tc := ⟨.hbm, 484, rfl⟩
abbrev main_call3_call0_v147 : Ref sig .tc := ⟨.hbm, 485, rfl⟩
abbrev main_call3_call0_c_37 : Ref sig .tc := ⟨.hbm, 486, rfl⟩
abbrev main_call3_call0_v148 : Ref sig .tc := ⟨.hbm, 487, rfl⟩
abbrev main_call3_call0_v149 : Ref sig .tc := ⟨.hbm, 488, rfl⟩
abbrev main_call3_call0_v150 : Ref sig .tc := ⟨.hbm, 489, rfl⟩
abbrev main_call3_call0_v151 : Ref sig .tc := ⟨.hbm, 490, rfl⟩
abbrev main_call3_call0_v152 : Ref sig .tc := ⟨.hbm, 491, rfl⟩
abbrev main_call3_call0_c_38 : Ref sig .tc := ⟨.hbm, 492, rfl⟩
abbrev main_call3_call0_v153 : Ref sig .tc := ⟨.hbm, 493, rfl⟩
abbrev main_call3_call0_v154 : Ref sig .tc := ⟨.hbm, 494, rfl⟩
abbrev main_call3_call0_c_39 : Ref sig .tc := ⟨.hbm, 495, rfl⟩
abbrev main_call3_call0_v155 : Ref sig .tc := ⟨.hbm, 496, rfl⟩
abbrev main_call3_call0_v156 : Ref sig .tc := ⟨.hbm, 497, rfl⟩
abbrev main_call3_call0_v157 : Ref sig .tc := ⟨.hbm, 498, rfl⟩
abbrev main_call3_call0_v158 : Ref sig .tc := ⟨.hbm, 499, rfl⟩
abbrev main_call3_call0_v159 : Ref sig .tc := ⟨.hbm, 500, rfl⟩
abbrev main_call3_call0_c_40 : Ref sig .tc := ⟨.hbm, 501, rfl⟩
abbrev main_call3_call0_v160 : Ref sig .tc := ⟨.hbm, 502, rfl⟩
abbrev main_call3_call0_v161 : Ref sig .tc := ⟨.hbm, 503, rfl⟩
abbrev main_call3_call0_c_41 : Ref sig .tc := ⟨.hbm, 504, rfl⟩
abbrev main_call3_call0_v162 : Ref sig .tc := ⟨.hbm, 505, rfl⟩
abbrev main_call3_call0_v163 : Ref sig .tc := ⟨.hbm, 506, rfl⟩
abbrev main_call3_call0_v164 : Ref sig .tc := ⟨.hbm, 507, rfl⟩
abbrev main_call3_call0_v165 : Ref sig .tc := ⟨.hbm, 508, rfl⟩
abbrev main_call3_call0_v166 : Ref sig .tc := ⟨.hbm, 509, rfl⟩
abbrev main_call3_call0_c_42 : Ref sig .tc := ⟨.hbm, 510, rfl⟩
abbrev main_call3_call0_v167 : Ref sig .tc := ⟨.hbm, 511, rfl⟩
abbrev main_call3_call0_v168 : Ref sig .tc := ⟨.hbm, 512, rfl⟩
abbrev main_call3_call0_c_43 : Ref sig .tc := ⟨.hbm, 513, rfl⟩
abbrev main_call3_call0_v169 : Ref sig .tc := ⟨.hbm, 514, rfl⟩
abbrev main_call3_call0_v170 : Ref sig .tc := ⟨.hbm, 515, rfl⟩
abbrev main_call3_call0_v171 : Ref sig .tc := ⟨.hbm, 516, rfl⟩
abbrev main_call3_call0_v172 : Ref sig .tc := ⟨.hbm, 517, rfl⟩
abbrev main_call3_call0_v173 : Ref sig .tc := ⟨.hbm, 518, rfl⟩
abbrev main_call3_v19_0 : Ref sig .tc := ⟨.hbm, 519, rfl⟩
abbrev main_call3_call0_v175 : Ref sig .tc := ⟨.hbm, 520, rfl⟩
abbrev main_call3_call0_v176 : Ref sig .tc := ⟨.hbm, 521, rfl⟩
abbrev main_call3_call0_c_44 : Ref sig .tc := ⟨.hbm, 522, rfl⟩
abbrev main_call3_call0_v177 : Ref sig .tc := ⟨.hbm, 523, rfl⟩
abbrev main_call3_v19_1 : Ref sig .tc := ⟨.hbm, 524, rfl⟩
abbrev main_call3_v20 : Ref sig .tc := ⟨.hbm, 525, rfl⟩
abbrev main_call3_c_1 : Ref sig .tc := ⟨.hbm, 526, rfl⟩
abbrev main_call3_v21 : Ref sig .tc := ⟨.hbm, 527, rfl⟩
abbrev main_call3_v22 : Ref sig .tc := ⟨.hbm, 528, rfl⟩
abbrev main_call3_c_2 : Ref sig .tc := ⟨.hbm, 529, rfl⟩
abbrev main_call3_v23 : Ref sig .tc := ⟨.hbm, 530, rfl⟩
abbrev main_call3_v24 : Ref sig .tc := ⟨.hbm, 531, rfl⟩
abbrev main_call3_v25 : Ref sig .tc := ⟨.hbm, 532, rfl⟩
abbrev main_call3_cst : Ref sig .tc := ⟨.hbm, 533, rfl⟩
abbrev main_call3_v26 : Ref sig .tc := ⟨.hbm, 534, rfl⟩
abbrev main_call3_v27 : Ref sig .tc := ⟨.hbm, 535, rfl⟩
abbrev main_call3_v28 : Ref sig .tc := ⟨.hbm, 536, rfl⟩
abbrev main_call3_v29 : Ref sig .tc := ⟨.hbm, 537, rfl⟩
abbrev main_call3_v30 : Ref sig .tc := ⟨.hbm, 538, rfl⟩
abbrev main_call3_v31 : Ref sig .tc := ⟨.hbm, 539, rfl⟩
abbrev main_call3_v32 : Ref sig .tc := ⟨.hbm, 540, rfl⟩
abbrev main_call3_v33 : Ref sig .tc := ⟨.hbm, 541, rfl⟩
abbrev main_call3_v34 : Ref sig .tc := ⟨.hbm, 542, rfl⟩
abbrev main_call3_v35 : Ref sig .tc := ⟨.hbm, 543, rfl⟩
abbrev main_call3_v36 : Ref sig .tc := ⟨.hbm, 544, rfl⟩
abbrev main_v22 : Ref sig .tc := ⟨.hbm, 545, rfl⟩
abbrev main_cst_5 : Ref sig .tc := ⟨.hbm, 546, rfl⟩
abbrev main_v23 : Ref sig .tc := ⟨.hbm, 547, rfl⟩
abbrev main_v24 : Ref sig .tc := ⟨.hbm, 548, rfl⟩
abbrev main_v25 : Ref sig .tc := ⟨.hbm, 549, rfl⟩
abbrev main_v26 : Ref sig .tc := ⟨.hbm, 550, rfl⟩
abbrev main_cst_6 : Ref sig .tc := ⟨.hbm, 551, rfl⟩
abbrev main_v27 : Ref sig .tc := ⟨.hbm, 552, rfl⟩
abbrev main_v28 : Ref sig .tc := ⟨.hbm, 553, rfl⟩
abbrev main_v29 : Ref sig .tc := ⟨.hbm, 554, rfl⟩
abbrev main_v30 : Ref sig .tc := ⟨.hbm, 555, rfl⟩
abbrev main_c_7 : Ref sig .tc := ⟨.hbm, 556, rfl⟩
abbrev main_v31 : Ref sig .tc := ⟨.hbm, 557, rfl⟩
abbrev main_cst_8 : Ref sig .tc := ⟨.hbm, 558, rfl⟩
abbrev main_v32 : Ref sig .tc := ⟨.hbm, 559, rfl⟩
abbrev main_c_9 : Ref sig .tc := ⟨.hbm, 560, rfl⟩
abbrev main_v33 : Ref sig .tc := ⟨.hbm, 561, rfl⟩
abbrev main_cst_10 : Ref sig .tc := ⟨.hbm, 562, rfl⟩
abbrev main_v34 : Ref sig .tc := ⟨.hbm, 563, rfl⟩
abbrev main_c_11 : Ref sig .tc := ⟨.hbm, 564, rfl⟩
abbrev main_v35 : Ref sig .tc := ⟨.hbm, 565, rfl⟩
abbrev main_cst_12 : Ref sig .tc := ⟨.hbm, 566, rfl⟩
abbrev main_v36 : Ref sig .tc := ⟨.hbm, 567, rfl⟩
abbrev main_cst_13 : Ref sig .tc := ⟨.hbm, 568, rfl⟩
abbrev main_v37 : Ref sig .tc := ⟨.hbm, 569, rfl⟩
abbrev main_c_14 : Ref sig .tc := ⟨.hbm, 570, rfl⟩
abbrev main_v38_0 : Ref sig .tc := ⟨.hbm, 571, rfl⟩
abbrev main_v38_1 : Ref sig .tc := ⟨.hbm, 572, rfl⟩
abbrev main_v38_2 : Ref sig .tc := ⟨.hbm, 573, rfl⟩
abbrev main_v38_3 : Ref sig .tc := ⟨.hbm, 574, rfl⟩
abbrev main_v38_4 : Ref sig .tc := ⟨.hbm, 575, rfl⟩
abbrev main_v38_5 : Ref sig .tc := ⟨.hbm, 576, rfl⟩
abbrev main_v38_6 : Ref sig .tc := ⟨.hbm, 577, rfl⟩
abbrev main_v38_7 : Ref sig .tc := ⟨.hbm, 578, rfl⟩
abbrev main_v38_8 : Ref sig .tc := ⟨.hbm, 579, rfl⟩
abbrev main_v38_9 : Ref sig .tc := ⟨.hbm, 580, rfl⟩
abbrev main_v38_10 : Ref sig .tc := ⟨.hbm, 581, rfl⟩
abbrev main_v38_11 : Ref sig .tc := ⟨.hbm, 582, rfl⟩
abbrev main_v38_12 : Ref sig .tc := ⟨.hbm, 583, rfl⟩
abbrev main_while0c_c_37 : Ref sig .tc := ⟨.hbm, 584, rfl⟩
abbrev main_while0c_v72 : Ref sig .tc := ⟨.hbm, 585, rfl⟩
abbrev main_while0b_call4_c : Ref sig .tc := ⟨.hbm, 586, rfl⟩
abbrev main_while0b_call4_v0 : Ref sig .tc := ⟨.hbm, 587, rfl⟩
abbrev main_while0b_v72 : Ref sig .tc := ⟨.hbm, 588, rfl⟩
abbrev main_while0b_call5_c : Ref sig .tc := ⟨.hbm, 589, rfl⟩
abbrev main_while0b_call5_v0 : Ref sig .tc := ⟨.hbm, 590, rfl⟩
abbrev main_while0b_v73 : Ref sig .tc := ⟨.hbm, 591, rfl⟩
abbrev main_while0b_cst_37 : Ref sig .tc := ⟨.hbm, 592, rfl⟩
abbrev main_while0b_call6_v0 : Ref sig .tc := ⟨.hbm, 593, rfl⟩
abbrev main_while0b_v74 : Ref sig .tc := ⟨.hbm, 594, rfl⟩
abbrev main_while0b_values : Ref sig .tc := ⟨.hbm, 595, rfl⟩
abbrev main_while0b_indices : Ref sig .tc := ⟨.hbm, 596, rfl⟩
abbrev main_while0b_v75 : Ref sig .tc := ⟨.hbm, 597, rfl⟩
abbrev main_while0b_v76 : Ref sig .tc := ⟨.hbm, 598, rfl⟩
abbrev main_while0b_v77 : Ref sig .tc := ⟨.hbm, 599, rfl⟩
abbrev main_while0b_v78 : Ref sig .tc := ⟨.hbm, 600, rfl⟩
abbrev main_while0b_cst_38 : Ref sig .tc := ⟨.hbm, 601, rfl⟩
abbrev main_while0b_v79 : Ref sig .tc := ⟨.hbm, 602, rfl⟩
abbrev main_while0b_cst_39 : Ref sig .tc := ⟨.hbm, 603, rfl⟩
abbrev main_while0b_v80 : Ref sig .tc := ⟨.hbm, 604, rfl⟩
abbrev main_while0b_v81 : Ref sig .tc := ⟨.hbm, 605, rfl⟩
abbrev main_while0b_v82 : Ref sig .tc := ⟨.hbm, 606, rfl⟩
abbrev main_while0b_v83 : Ref sig .tc := ⟨.hbm, 607, rfl⟩
abbrev main_while0b_v84 : Ref sig .tc := ⟨.hbm, 608, rfl⟩
abbrev main_while0b_cst_40 : Ref sig .tc := ⟨.hbm, 609, rfl⟩
abbrev main_while0b_v85 : Ref sig .tc := ⟨.hbm, 610, rfl⟩
abbrev main_while0b_v86 : Ref sig .tc := ⟨.hbm, 611, rfl⟩
abbrev main_while0b_v87 : Ref sig .tc := ⟨.hbm, 612, rfl⟩
abbrev main_while0b_v88 : Ref sig .tc := ⟨.hbm, 613, rfl⟩
abbrev main_while0b_values_41 : Ref sig .tc := ⟨.hbm, 614, rfl⟩
abbrev main_while0b_indices_42 : Ref sig .tc := ⟨.hbm, 615, rfl⟩
abbrev main_while0b_v89 : Ref sig .tc := ⟨.hbm, 616, rfl⟩
abbrev main_while0b_cst_43 : Ref sig .tc := ⟨.hbm, 617, rfl⟩
abbrev main_while0b_v90 : Ref sig .tc := ⟨.hbm, 618, rfl⟩
abbrev main_while0b_c_44 : Ref sig .tc := ⟨.hbm, 619, rfl⟩
abbrev main_while0b_v91 : Ref sig .tc := ⟨.hbm, 620, rfl⟩
abbrev main_while0b_c_45 : Ref sig .tc := ⟨.hbm, 621, rfl⟩
abbrev main_while0b_v92 : Ref sig .tc := ⟨.hbm, 622, rfl⟩
abbrev main_while0b_v93 : Ref sig .tc := ⟨.hbm, 623, rfl⟩
abbrev main_while0b_v94 : Ref sig .tc := ⟨.hbm, 624, rfl⟩
abbrev main_while0b_cst_46 : Ref sig .tc := ⟨.hbm, 625, rfl⟩
abbrev main_while0b_v95 : Ref sig .tc := ⟨.hbm, 626, rfl⟩
abbrev main_while0b_v96 : Ref sig .tc := ⟨.hbm, 627, rfl⟩
abbrev main_while0b_v97 : Ref sig .tc := ⟨.hbm, 628, rfl⟩
abbrev main_while0b_c_47 : Ref sig .tc := ⟨.hbm, 629, rfl⟩
abbrev main_while0b_v98 : Ref sig .tc := ⟨.hbm, 630, rfl⟩
abbrev main_while0b_v99 : Ref sig .tc := ⟨.hbm, 631, rfl⟩
abbrev main_while0b_c_48 : Ref sig .tc := ⟨.hbm, 632, rfl⟩
abbrev main_while0b_v100 : Ref sig .tc := ⟨.hbm, 633, rfl⟩
abbrev main_while0b_v101 : Ref sig .tc := ⟨.hbm, 634, rfl⟩
abbrev main_while0b_v102 : Ref sig .tc := ⟨.hbm, 635, rfl⟩
abbrev main_while0b_v103 : Ref sig .tc := ⟨.hbm, 636, rfl⟩
abbrev main_while0b_v104 : Ref sig .tc := ⟨.hbm, 637, rfl⟩
abbrev main_while0b_v105 : Ref sig .tc := ⟨.hbm, 638, rfl⟩
abbrev main_while0b_v106 : Ref sig .tc := ⟨.hbm, 639, rfl⟩
abbrev main_while0b_v107 : Ref sig .tc := ⟨.hbm, 640, rfl⟩
abbrev main_while0b_cst_49 : Ref sig .tc := ⟨.hbm, 641, rfl⟩
abbrev main_while0b_v108 : Ref sig .tc := ⟨.hbm, 642, rfl⟩
abbrev main_while0b_c_50 : Ref sig .tc := ⟨.hbm, 643, rfl⟩
abbrev main_while0b_v109 : Ref sig .tc := ⟨.hbm, 644, rfl⟩
abbrev main_while0b_c_51 : Ref sig .tc := ⟨.hbm, 645, rfl⟩
abbrev main_while0b_v110 : Ref sig .tc := ⟨.hbm, 646, rfl⟩
abbrev main_while0b_v111 : Ref sig .tc := ⟨.hbm, 647, rfl⟩
abbrev main_while0b_v112 : Ref sig .tc := ⟨.hbm, 648, rfl⟩
abbrev main_while0b_v113 : Ref sig .tc := ⟨.hbm, 649, rfl⟩
abbrev main_while0b_v114 : Ref sig .tc := ⟨.hbm, 650, rfl⟩
abbrev main_while0b_c_52 : Ref sig .tc := ⟨.hbm, 651, rfl⟩
abbrev main_while0b_v115 : Ref sig .tc := ⟨.hbm, 652, rfl⟩
abbrev main_while0b_v116 : Ref sig .tc := ⟨.hbm, 653, rfl⟩
abbrev main_while0b_c_53 : Ref sig .tc := ⟨.hbm, 654, rfl⟩
abbrev main_while0b_v117 : Ref sig .tc := ⟨.hbm, 655, rfl⟩
abbrev main_while0b_v118 : Ref sig .tc := ⟨.hbm, 656, rfl⟩
abbrev main_while0b_v119 : Ref sig .tc := ⟨.hbm, 657, rfl⟩
abbrev main_while0b_v120 : Ref sig .tc := ⟨.hbm, 658, rfl⟩
abbrev main_while0b_v121 : Ref sig .tc := ⟨.hbm, 659, rfl⟩
abbrev main_while0b_v122 : Ref sig .tc := ⟨.hbm, 660, rfl⟩
abbrev main_while0b_v123 : Ref sig .tc := ⟨.hbm, 661, rfl⟩
abbrev main_while0b_cst_54 : Ref sig .tc := ⟨.hbm, 662, rfl⟩
abbrev main_while0b_v124 : Ref sig .tc := ⟨.hbm, 663, rfl⟩
abbrev main_while0b_c_55 : Ref sig .tc := ⟨.hbm, 664, rfl⟩
abbrev main_while0b_v125 : Ref sig .tc := ⟨.hbm, 665, rfl⟩
abbrev main_while0b_c_56 : Ref sig .tc := ⟨.hbm, 666, rfl⟩
abbrev main_while0b_v126 : Ref sig .tc := ⟨.hbm, 667, rfl⟩
abbrev main_while0b_v127 : Ref sig .tc := ⟨.hbm, 668, rfl⟩
abbrev main_while0b_v128 : Ref sig .tc := ⟨.hbm, 669, rfl⟩
abbrev main_while0b_c_57 : Ref sig .tc := ⟨.hbm, 670, rfl⟩
abbrev main_while0b_v129 : Ref sig .tc := ⟨.hbm, 671, rfl⟩
abbrev main_while0b_call7_v0 : Ref sig .tc := ⟨.hbm, 672, rfl⟩
abbrev main_while0b_call7_c : Ref sig .tc := ⟨.hbm, 673, rfl⟩
abbrev main_while0b_call7_c_0 : Ref sig .tc := ⟨.hbm, 674, rfl⟩
abbrev main_while0b_v130 : Ref sig .tc := ⟨.hbm, 675, rfl⟩
abbrev main_while0b_call8_v0 : Ref sig .tc := ⟨.hbm, 676, rfl⟩
abbrev main_while0b_v131 : Ref sig .tc := ⟨.hbm, 677, rfl⟩
abbrev main_while0b_call9_v0 : Ref sig .tc := ⟨.hbm, 678, rfl⟩
abbrev main_while0b_call9_c : Ref sig .tc := ⟨.hbm, 679, rfl⟩
abbrev main_while0b_v132 : Ref sig .tc := ⟨.hbm, 680, rfl⟩
abbrev main_while0b_call10_v0 : Ref sig .tc := ⟨.hbm, 681, rfl⟩
abbrev main_while0b_call10_c : Ref sig .tc := ⟨.hbm, 682, rfl⟩
abbrev main_while0b_v133 : Ref sig .tc := ⟨.hbm, 683, rfl⟩
abbrev main_while0b_call11_v0 : Ref sig .tc := ⟨.hbm, 684, rfl⟩
abbrev main_while0b_call11_c : Ref sig .tc := ⟨.hbm, 685, rfl⟩
abbrev main_while0b_v134 : Ref sig .tc := ⟨.hbm, 686, rfl⟩
abbrev main_while0b_call12_v0 : Ref sig .tc := ⟨.hbm, 687, rfl⟩
abbrev main_while0b_call12_c : Ref sig .tc := ⟨.hbm, 688, rfl⟩
abbrev main_while0b_v135 : Ref sig .tc := ⟨.hbm, 689, rfl⟩
abbrev main_while0b_c_58 : Ref sig .tc := ⟨.hbm, 690, rfl⟩
abbrev main_while0b_v136 : Ref sig .tc := ⟨.hbm, 691, rfl⟩
abbrev main_v39 : Ref sig .tc := ⟨.hbm, 692, rfl⟩
abbrev main_v40 : Ref sig .tc := ⟨.hbm, 693, rfl⟩
abbrev main_v41 : Ref sig .tc := ⟨.hbm, 694, rfl⟩
abbrev main_cst_15 : Ref sig .tc := ⟨.hbm, 695, rfl⟩
abbrev main_v42 : Ref sig .tc := ⟨.hbm, 696, rfl⟩
abbrev main_c_16 : Ref sig .tc := ⟨.hbm, 697, rfl⟩
abbrev main_v43 : Ref sig .tc := ⟨.hbm, 698, rfl⟩
abbrev main_v44 : Ref sig .tc := ⟨.hbm, 699, rfl⟩
abbrev main_c_17 : Ref sig .tc := ⟨.hbm, 700, rfl⟩
abbrev main_v45 : Ref sig .tc := ⟨.hbm, 701, rfl⟩
abbrev main_v46 : Ref sig .tc := ⟨.hbm, 702, rfl⟩
abbrev main_v47 : Ref sig .tc := ⟨.hbm, 703, rfl⟩
abbrev main_c_18 : Ref sig .tc := ⟨.hbm, 704, rfl⟩
abbrev main_v48 : Ref sig .tc := ⟨.hbm, 705, rfl⟩
abbrev main_v49 : Ref sig .tc := ⟨.hbm, 706, rfl⟩
abbrev main_c_19 : Ref sig .tc := ⟨.hbm, 707, rfl⟩
abbrev main_v50 : Ref sig .tc := ⟨.hbm, 708, rfl⟩
abbrev main_v51 : Ref sig .tc := ⟨.hbm, 709, rfl⟩
abbrev main_v52 : Ref sig .tc := ⟨.hbm, 710, rfl⟩
abbrev main_v53 : Ref sig .tc := ⟨.hbm, 711, rfl⟩
abbrev main_v54 : Ref sig .tc := ⟨.hbm, 712, rfl⟩
abbrev main_v55 : Ref sig .tc := ⟨.hbm, 713, rfl⟩
abbrev main_v56 : Ref sig .tc := ⟨.hbm, 714, rfl⟩
abbrev main_cst_20 : Ref sig .tc := ⟨.hbm, 715, rfl⟩
abbrev main_v57 : Ref sig .tc := ⟨.hbm, 716, rfl⟩
abbrev main_c_21 : Ref sig .tc := ⟨.hbm, 717, rfl⟩
abbrev main_v58 : Ref sig .tc := ⟨.hbm, 718, rfl⟩
abbrev main_v59 : Ref sig .tc := ⟨.hbm, 719, rfl⟩
abbrev main_c_22 : Ref sig .tc := ⟨.hbm, 720, rfl⟩
abbrev main_v60 : Ref sig .tc := ⟨.hbm, 721, rfl⟩
abbrev main_v61 : Ref sig .tc := ⟨.hbm, 722, rfl⟩
abbrev main_v62 : Ref sig .tc := ⟨.hbm, 723, rfl⟩
abbrev main_c_23 : Ref sig .tc := ⟨.hbm, 724, rfl⟩
abbrev main_v63 : Ref sig .tc := ⟨.hbm, 725, rfl⟩
abbrev main_v64 : Ref sig .tc := ⟨.hbm, 726, rfl⟩
abbrev main_c_24 : Ref sig .tc := ⟨.hbm, 727, rfl⟩
abbrev main_v65 : Ref sig .tc := ⟨.hbm, 728, rfl⟩
abbrev main_v66 : Ref sig .tc := ⟨.hbm, 729, rfl⟩
abbrev main_v67 : Ref sig .tc := ⟨.hbm, 730, rfl⟩
abbrev main_v68 : Ref sig .tc := ⟨.hbm, 731, rfl⟩
abbrev main_v69 : Ref sig .tc := ⟨.hbm, 732, rfl⟩
abbrev main_v70 : Ref sig .tc := ⟨.hbm, 733, rfl⟩
abbrev main_v71 : Ref sig .tc := ⟨.hbm, 734, rfl⟩

abbrev nD : Nat := 1
abbrev τ : Topo := Topo.v7x

variable {F : FTy → Type} [FloatOps F]

abbrev main_while0_count : Scf.Loop 32 := ⟨0#32, 128#32, 1#32⟩
-- ==== Proof.KernelRun.lean ====
module

public import proofs.«01_k».proof.Proof.Gen.KernelIdeal.Frame

@[expose] public section

set_option maxRecDepth 16384

noncomputable section

/-! The kernel's run, with every unscoped buffer read at the end: `W15`, the fold of the generated frame. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main ends with every unscoped buffer at `W15`. -/
theorem run_all : θ_run defs (onTc (τ := τ) (main (F := F))) ⟨m, fun _ => 0, ρ⟩ (fun r => ∀ c : Dev nD, ∀ b ∈ Pipeline.ucRefs τ sig, r.2.mem (c, b) = W15 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h _ => h)

end Cert.KernelIdeal.Gen

end
-- ==== Proof.Logits.lean ====
module

public import proofs.«01_k».proof.Proof.Gen.KernelIdeal.Frame
public import Idealize.ShloMosaic.Lib.Pipeline.Value
public import Idealize.ShloMosaic.Lib.MatmulPlain
public import Idealize.ShloMosaic.Lib.StackMember

@[expose] public section

set_option maxRecDepth 16384

noncomputable section

/-! Region 0 of the kernel: the product of the slots with the keys, block by block, is the whole product. -/

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen

/-- The origin of a rank-two array, written two ways. -/
theorem origin2 : (![0, 0] : Fin 2 → Nat) = fun _ => 0 := funext fun a => by fin_cases a <;> rfl

/-- Slots times keys: the inner product of slot `r` with key `n`. -/
def product (A : FVec Ideal S128x256 .f32) (B : FVec Ideal S32768x256 .f32) : FVec Ideal S128x32768 .f32 :=
  fun i => ∑ d : Fin 256, A (ix2 (i 0) d) * B (ix2 (i 1) d)

/-- What one grid step computes, at an entry: an inner product of a slot with a key of the block. -/
theorem step_apply (a : Vec Ideal S128x256 .f32) (b : Vec Ideal S4096x256 .f32) (r : Fin 128) (n : Fin 4096) :
    k0_pay1 a b (ix2 r n) = ∑ d : Fin 256, a (ix2 r d) * b (ix2 n d) := by
  unfold k0_pay1
  simp only [shapeCast_self]
  refine (Ideal.matmul_transposedRhs_apply none a b _ r n).trans ?_
  rw [constant_apply]
  exact (congrArg (· + _) Ideal.ofBits_zero_f32).trans (zero_add _)

variable (V : (c : Dev nD) → (b : Ref sig .tc) → Buf (Elt Ideal) ((c : Thread nD τ).loc b))

/-- What step `t` writes back is its block of the whole product. -/
theorem region0_flushed (c : Dev nD) (t : Fin cfg0.N) :
    (dat0 V c).flushed 2 t = ((cfg0.win 2).blk t).view.read (Elt Ideal) (product (V c main_v9) (V c main_v4)) := by
  show (cfg0.win 2).cut (grid0.coords t) ((dat0 V c).after 2 t) = _
  rw [after0_2]
  unfold out0_2
  rw [View.canon_unit_zero origin2, View.ld_unit_zero origin2, View.ld_unit_zero origin2]
  have hi : ∀ t : Fin cfg0.N, win0_0.index t 0 = 0 ∧ win0_0.index t 1 = 0 ∧ win0_1.index t 0 = win0_2.index t 1 ∧ win0_1.index t 1 = 0
      ∧ win0_2.index t 0 = 0 := by decide +kernel
  obtain ⟨e1, e2, e3, e4, e5⟩ := hi t
  funext j
  show k0_pay1 (iblk0 V c 0 t) (iblk0 V c 1 t) j = _
  rw [View.read_apply]
  refine ((congrArg (k0_pay1 (iblk0 V c 0 t) (iblk0 V c 1 t)) (eq_ix2 (n0 := 128) (n1 := 4096) j)).trans (step_apply _ _ (j 0) (j 1))).trans ?_
  unfold product
  refine Finset.sum_congr rfl fun d _ => ?_
  congr 1
  · unfold iblk0
    rw [View.read_apply]
    show V c main_v9 _ = V c main_v9 _
    congr 1
    funext a
    apply Fin.ext
    match a with
    | ⟨0, _⟩ => show win0_0.index t 0 * 128 + 1 * (j 0).val = win0_2.index t 0 * 128 + 1 * (j 0).val; rw [e1, e5]
    | ⟨1, _⟩ => show win0_0.index t 1 * 256 + 1 * d.val = d.val; rw [e2]; omega
  · unfold iblk0
    rw [View.read_apply]
    show V c main_v4 _ = V c main_v4 _
    congr 1
    funext a
    apply Fin.ext
    match a with
    | ⟨0, _⟩ => show win0_1.index t 0 * 4096 + 1 * (j 1).val = win0_2.index t 1 * 4096 + 1 * (j 1).val; rw [e3]
    | ⟨1, _⟩ => show win0_1.index t 1 * 256 + 1 * d.val = d.val; rw [e4]; omega

/-- The blocks of the eight steps fill the array. -/
theorem region0_cover (i : S128x32768.Idx) :
    ∃ t : Fin cfg0.N, (cfg0.win 2).flush t = true ∧ i ∈ ((cfg0.win 2).blk t).view.set := by
  have h0 : (i 0 : Nat) < 128 := (i 0).isLt
  have h1 : (i 1 : Nat) < 32768 := (i 1).isLt
  have hN : cfg0.N = 8 := N_0
  have ht : (i 1 : Nat) / 4096 < cfg0.N := by omega
  refine ⟨⟨(i 1 : Nat) / 4096, ht⟩, flush0_2 _, ?_⟩
  show i ∈ ((View.whole main_v10).slice (win0_2.rect ⟨(i 1 : Nat) / 4096, ht⟩)).set
  rw [View.set_slice_whole, Rect.mem_set_unit]
  have hi : ∀ t : Fin cfg0.N, win0_2.index t 0 * win0_2.size 0 = 0 ∧ win0_2.xsize (grid0.coords t) 0 = 128
      ∧ win0_2.index t 1 * win0_2.size 1 = t.val * 4096 ∧ win0_2.xsize (grid0.coords t) 1 = 4096 := by decide +kernel
  obtain ⟨e1, e2, e3, e4⟩ := hi ⟨(i 1 : Nat) / 4096, ht⟩
  intro a
  match a with
  | ⟨0, _⟩ =>
    show win0_2.index _ 0 * win0_2.size 0 ≤ (i 0 : Nat) ∧ (i 0 : Nat) < win0_2.index _ 0 * win0_2.size 0 + win0_2.xsize (grid0.coords _) 0
    rw [e1, e2]; omega
  | ⟨1, _⟩ =>
    show win0_2.index _ 1 * win0_2.size 1 ≤ (i 1 : Nat) ∧ (i 1 : Nat) < win0_2.index _ 1 * win0_2.size 1 + win0_2.xsize (grid0.coords _) 1
    rw [e3, e4]; dsimp only; omega

/-- After region 0 its result array holds the whole product. -/
theorem region0_final (c : Dev nD) : (dat0 V c).arrAt 2 cfg0.N = product (V c main_v9) (V c main_v4) :=
  (dat0 V c).arrAt_eq_of_cover 2 (product (V c main_v9) (V c main_v4)) (fun t _ => region0_flushed V c t) region0_cover

end Cert.KernelIdeal.Val
-- ==== Proof.Norms.lean ====
module

public import proofs.«01_k».proof.Proof.Logits
public import Idealize.ShloMosaic.Lib.StableHlo.RunRead

@[expose] public section

set_option maxRecDepth 16384

noncomputable section

/-! The host's l2 normalisation of keys and slots in the kernel's program, and the logits of its run. -/

namespace Cert.KernelIdeal.Val

open Idealize.ShloMosaic Idealize.ShloMosaic.TcCoe Idealize.SL.Sem
open Idealize.ShloMosaic.StableHlo
open Cert.KernelIdeal Cert.KernelIdeal.Gen

/-- The keys, each divided by its norm plus a millionth. -/
def keysNorm (x : FVec Ideal S32768x256 .f32) : FVec Ideal S32768x256 .f32 :=
  Host.divf x (broadcastInDim S32768x256 ![0, 1] bcast_S32768x1_S32768x256_0_1
    (addf (Host.sqrt (broadcastInDim S32768x1 ![0] bcast_S32768_S32768x1_0
        (Host.reduceAdd (mulf x x) (constant S_ .f32 0#32) reducesTo_S32768x256_S32768_d1 h_S_)))
      (broadcastInDim S32768x1 ![] bcast_S_S32768x1 (constant S_ .f32 0x358637BD#32))))

/-- The slots, each divided by its norm plus a millionth. -/
def slotNorm (x : FVec Ideal S128x256 .f32) : FVec Ideal S128x256 .f32 :=
  Host.divf x (broadcastInDim S128x256 ![0, 1] bcast_S128x1_S128x256_0_1
    (addf (Host.sqrt (broadcastInDim S128x1 ![0] bcast_S128_S128x1_0
        (Host.reduceAdd (mulf x x) (constant S_ .f32 0#32) reducesTo_S128x256_S128_d1 h_S_)))
      (broadcastInDim S128x1 ![] bcast_S_S128x1 (constant S_ .f32 0x358637BD#32))))

/-- The logits of all slots against all keys. -/
def logits (a0 : FVec Ideal S32768x256 .f32) (a4 : FVec Ideal S128x256 .f32) : FVec Ideal S128x32768 .f32 :=
  product (slotNorm a4) (keysNorm a0)

variable (m : (ℓ : Loc nD τ sig) → Buf (Elt Ideal) ℓ) (ρ : Dev nD → PrngReg)

/-- The normalised keys before region 0. -/
theorem W4_keys (c : Dev nD) : W4 m ρ c (Proc.devRef .tc main_v4) = keysNorm (m ((c : Thread nD τ).loc main_arg0)) := by
  unfold W4 W3 W2 W1
  after_reads_simp
  rfl

/-- The normalised slots before region 0. -/
theorem W4_slots (c : Dev nD) : W4 m ρ c (Proc.devRef .tc main_v9) = slotNorm (m ((c : Thread nD τ).loc main_arg4)) := by
  unfold W4 W3 W2 W1
  after_reads_simp
  rfl

/-- The logits after region 0. -/
theorem W5_logits (c : Dev nD) : W5 m ρ c (Proc.devRef .tc main_v10)
    = logits (m ((c : Thread nD τ).loc main_arg0)) (m ((c : Thread nD τ).loc main_arg4)) := by
  refine (W5_arr m ρ c 2).trans ((region0_final (V4 m ρ) c).trans ?_)
  unfold logits
  rw [show V4 m ρ c main_v9 = _ from W4_slots m ρ c, show V4 m ρ c main_v4 = _ from W4_keys m ρ c]

/-- The host stretches between region 0 and region 1 leave an array they do not write. -/
theorem W12_of_W5 (c : Dev nD) (r : Ref sig .tc) (h0 : r ∉ hostOps1_W) (h1 : r ∉ hostOps1_1_W) (h2 : r ∉ hostOps1_2_W)
    (h3 : r ∉ hostOps1_3_W) (h4 : r ∉ hostOps1_4_W) (h5 : r ∉ hostOps1_5_W) (h6 : r ∉ hostOps1_6_W) :
    W12 m ρ c (Proc.devRef .tc r) = W5 m ρ c (Proc.devRef .tc r) :=
  (W12_of m ρ c r h6).trans <| (W11_of m ρ c r h5).trans <| (W10_of m ρ c r h4).trans <| (W9_of m ρ c r h3).trans <|
    (W8_of m ρ c r h2).trans <| (W7_of m ρ c r h1).trans (W6_of m ρ c r h0)

/-- The logits at the end of the run. -/
theorem W15_logits (c : Dev nD) : W15 m ρ c (Proc.devRef .tc main_v10)
    = logits (m ((c : Thread nD τ).loc main_arg0)) (m ((c : Thread nD τ).loc main_arg4)) :=
  (W15_of m ρ c main_v10 (by decide)).trans <| (W14_of m ρ c main_v10 (by decide)).trans <|
    (W13_of m ρ c main_v10 (by decide)).trans <|
    (W12_of_W5 m ρ c main_v10 (by decide) (by decide) (by decide) (by decide) (by decide) (by decide) (by decide)).trans
    (W5_logits m ρ c)

end Cert.KernelIdeal.Val
-- ==== Proof.RefRun.lean ====
module

public import proofs.«01_k».proof.Proof.Norms
public import proofs.«01_k».proof.Proof.Gen.ReferenceIdeal.Run
public import Idealize.ShloMosaic.Lib.Quiescent

@[expose] public section

set_option maxRecDepth 16384

noncomputable section

/-! The reference's run: its buffers at the end, its arguments kept, its logits. -/

namespace Cert.ReferenceIdeal.Val

open Idealize.ShloMosaic Idealize.ShloMosaic.TcCoe Idealize.SL.Sem
open Idealize.ShloMosaic.StableHlo
open Idealize.ShloMosaic.StableHlo (afterL)
open Idealize.ShloMosaic.ValueIdx
open Cert.ReferenceIdeal Cert.ReferenceIdeal.Gen Cert.ReferenceIdeal.Value

/-- Stretches none of which touches a buffer leave it. -/
theorem afterL_keeps {r : Ref sig .tc} : ∀ (ls : List (List (HloOp τ sig (Elt Ideal))))
    (_ : ∀ ops ∈ ls, ∀ V, after ops V (Proc.devRef .tc r) = V (Proc.devRef .tc r)) (V : Valuation τ sig (Elt Ideal)),
    afterL ls V (Proc.devRef .tc r) = V (Proc.devRef .tc r)
  | [], _, _ => rfl
  | o :: os, h, V => (afterL_keeps os (fun q hq => h q (List.mem_cons_of_mem _ hq)) (after o V)).trans (h o List.mem_cons_self V)

/-- What the loop's condition, its body and the stretch after it write. -/
def loopWrites : List (List (Ref sig .tc)) := [condOps_W, while0Ops0_W, while0Ops0_1_W, while0Ops0_2_W, while0Ops0_3_W, while0Ops0_4_W,
  while0Ops0_5_W, while0Ops0_6_W, while0Ops0_7_W, while0Ops0_8_W, while0Ops0_9_W, while0Ops0_10_W, while0Ops0_11_W]

/-- One trip leaves a buffer the loop does not write. -/
theorem trip_keeps {r : Ref sig .tc} (h : ∀ W ∈ loopWrites, r ∉ W) (V : Valuation τ sig (Elt Ideal)) :
    afterL bodyI (after condOps V) (Proc.devRef .tc r) = V (Proc.devRef .tc r) := by
  have hc : r ∉ condOps_W := h _ (List.mem_of_getElem? (i := 0) rfl)
  have h0 : r ∉ while0Ops0_W := h _ (List.mem_of_getElem? (i := 1) rfl)
  have h1 : r ∉ while0Ops0_1_W := h _ (List.mem_of_getElem? (i := 2) rfl)
  have h2 : r ∉ while0Ops0_2_W := h _ (List.mem_of_getElem? (i := 3) rfl)
  have h3 : r ∉ while0Ops0_3_W := h _ (List.mem_of_getElem? (i := 4) rfl)
  have h4 : r ∉ while0Ops0_4_W := h _ (List.mem_of_getElem? (i := 5) rfl)
  have h5 : r ∉ while0Ops0_5_W := h _ (List.mem_of_getElem? (i := 6) rfl)
  have h6 : r ∉ while0Ops0_6_W := h _ (List.mem_of_getElem? (i := 7) rfl)
  have h7 : r ∉ while0Ops0_7_W := h _ (List.mem_of_getElem? (i := 8) rfl)
  have h8 : r ∉ while0Ops0_8_W := h _ (List.mem_of_getElem? (i := 9) rfl)
  have h9 : r ∉ while0Ops0_9_W := h _ (List.mem_of_getElem? (i := 10) rfl)
  have h10 : r ∉ while0Ops0_10_W := h _ (List.mem_of_getElem? (i := 11) rfl)
  have h11 : r ∉ while0Ops0_11_W := h _ (List.mem_of_getElem? (i := 12) rfl)
  refine (afterL_keeps _ ?_ _).trans (after_of_writes_sub condOps V condOps_writes hc)
  simp only [List.forall_mem_cons]
  exact ⟨fun V => after_of_writes_sub _ V while0Ops0_writes h0, fun V => after_of_writes_sub _ V while0Ops0_1_writes h1,
    fun V => after_of_writes_sub _ V while0Ops0_2_writes h2, fun V => after_of_writes_sub _ V while0Ops0_3_writes h3,
    fun V => after_of_writes_sub _ V while0Ops0_4_writes h4, fun V => after_of_writes_sub _ V while0Ops0_5_writes h5,
    fun V => after_of_writes_sub _ V while0Ops0_6_writes h6, fun V => after_of_writes_sub _ V while0Ops0_7_writes h7,
    fun V => after_of_writes_sub _ V while0Ops0_8_writes h8, fun V => after_of_writes_sub _ V while0Ops0_9_writes h9,
    fun V => after_of_writes_sub _ V while0Ops0_10_writes h10, fun V => after_of_writes_sub _ V while0Ops0_11_writes h11,
    fun _ hq => absurd hq List.not_mem_nil⟩

variable (m : (ℓ : Loc nD τ sig) → Buf (Elt Ideal) ℓ) (ρ : Dev nD → PrngReg)

/-- A buffer that nothing writes after the loop's entry ends as it was there. -/
theorem final_keeps {r : Ref sig .tc} (h : ∀ W ∈ loopWrites, r ∉ W) (h8 : r ∉ hostOps0_8_W) (c : Dev nD) :
    finalContents condOps preI bodyI postI 128 m c (Proc.devRef .tc r) = entryContents preI m c (Proc.devRef .tc r) := by
  have hk : ∀ k, atK m k c (Proc.devRef .tc r) = entryContents preI m c (Proc.devRef .tc r) := by
    intro k
    induction k with
    | zero => rfl
    | succ k ih => exact (trip_keeps h _).trans ih
  have hc : r ∉ condOps_W := h _ (List.mem_of_getElem? (i := 0) rfl)
  exact (after_of_writes_sub hostOps0_8 _ hostOps0_8_writes h8).trans ((after_of_writes_sub condOps _ condOps_writes hc).trans (hk 128))

/-- What the stretches before the loop write. -/
def entryWrites : List (List (Ref sig .tc)) := [hostOps0_W, hostOps0_1_W, hostOps0_2_W, hostOps0_3_W, hostOps0_4_W, hostOps0_5_W,
  hostOps0_6_W, hostOps0_7_W]

/-- A buffer the stretches before the loop do not write holds the launch's contents at its entry. -/
theorem entry_keeps {r : Ref sig .tc} (h : ∀ W ∈ entryWrites, r ∉ W) (c : Dev nD) :
    entryContents preI m c (Proc.devRef .tc r) = m ((c : Thread nD τ).loc r) := by
  have h0 : r ∉ hostOps0_W := h _ (List.mem_of_getElem? (i := 0) rfl)
  have h1 : r ∉ hostOps0_1_W := h _ (List.mem_of_getElem? (i := 1) rfl)
  have h2 : r ∉ hostOps0_2_W := h _ (List.mem_of_getElem? (i := 2) rfl)
  have h3 : r ∉ hostOps0_3_W := h _ (List.mem_of_getElem? (i := 3) rfl)
  have h4 : r ∉ hostOps0_4_W := h _ (List.mem_of_getElem? (i := 4) rfl)
  have h5 : r ∉ hostOps0_5_W := h _ (List.mem_of_getElem? (i := 5) rfl)
  have h6 : r ∉ hostOps0_6_W := h _ (List.mem_of_getElem? (i := 6) rfl)
  have h7 : r ∉ hostOps0_7_W := h _ (List.mem_of_getElem? (i := 7) rfl)
  refine (afterL_keeps _ ?_ _).trans rfl
  simp only [List.forall_mem_cons]
  exact ⟨fun V => after_of_writes_sub _ V hostOps0_writes h0, fun V => after_of_writes_sub _ V hostOps0_1_writes h1,
    fun V => after_of_writes_sub _ V hostOps0_2_writes h2, fun V => after_of_writes_sub _ V hostOps0_3_writes h3,
    fun V => after_of_writes_sub _ V hostOps0_4_writes h4, fun V => after_of_writes_sub _ V hostOps0_5_writes h5,
    fun V => after_of_writes_sub _ V hostOps0_6_writes h6, fun V => after_of_writes_sub _ V hostOps0_7_writes h7,
    fun _ hq => absurd hq List.not_mem_nil⟩

/-- An argument is kept. -/
theorem final_arg {r : Ref sig .tc} (h : ∀ W ∈ loopWrites, r ∉ W) (h8 : r ∉ hostOps0_8_W) (he : ∀ W ∈ entryWrites, r ∉ W) (c : Dev nD) :
    finalContents condOps preI bodyI postI 128 m c (Proc.devRef .tc r) = m ((c : Thread nD τ).loc r) :=
  (final_keeps m h h8 c).trans (entry_keeps m he c)

/-- The reference ends with its arguments as they were and no semaphore raised. -/
theorem frame : θ_run (defs (F := Ideal)) (onTc (τ := τ) (main (F := Ideal))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run (defs (F := Ideal)) _ _).mono (fun r h => ⟨fun c =>
      ⟨(h c main_arg0 (by decide)).trans (final_arg m (by decide +kernel) (by decide +kernel) (by decide +kernel) c),
       (h c main_arg1 (by decide)).trans (final_arg m (by decide +kernel) (by decide +kernel) (by decide +kernel) c),
       (h c main_arg2 (by decide)).trans (final_arg m (by decide +kernel) (by decide +kernel) (by decide +kernel) c),
       (h c main_arg3 (by decide)).trans (final_arg m (by decide +kernel) (by decide +kernel) (by decide +kernel) c),
       (h c main_arg4 (by decide)).trans (final_arg m (by decide +kernel) (by decide +kernel) (by decide +kernel) c)⟩,
      sem_eq_zero_of_no_sems (by decide) r.2⟩) (run_fold m ρ)

/-- The stretches before the noise. -/
abbrev atNorms (c : Dev nD) : Valuation τ sig (Elt Ideal) :=
  after hostOps0_3 (after hostOps0_2 (after hostOps0_1 (after hostOps0 (launchContents m c))))

/-- The noise does not write a buffer of the stretches before it. -/
theorem entry_of_atNorms {r : Ref sig .tc} (h4 : r ∉ hostOps0_4_W) (h5 : r ∉ hostOps0_5_W) (h6 : r ∉ hostOps0_6_W) (h7 : r ∉ hostOps0_7_W)
    (c : Dev nD) : entryContents preI m c (Proc.devRef .tc r) = atNorms m c (Proc.devRef .tc r) :=
  (after_of_writes_sub hostOps0_7 _ hostOps0_7_writes h7).trans <| (after_of_writes_sub hostOps0_6 _ hostOps0_6_writes h6).trans <|
    (after_of_writes_sub hostOps0_5 _ hostOps0_5_writes h5).trans <| after_of_writes_sub hostOps0_4 _ hostOps0_4_writes h4

/-- The normalised keys. -/
theorem norms_keys (c : Dev nD) : atNorms m c (Proc.devRef .tc main_v4)
    = Cert.KernelIdeal.Val.keysNorm (m ((c : Thread nD τ).loc main_arg0)) := by
  unfold atNorms
  after_reads_simp
  rfl

/-- The logits: the product of the normalised slots with the transposed normalised keys. -/
theorem norms_logits (c : Dev nD) : atNorms m c (Proc.devRef .tc main_v11)
    = Host.dotGeneral dot_S128x256_S256x32768_S128x32768_1_0_0_1_n_n none
        (Cert.KernelIdeal.Val.slotNorm (m ((c : Thread nD τ).loc main_arg4)))
        (transpose S256x32768 [1, 0] (Cert.KernelIdeal.Val.keysNorm (m ((c : Thread nD τ).loc main_arg0))) transposes_S32768x256_S256x32768_1_0) := by
  unfold atNorms
  after_reads_simp
  rfl

/-- That product, at an entry, is the inner product of a slot with a key. -/
theorem product_eq (A : FVec Ideal S128x256 .f32) (B : FVec Ideal S32768x256 .f32) :
    Host.dotGeneral dot_S128x256_S256x32768_S128x32768_1_0_0_1_n_n none A
      (transpose S256x32768 [1, 0] B transposes_S32768x256_S256x32768_1_0) = Cert.KernelIdeal.Val.product A B := by
  funext i
  refine (congrArg (Host.dotGeneral _ none A _) (eq_ix2 (n0 := 128) (n1 := 32768) i)).trans ?_
  refine (StackMember.dotGeneral_plain_apply (m := 128) (k := 256) (n := 32768) none A _ (i 0) (i 1)).trans ?_
  unfold Cert.KernelIdeal.Val.product
  refine Finset.sum_congr rfl fun d _ => congrArg (A (ix2 (i 0) d) * ·) ?_
  unfold transpose
  congr 1
  funext a
  match a with
  | ⟨0, _⟩ => rfl
  | ⟨1, _⟩ => rfl

/-- The logits at the loop's entry. -/
theorem entry_logits (c : Dev nD) : entryContents preI m c (Proc.devRef .tc main_v11)
    = Cert.KernelIdeal.Val.logits (m ((c : Thread nD τ).loc main_arg0)) (m ((c : Thread nD τ).loc main_arg4)) :=
  (entry_of_atNorms m (by decide +kernel) (by decide +kernel) (by decide +kernel) (by decide +kernel) c).trans <|
    (norms_logits m c).trans (product_eq _ _)

/-- The logits at the end. -/
theorem final_logits (c : Dev nD) : finalContents condOps preI bodyI postI 128 m c (Proc.devRef .tc main_v11)
    = Cert.KernelIdeal.Val.logits (m ((c : Thread nD τ).loc main_arg0)) (m ((c : Thread nD τ).loc main_arg4)) :=
  (final_keeps m (by decide +kernel) (by decide +kernel) c).trans (entry_logits m c)

end Cert.ReferenceIdeal.Val
-- ==== Proof.SelectRun.lean ====
module

public import proofs.«01_k».proof.Proof.Logits

@[expose] public section

set_option maxRecDepth 16384

noncomputable section

/-! Region 1 of the kernel: its loop over the slots as a recursion on the carried columns, one slot's row of
probabilities stored per trip. -/

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen

/-- The row counter of the noise, lanes by places. -/
abbrev places : IVec S512x640 32 := iota .tc S512x640 32 [0] iota_S512x640_d0_w32

/-- The origin of a rank-one array, written two ways. -/
theorem origin1 : (![0] : Fin 1 → Nat) = fun _ => 0 := funext fun a => by fin_cases a; rfl

section Step
variable (x0 : Vec Ideal S1 .f32) (x1 : Vec Ideal S128x640 .f32) (x2 : Vec Ideal S128x640 .i32) (x3 : Vec Ideal S128x512 .f32)

/-- Slot `k`'s candidate logits. -/
def rowV (k : Fin 128) : Vec Ideal S1x640 .f32 := fun j => x1 (ix2 k (j 1))
/-- Slot `k`'s candidate positions. -/
def rowI (k : Fin 128) : Vec Ideal S1x640 .i32 := fun j => x2 (ix2 k (j 1))
/-- Slot `k`'s noise. -/
def rowG (k : Fin 128) : Vec Ideal S1x512 .f32 := fun j => x3 (ix2 k (j 1))

/-- Which lanes take part in slot `k`. -/
def lanes (k : Fin 128) (sel : IVec S128x1 32) : IVec S1x640 1 := k1_pay10 (F := Ideal) k1_pay1 sel (rowI x2 k)
/-- Slot `k`'s softmax before the other lanes are cleared. -/
def soft (k : Fin 128) (sel : IVec S128x1 32) : FVec Ideal S1x640 .f32 :=
  k1_pay11 (x0 (ix1 0)) k1_pay1 places sel (rowV x1 k) (rowI x2 k) (rowG x3 k)
/-- Slot `k`'s row of probabilities. -/
def probs (k : Fin 128) (sel : IVec S128x1 32) : FVec Ideal S1x640 .f32 :=
  k1_pay4 (lanes x2 k sel) (soft x0 x1 x2 x3 k sel)

/-- One trip: the carried column and row of selections with slot `k`'s written. -/
def trip (k : Fin 128) (acc : IVec S128x1 32 × IVec S1x128 32) : IVec S128x1 32 × IVec S1x128 32 :=
  (k1_pay5 (F := Ideal) acc.1 (BitVec.ofNat 32 k.val) (k1_pay7 (F := Ideal) (rowI x2 k)) (lanes x2 k acc.1) (soft x0 x1 x2 x3 k acc.1),
    k1_pay6 (F := Ideal) acc.2 (BitVec.ofNat 32 k.val) (k1_pay7 (F := Ideal) (rowI x2 k)) (lanes x2 k acc.1) (soft x0 x1 x2 x3 k acc.1))

/-- What the loop carries before trip `k`. -/
def carried : ℕ → IVec S128x1 32 × IVec S1x128 32
  | 0 => (k1_pay2, k1_pay3)
  | k + 1 => if h : k < 128 then trip x0 x1 x2 x3 ⟨k, h⟩ (carried k) else carried k

/-- The probabilities of all slots. -/
def allProbs : FVec Ideal S128x640 .f32 := fun i => probs x0 x1 x2 x3 (i 0) (carried x0 x1 x2 x3 (i 0).val).1 (ix2 0 (i 1))
end Step

section Run
variable (c : Dev nD) (arg0 : Memref sig .tc .smem S1 .f32) (harg0 : arg0.IsWhole) (arg1 : Memref sig .tc .vmem S128x640 .f32) (harg1 : arg1.IsWhole) (arg2 : Memref sig .tc .vmem S128x640 .i32) (harg2 : arg2.IsWhole) (arg3 : Memref sig .tc .vmem S128x512 .f32) (harg3 : arg3.IsWhole) (arg4 : Memref sig .tc .vmem S128x640 .f32) (harg4 : arg4.IsWhole) (arg5 : Memref sig .tc .vmem S1x128 .i32) (harg5 : arg5.IsWhole)
    (x0 : Vec Ideal S1 .f32) (x1 : Vec Ideal S128x640 .f32) (x2 : Vec Ideal S128x640 .i32) (x3 : Vec Ideal S128x512 .f32)

/-- The loop has 128 trips. -/
theorem trips_eq : k1_t1_loop.trips = 128 := by decide +kernel

/-- Trip `k` of the loop as slot `k`. -/
def slot (k : Fin k1_t1_loop.trips) : Fin 128 := ⟨k.val, trips_eq ▸ k.isLt⟩

/-- Trip `k` reads row `k` of the candidates. -/
theorem off1_eq (k : Fin k1_t1_loop.trips) : k1_off1 k = ![k.val, 0] := by
  revert k; decide +kernel
/-- Trip `k` reads row `k` of the noise. -/
theorem off2_eq (k : Fin k1_t1_loop.trips) : k1_off2 k = ![k.val, 0] := by
  revert k; decide +kernel
/-- The counter at trip `k` is the word of `k`. -/
theorem iv_eq (k : Fin k1_t1_loop.trips) : Scf.iv (0#32) (1#32) k.val = BitVec.ofNat 32 k.val := by
  revert k; decide +kernel

/-- A stored row's entry is the array's at that row. -/
theorem emb_row (k : Fin k1_t1_loop.trips) (x : S1x640.Idx) :
    (Rect.unit (s := S128x640) (k1_off1 k) S1x640.size (k1_off1_inb k)).emb x = (ix2 (slot k) (x 1) : S128x640.Idx) := by
  funext a
  apply Fin.ext
  refine Eq.trans (b := k1_off1 k a + 1 * (x a).val) rfl ?_
  rw [Nat.one_mul]
  match a with
  | ⟨0, _⟩ =>
    refine (congrFun (off1_eq k) 0 ▸ ?_ : k1_off1 k 0 + (x 0).val = k.val)
    have : (x 0).val < 1 := (x 0).isLt
    show k.val + (x 0).val = k.val
    omega
  | ⟨1, _⟩ =>
    refine (congrFun (off1_eq k) 1 ▸ ?_ : k1_off1 k 1 + (x 1).val = (x 1).val)
    exact Nat.zero_add _

/-- A loaded noise row's entry is the array's at that row. -/
theorem emb_rowG (k : Fin k1_t1_loop.trips) (x : S1x512.Idx) :
    (Rect.unit (s := S128x512) (k1_off2 k) S1x512.size (k1_off2_inb k)).emb x = (ix2 (slot k) (x 1) : S128x512.Idx) := by
  funext a
  apply Fin.ext
  refine Eq.trans (b := k1_off2 k a + 1 * (x a).val) rfl ?_
  rw [Nat.one_mul]
  match a with
  | ⟨0, _⟩ =>
    refine (congrFun (off2_eq k) 0 ▸ ?_ : k1_off2 k 0 + (x 0).val = k.val)
    have : (x 0).val < 1 := (x 0).isLt
    show k.val + (x 0).val = k.val
    omega
  | ⟨1, _⟩ =>
    refine (congrFun (off2_eq k) 1 ▸ ?_ : k1_off2 k 1 + (x 1).val = (x 1).val)
    exact Nat.zero_add _

/-- The candidate values a trip reads are its slot's row. -/
theorem read_rowV (k : Fin k1_t1_loop.trips) :
    View.readAt (Elt Ideal) arg1.view (Rect.unit (s := S128x640) (k1_off1 k) S1x640.size (k1_off1_inb k)).toLoadRect (harg1.unread x1) = rowV x1 (slot k) := by
  rw [View.readAt_eq_ld, harg1.read_unread]
  exact funext fun j => congrArg x1 (emb_row k j)

/-- The candidate positions a trip reads are its slot's row. -/
theorem read_rowI (k : Fin k1_t1_loop.trips) :
    View.readAt (Elt Ideal) arg2.view (Rect.unit (s := S128x640) (k1_off1 k) S1x640.size (k1_off1_inb k)).toLoadRect (harg2.unread x2) = rowI x2 (slot k) := by
  rw [View.readAt_eq_ld, harg2.read_unread]
  exact funext fun j => congrArg x2 (emb_row k j)

/-- The noise a trip reads is its slot's row. -/
theorem read_rowG (k : Fin k1_t1_loop.trips) :
    View.readAt (Elt Ideal) arg3.view (Rect.unit (s := S128x512) (k1_off2 k) S1x512.size (k1_off2_inb k)).toLoadRect (harg3.unread x3) = rowG x3 (slot k) := by
  rw [View.readAt_eq_ld, harg3.read_unread]
  exact funext fun j => congrArg x3 (emb_rowG k j)

/-- What a trip carries on is `trip` of what it was given. -/
theorem tripR_eq (k : Fin k1_t1_loop.trips) (acc : IVec S128x1 32 × IVec S1x128 32) :
    tripR_k1_t1 (F := Ideal) Variants.none c none arg0 harg0 arg1 harg1 arg2 harg2 arg3 harg3 arg4 harg4 arg5 harg5 (x0 (ix1 0)) places
      (harg1.unread x1) (harg2.unread x2) (harg3.unread x3) k acc = trip x0 x1 x2 x3 (slot k) acc := by
  unfold trip lanes soft
  rw [← read_rowV arg1 harg1, ← read_rowI arg2 harg2, ← read_rowG arg3 harg3, show BitVec.ofNat 32 (slot k).val = _ from (iv_eq k).symm]
  unfold tripR_k1_t1 trip_k1_t1
  rfl

/-- A trip writes one row: the probabilities of its slot. -/
theorem tripL_eq (k : Fin k1_t1_loop.trips) (acc : IVec S128x1 32 × IVec S1x128 32) :
    tripL_k1_t1 (F := Ideal) Variants.none c none arg0 harg0 arg1 harg1 arg2 harg2 arg3 harg3 arg4 harg4 arg5 harg5 (x0 (ix1 0)) places
      (harg1.unread x1) (harg2.unread x2) (harg3.unread x3) k acc
      = [⟨Rect.unit (s := S128x640) (k1_off1 k) S1x640.size (k1_off1_inb k), probs x0 x1 x2 x3 (slot k) acc.1⟩] := by
  unfold probs lanes soft
  rw [← read_rowV arg1 harg1, ← read_rowI arg2 harg2, ← read_rowG arg3 harg3]
  unfold tripL_k1_t1 trip_k1_t1
  rfl

/-- The loop's state at trip `k`: what it carries, and pieces that are rows of the probabilities. -/
theorem state_eq (k : ℕ) (hk : k ≤ 128) :
    (st_k1_t1 (F := Ideal) Variants.none c none arg0 harg0 arg1 harg1 arg2 harg2 arg3 harg3 arg4 harg4 arg5 harg5 (x0 (ix1 0)) places
      (harg1.unread x1) (harg2.unread x2) (harg3.unread x3) (k1_pay2, k1_pay3) k).1 = carried x0 x1 x2 x3 k
    ∧ ∀ p ∈ (st_k1_t1 (F := Ideal) Variants.none c none arg0 harg0 arg1 harg1 arg2 harg2 arg3 harg3 arg4 harg4 arg5 harg5 (x0 (ix1 0)) places
      (harg1.unread x1) (harg2.unread x2) (harg3.unread x3) (k1_pay2, k1_pay3) k).2, ∀ x : p.1.shape.Idx, p.2 x = allProbs x0 x1 x2 x3 (p.1.emb x) := by
  induction k with
  | zero => exact ⟨rfl, fun p hp => absurd hp (by simp [st_k1_t1])⟩
  | succ k ih =>
    obtain ⟨h1, h2⟩ := ih (by omega)
    have hs := st_k1_t1_succ (F := Ideal) Variants.none c none arg0 harg0 arg1 harg1 arg2 harg2 arg3 harg3 arg4 harg4 arg5 harg5 (x0 (ix1 0)) places
      (harg1.unread x1) (harg2.unread x2) (harg3.unread x3) (k1_pay2, k1_pay3) ⟨k, by rw [trips_eq]; omega⟩
    dsimp only at hs
    rw [hs, h1, tripR_eq, tripL_eq]
    refine ⟨?_, fun p hp => ?_⟩
    · show _ = if h : k < 128 then _ else _
      rw [dif_pos (by omega)]
      rfl
    · rcases List.mem_append.mp hp with hp | hp
      · obtain rfl := List.mem_singleton.mp hp
        intro x
        unfold allProbs
        have e0 := emb_row ⟨k, by rw [trips_eq]; omega⟩ x
        rw [e0]
        show probs x0 x1 x2 x3 _ _ x = probs x0 x1 x2 x3 _ _ _
        congr 1
        funext a
        match a with
        | ⟨0, _⟩ => exact Fin.ext (by have : (x 0).val < 1 := (x 0).isLt; show (x 0).val = 0; omega)
        | ⟨1, _⟩ => rfl
      · exact h2 p hp

/-- The temperature the kernel reads is the one entry of its first operand. -/
theorem temperature_eq : kernelRun1_A.sl.r c arg0 harg0 x0 = x0 (ix1 0) := by
  unfold kernelRun1_A.sl.r
  rw [View.readAt_eq_ld, harg0.read_unread, View.ld_unit_zero origin1]
  refine congrArg x0 (funext fun a => ?_)
  match a with
  | ⟨0, _⟩ => rfl

/-- The pieces the kernel writes of the probabilities are those of the loop's last state. -/
theorem run1_4 : (kernelRun1_A c arg0 harg0 arg1 harg1 arg2 harg2 arg3 harg3 arg4 harg4 arg5 harg5 x0 x1 x2 x3).1
    = (st_k1_t1 (F := Ideal) Variants.none c none arg0 harg0 arg1 harg1 arg2 harg2 arg3 harg3 arg4 harg4 arg5 harg5 (x0 (ix1 0)) places
      (harg1.unread x1) (harg2.unread x2) (harg3.unread x3) (k1_pay2, k1_pay3) 128).2 := by
  have e := temperature_eq c arg0 harg0 x0
  rw [← e]
  unfold kernelRun1_A
  dsimp only
  rw [show Scf.trips (0#32) (Scalar.addi 0#32 128#32) 1#32 = 128 from trips_eq]
  rfl

/-- The kernel's first output is the probabilities of every slot. -/
theorem out1_4 : out1_A_4 c arg0 harg0 arg1 harg1 arg2 harg2 arg3 harg3 arg4 harg4 arg5 harg5 x0 x1 x2 x3 = allProbs x0 x1 x2 x3 := by
  unfold out1_A_4
  rw [View.read_writes_eq_canon _ _ _ (cover1_A_4 c arg0 harg0 arg1 harg1 arg2 harg2 arg3 harg3 arg4 harg4 arg5 harg5 x0 x1 x2 x3)]
  funext y
  refine View.canon_apply_of_pieces _ _ ?_ y (cover1_A_4 c arg0 harg0 arg1 harg1 arg2 harg2 arg3 harg3 arg4 harg4 arg5 harg5 x0 x1 x2 x3 y)
  rw [run1_4]
  exact (state_eq c arg0 harg0 arg1 harg1 arg2 harg2 arg3 harg3 arg4 harg4 arg5 harg5 x0 x1 x2 x3 128 le_rfl).2

/-- The kernel's second output is the indices carried out of the loop. -/
theorem out1_5 : out1_A_5 c arg0 harg0 arg1 harg1 arg2 harg2 arg3 harg3 arg4 harg4 arg5 harg5 x0 x1 x2 x3 = (carried x0 x1 x2 x3 128).2 := by
  have e := temperature_eq c arg0 harg0 x0
  unfold out1_A_5
  rw [View.read_writes_eq_canon _ _ _ (cover1_A_5 c arg0 harg0 arg1 harg1 arg2 harg2 arg3 harg3 arg4 harg4 arg5 harg5 x0 x1 x2 x3)]
  have hs := (state_eq c arg0 harg0 arg1 harg1 arg2 harg2 arg3 harg3 arg4 harg4 arg5 harg5 x0 x1 x2 x3 128 le_rfl).1
  rw [← hs, ← e]
  unfold kernelRun1_A
  dsimp only
  rw [View.canon_unit_zero origin2, show Scf.trips (0#32) (Scalar.addi 0#32 128#32) 1#32 = 128 from trips_eq]
  rfl
end Run

end Cert.KernelIdeal.Val
-- ==== Proof.Rank.lean ====
module

public import Idealize.ShloMosaic.PureOps.Ideal
public import Idealize.ShloMosaic.Lib.SortFacts

@[expose] public section

noncomputable section

/-! The descending order of a row of extended reals, ties by position; the rank of a position in it; a stable sort
lists the positions by rank. -/

namespace Cert.Proof.Rank

open Idealize.ShloMosaic

variable {n : ℕ}

/-- Position `i` comes strictly before `j`: its entry is greater, or equal at a lower index. -/
def Before (L : Fin n → EReal) (i j : Fin n) : Prop := L j < L i ∨ (L i = L j ∧ i < j)

/-- No position comes before itself. -/
theorem not_before_self (L : Fin n → EReal) (i : Fin n) : ¬ Before L i i := by
  rintro (h | ⟨_, h⟩)
  · exact lt_irrefl _ h
  · exact lt_irrefl _ h

/-- The order is transitive. -/
theorem Before.trans {L : Fin n → EReal} {i j k : Fin n} (h : Before L i j) (h' : Before L j k) : Before L i k := by
  rcases h with h | ⟨e, h⟩ <;> rcases h' with h' | ⟨e', h'⟩
  · exact Or.inl (h'.trans h)
  · exact Or.inl (e' ▸ h)
  · exact Or.inl (e ▸ h')
  · exact Or.inr ⟨e.trans e', h.trans h'⟩

/-- Of two different positions one comes before the other. -/
theorem before_or {L : Fin n → EReal} {i j : Fin n} (h : i ≠ j) : Before L i j ∨ Before L j i := by
  rcases lt_trichotomy (L i) (L j) with e | e | e
  · exact Or.inr (Or.inl e)
  · rcases lt_or_gt_of_ne h with g | g
    · exact Or.inl (Or.inr ⟨e, g⟩)
    · exact Or.inr (Or.inr ⟨e.symm, g⟩)
  · exact Or.inl (Or.inl e)

/-- Two positions do not come before each other. -/
theorem Before.asymm {L : Fin n → EReal} {i j : Fin n} (h : Before L i j) : ¬ Before L j i :=
  fun h' => not_before_self L i (h.trans h')

open Classical in
/-- How many positions come before `i`. -/
def rank (L : Fin n → EReal) (i : Fin n) : ℕ := (Finset.univ.filter fun j => Before L j i).card

/-- A position that comes before another has the smaller rank. -/
theorem rank_lt_rank {L : Fin n → EReal} {i j : Fin n} (h : Before L i j) : rank L i < rank L j := by
  classical
  refine Finset.card_lt_card (Finset.ssubset_iff_of_subset ?_ |>.mpr ⟨i, ?_, ?_⟩)
  · intro k hk
    simp only [Finset.mem_filter, Finset.mem_univ, true_and] at hk ⊢
    exact hk.trans h
  · simpa using h
  · simpa using not_before_self L i

/-- Before is the order of the ranks. -/
theorem rank_lt_iff {L : Fin n → EReal} {i j : Fin n} : rank L i < rank L j ↔ Before L i j := by
  refine ⟨fun h => ?_, rank_lt_rank⟩
  by_contra hn
  by_cases e : i = j
  · exact absurd (e ▸ h) (lt_irrefl _)
  · exact absurd (rank_lt_rank ((before_or e).resolve_left hn)) (not_lt.mpr h.le)

/-- Different positions have different ranks. -/
theorem rank_injective (L : Fin n → EReal) : Function.Injective (rank L) := by
  intro i j h
  by_contra hn
  rcases before_or (L := L) hn with g | g
  · exact absurd (rank_lt_rank g) (by omega)
  · exact absurd (rank_lt_rank g) (by omega)

/-- A listing of all positions in the order has position `k` at rank `k`. -/
theorem rank_of_listing (L : Fin n → EReal) (σ : Fin n → Fin n) (hσ : Function.Bijective σ)
    (hm : ∀ i j, i < j → Before L (σ i) (σ j)) (k : Fin n) : rank L (σ k) = k.val := by
  classical
  have h : (Finset.univ.filter fun j => Before L j (σ k)) = (Finset.Iio k).image σ := by
    ext j
    simp only [Finset.mem_filter, Finset.mem_univ, true_and, Finset.mem_image, Finset.mem_Iio]
    constructor
    · intro hj
      obtain ⟨i, rfl⟩ := hσ.2 j
      refine ⟨i, ?_, rfl⟩
      by_contra hn
      rcases (not_lt.mp hn).lt_or_eq with g | g
      · exact (hm _ _ g).asymm hj
      · exact not_before_self L _ (g ▸ hj)
    · rintro ⟨i, hi, rfl⟩
      exact hm _ _ hi
  rw [rank, h, Finset.card_image_of_injective _ hσ.1, Fin.card_Iio]

/-! ## The stable sort -/

/-- Sorted positions, equal ones kept in index order. -/
def Kept {ι : Type} [LT ι] (R : ι → ι → Bool) (b c : ι) : Prop := R b c = true ∨ (R c b = false ∧ b < c)

/-- Inserting an earlier index into an ordered list keeps it ordered. -/
theorem pairwise_insert {ι : Type} [LT ι] (R : ι → ι → Bool) (hR : ∀ a b, R a b = true → R b a = false)
    (hT : ∀ a b c, R a b = false → R b c = false → R a c = false) (a : ι) (l : List ι) (ha : ∀ b ∈ l, a < b)
    (hl : l.Pairwise (Kept R)) : (insertBefore R a l).Pairwise (Kept R) := by
  induction l with
  | nil => exact List.pairwise_singleton _ _
  | cons b l ih =>
    obtain ⟨hb, hl'⟩ := List.pairwise_cons.mp hl
    unfold insertBefore
    split
    · rename_i h
      refine List.pairwise_cons.mpr ⟨fun c hc => ?_, ih (fun c hc => ha c (List.mem_cons_of_mem _ hc)) hl'⟩
      rcases List.mem_cons.mp ((perm_insertBefore R a l).mem_iff.mp hc) with rfl | hc
      · exact Or.inl h
      · exact hb c hc
    · rename_i h
      have hba : R b a = false := by simpa using h
      refine List.pairwise_cons.mpr ⟨fun c hc => Or.inr ⟨?_, ha c hc⟩, hl⟩
      rcases List.mem_cons.mp hc with rfl | hc
      · exact hba
      · refine hT c b a ?_ hba
        rcases hb c hc with g | g
        · exact hR _ _ g
        · exact g.1

/-- The stable sort of indices in order is ordered, with ties in index order. -/
theorem pairwise_sort {ι : Type} [LT ι] (R : ι → ι → Bool) (hR : ∀ a b, R a b = true → R b a = false)
    (hT : ∀ a b c, R a b = false → R b c = false → R a c = false) (l : List ι) (hl : l.Pairwise (· < ·)) :
    (stableSort R l).Pairwise (Kept R) := by
  induction l with
  | nil => exact List.Pairwise.nil
  | cons a l ih =>
    obtain ⟨ha, hl'⟩ := List.pairwise_cons.mp hl
    unfold stableSort
    exact pairwise_insert R hR hT a _ (fun b hb => ha b ((perm_stableSort R l).mem_iff.mp hb)) (ih hl')

/-- The position a stable descending sort of `L` puts at `k`. -/
def top (L : Fin n → EReal) (k : Fin n) : Fin n :=
  sortedFrom (fun i j => FloatOps.cmpfTotal (F := Ideal) (φ := .f32) .gt (L i) (L j) == 1#1) k

/-- The sort's comparison bit says that the first number is greater. -/
theorem gt_iff (a b : EReal) : (FloatOps.cmpfTotal (F := Ideal) (φ := .f32) .gt a b == 1#1) = true ↔ b < a := by
  show ((Ideal.cmpTotal .gt a b) == 1#1) = true ↔ b < a
  simp only [Ideal.cmpTotal, CmpDirection.ordered, Ideal.cmp]
  by_cases h : b < a <;> simp [h]

/-- Sorting permutes the positions. -/
theorem top_bijective (L : Fin n → EReal) : Function.Bijective (top L) :=
  ⟨sortedFrom_injective _, sortedFrom_surjective _⟩

/-- Sorted positions are in order. -/
theorem top_before (L : Fin n → EReal) (i j : Fin n) (h : i < j) : Before L (top L i) (top L j) := by
  have hp := List.pairwise_iff_get.mp (pairwise_sort
    (fun i j => FloatOps.cmpfTotal (F := Ideal) (φ := .f32) .gt (L i) (L j) == 1#1)
    (fun a b hab => by
      rw [gt_iff] at hab
      exact Bool.eq_false_iff.mpr fun hc => absurd ((gt_iff _ _).mp hc) (not_lt.mpr hab.le))
    (fun a b c hab hbc => by
      have h1 := (not_congr (gt_iff (L a) (L b))).mp (by simpa using hab)
      have h2 := (not_congr (gt_iff (L b) (L c))).mp (by simpa using hbc)
      exact Bool.eq_false_iff.mpr fun hc => absurd ((gt_iff _ _).mp hc) (not_lt.mpr ((not_lt.mp h1).trans (not_lt.mp h2))))
    (List.finRange n) (List.pairwise_lt_finRange n))
  have := hp (i.cast (length_sortPositions n _).symm) (j.cast (length_sortPositions n _).symm) h
  rcases this with g | ⟨g, g'⟩
  · exact Or.inl ((gt_iff _ _).mp g)
  · have g1 := (not_congr (gt_iff _ _)).mp (by simpa using g)
    rcases lt_or_eq_of_le (not_lt.mp g1) with e | e
    · exact Or.inl e
    · exact Or.inr ⟨e.symm, g'⟩

/-- The stable descending sort lists positions by rank. -/
theorem rank_top (L : Fin n → EReal) (k : Fin n) : rank L (top L k) = k.val :=
  rank_of_listing L _ (top_bijective L) (top_before L) k

/-- A rank is below the length of the row. -/
theorem rank_lt (L : Fin n → EReal) (i : Fin n) : rank L i < n := by
  obtain ⟨k, rfl⟩ := (top_bijective L).2 i
  rw [rank_top]; exact k.isLt

/-- The position of a given rank is what the sort lists there. -/
theorem top_rank (L : Fin n → EReal) (i : Fin n) : top L ⟨rank L i, rank_lt L i⟩ = i :=
  rank_injective L (rank_top L _)

/-- The position of rank `k` is the one the sort puts at `k`. -/
theorem eq_top {L : Fin n → EReal} {i k : Fin n} (h : rank L i = k.val) : i = top L k :=
  rank_injective L (h.trans (rank_top L k).symm)

/-- Before, along the listing. -/
theorem top_before_iff (L : Fin n → EReal) (i j : Fin n) : Before L (top L i) (top L j) ↔ i < j := by
  rw [← rank_lt_iff, rank_top, rank_top]; rfl

end Cert.Proof.Rank

end
-- ==== Proof.Chunks.lean ====
module

public import proofs.«01_k».proof.Proof.Rank

@[expose] public section

noncomputable section

/-! The greatest of a row from the greatest of its chunks: a row of 32768 in 16 chunks of 2048, the first 640 of each
chunk kept; the first 640 of the kept ones are the first 640 of the row. -/

namespace Cert.Proof.Rank

variable (L : Fin 32768 → EReal)

/-- Position `w` of chunk `q`, as a position of the row. -/
@[irreducible] def cell (q : Fin 16) (w : Fin 2048) : Fin 32768 :=
  ⟨2048 * q.val + w.val, by have := q.isLt; have := w.isLt; omega⟩

/-- The index of a chunk's entry in the whole row. -/
theorem cell_val (q : Fin 16) (w : Fin 2048) : (cell q w).val = 2048 * q.val + w.val := by
  unfold cell; rfl

/-- Chunk `q` of the row. -/
def chunk (q : Fin 16) : Fin 2048 → EReal := fun w => L (cell q w)

/-- The chunk a kept position lies in. -/
def chunkOf (p : Fin 10240) : Fin 16 := ⟨p.val / 640, by have := p.isLt; omega⟩

/-- Its place in that chunk's order, as a position of the chunk. -/
def placeOf (p : Fin 10240) : Fin 2048 := ⟨p.val % 640, by have := Nat.mod_lt p.val (show 0 < 640 by omega); omega⟩

/-- The position in the row that a kept position stands for. -/
def source (p : Fin 10240) : Fin 32768 :=
  cell (chunkOf p) (top (chunk L (chunkOf p)) (placeOf p))

/-- The kept entries. -/
def kept (p : Fin 10240) : EReal := L (source L p)

/-- A chunk's order is the row's order on it. -/
theorem chunk_before (q : Fin 16) (w w' : Fin 2048) (h : Before (chunk L q) w w') :
    Before L (cell q w) (cell q w') := by
  rcases h with h | ⟨e, h⟩
  · exact Or.inl h
  · refine Or.inr ⟨e, ?_⟩
    have := Fin.lt_def.mp h
    exact Fin.lt_def.mpr (by rw [cell_val, cell_val]; omega)

/-- The kept entries are ordered as the positions they stand for. -/
theorem source_before {p p' : Fin 10240} (h : Before (kept L) p p') : Before L (source L p) (source L p') := by
  rcases h with h | ⟨e, h⟩
  · exact Or.inl h
  · by_cases hq : chunkOf p = chunkOf p'
    · have hlt : placeOf p < placeOf p' := by
        have h1 := congrArg Fin.val hq
        have h2 := Fin.lt_def.mp h
        refine Fin.lt_def.mpr ?_
        simp only [chunkOf, placeOf] at *
        omega
      have := chunk_before L _ _ _ (top_before (chunk L (chunkOf p)) _ _ hlt)
      simp only [source, ← hq]
      exact this
    · refine Or.inr ⟨e, Fin.lt_def.mpr ?_⟩
      have h1 : (chunkOf p).val ≠ (chunkOf p').val := fun h => hq (Fin.ext h)
      have h2 := Fin.lt_def.mp h
      have h3 := (top (chunk L (chunkOf p)) (placeOf p)).isLt
      simp only [source, cell_val]
      have h4 : (chunkOf p).val < (chunkOf p').val := by
        simp only [chunkOf] at *
        omega
      omega

/-- Different kept positions stand for different positions of the row. -/
theorem source_injective : Function.Injective (source L) := by
  intro p p' h
  by_contra hne
  rcases before_or (L := kept L) hne with hb | hb
  · have hb := source_before L hb
    rw [h] at hb
    exact not_before_self L _ hb
  · have hb := source_before L hb
    rw [h] at hb
    exact not_before_self L _ hb

/-- Kept positions whose sources are in order are themselves in order. -/
theorem before_source {p p' : Fin 10240} (h : Before L (source L p) (source L p')) : Before (kept L) p p' := by
  by_cases hne : p = p'
  · subst hne; exact absurd h (not_before_self L _)
  · rcases before_or (L := kept L) hne with hb | hb
    · exact hb
    · exact absurd (source_before L hb) h.asymm

/-- What comes before one of the first 640 kept entries is itself kept. -/
theorem source_of_before {p : Fin 10240} (hp : rank (kept L) p < 640) {i : Fin 32768} (h : Before L i (source L p)) :
    ∃ p', source L p' = i := by
  classical
  obtain ⟨q, w, hi⟩ : ∃ q w, i = cell q w :=
    ⟨⟨i.val / 2048, by have := i.isLt; omega⟩, ⟨i.val % 2048, Nat.mod_lt _ (by omega)⟩, Fin.ext (by rw [cell_val]; dsimp only; omega)⟩
  by_cases hs : rank (chunk L q) w < 640
  · have h1 : chunkOf ⟨640 * q.val + rank (chunk L q) w, by have := q.isLt; omega⟩ = q := Fin.ext (by simp only [chunkOf]; omega)
    have h2 : placeOf ⟨640 * q.val + rank (chunk L q) w, by have := q.isLt; omega⟩ = ⟨rank (chunk L q) w, rank_lt _ _⟩ :=
      Fin.ext (by simp only [placeOf]; omega)
    refine ⟨⟨640 * q.val + rank (chunk L q) w, by have := q.isLt; omega⟩, ?_⟩
    subst hi
    simp only [source, h1, h2, top_rank]
  · exfalso
    let f : Fin 640 → Fin 10240 := fun s => ⟨640 * q.val + s.val, by have := q.isLt; have := s.isLt; omega⟩
    have hf : Function.Injective f := fun s s' e => Fin.ext (by have := congrArg Fin.val e; simp only [f] at this; omega)
    have hb : ∀ s, Before (kept L) (f s) p := by
      intro s
      refine before_source L (Before.trans ?_ h)
      have h1 : chunkOf (f s) = q := Fin.ext (by have := s.isLt; simp only [chunkOf, f]; omega)
      have h2 : (placeOf (f s)).val = s.val := by have := s.isLt; simp only [placeOf, f]; omega
      have h3 : Before (chunk L q) (top (chunk L q) (placeOf (f s))) w := by
        refine rank_lt_iff.mp ?_
        rw [rank_top, h2]
        have := s.isLt
        omega
      have := chunk_before L _ _ _ h3
      rw [← hi] at this
      simp only [source, h1] at *
      exact this
    have hc : (Finset.univ.image f).card ≤ rank (kept L) p := Finset.card_le_card fun x hx => by
      obtain ⟨s, _, rfl⟩ := Finset.mem_image.mp hx
      exact Finset.mem_filter.mpr ⟨Finset.mem_univ _, hb s⟩
    rw [Finset.card_image_of_injective _ hf, Finset.card_univ, Fintype.card_fin] at hc
    omega

/-- Among the first 640, a kept position and its source have the same rank. -/
theorem rank_source {p : Fin 10240} (hp : rank (kept L) p < 640) : rank L (source L p) = rank (kept L) p := by
  classical
  unfold rank
  refine Eq.trans (congrArg Finset.card ?_) (Finset.card_image_of_injective (Finset.univ.filter fun j => Before (kept L) j p) (source_injective L))
  ext i
  simp only [Finset.mem_filter, Finset.mem_univ, true_and, Finset.mem_image]
  constructor
  · intro h
    obtain ⟨p', rfl⟩ := source_of_before L hp h
    exact ⟨p', before_source L h, rfl⟩
  · rintro ⟨p', h, rfl⟩
    exact source_before L h

/-- The first 640 kept entries stand for the first 640 of the row. -/
theorem source_top (t : Fin 640) : source L (top (kept L) ⟨t.val, by have := t.isLt; omega⟩) = top L ⟨t.val, by have := t.isLt; omega⟩ := by
  refine eq_top ?_
  have h := rank_top (kept L) ⟨t.val, by have := t.isLt; omega⟩
  rw [rank_source L (by rw [h]; exact t.isLt), h]

end Cert.Proof.Rank
-- ==== Proof.Masked.lean ====
module

public import proofs.«01_k».proof.Proof.Chunks

@[expose] public section

noncomputable section

/-! A row with some positions masked by a value below every entry: its first positions are the first unmasked ones of
the row itself. -/

namespace Cert.Proof.Rank

attribute [local irreducible] top

variable {n : ℕ}

/-- The row with the positions of `S` at `c`. -/
def masked (L : Fin n → EReal) (S : Finset (Fin n)) (c : EReal) : Fin n → EReal := fun i => if i ∈ S then c else L i

variable {L : Fin n → EReal} {S : Finset (Fin n)} {c : EReal}

/-- Masking does not change the order of unmasked positions. -/
theorem masked_before {i j : Fin n} (hi : i ∉ S) (hj : j ∉ S) : Before (masked L S c) i j ↔ Before L i j := by
  unfold Before masked
  rw [if_neg hi, if_neg hj]

/-- An unmasked position comes before every masked one. -/
theorem before_masked (hc : ∀ i, c < L i) {i j : Fin n} (hi : i ∉ S) (hj : j ∈ S) : Before (masked L S c) i j := by
  refine Or.inl ?_
  unfold masked
  rw [if_neg hi, if_pos hj]
  exact hc i

/-- What comes before an unmasked position is unmasked. -/
theorem not_masked_before (hc : ∀ i, c < L i) {i j : Fin n} (hi : i ∉ S) (h : Before (masked L S c) j i) : j ∉ S :=
  fun hj => h.asymm (before_masked hc hi hj)

/-- The rank under the mask counts the unmasked positions before. -/
theorem rank_masked (hc : ∀ i, c < L i) {i : Fin n} (hi : i ∉ S) :
    rank (masked L S c) i = (Finset.univ.filter fun t : Fin n => t.val < rank L i ∧ top L t ∉ S).card := by
  classical
  refine Eq.trans (congrArg Finset.card ?_) (Finset.card_image_of_injective _ (top_bijective L).1)
  ext j
  simp only [Finset.mem_filter, Finset.mem_univ, true_and, Finset.mem_image]
  constructor
  · intro h
    have hj := not_masked_before hc hi h
    obtain ⟨t, rfl⟩ := (top_bijective L).2 j
    refine ⟨t, ⟨?_, hj⟩, rfl⟩
    have := rank_lt_iff.mpr ((masked_before hj hi).mp h)
    rwa [rank_top] at this
  · rintro ⟨t, ⟨h, ht⟩, rfl⟩
    refine (masked_before ht hi).mpr (rank_lt_iff.mp ?_)
    rw [rank_top]
    exact h

/-- Masking removes at most the masked positions from before. -/
theorem rank_le_masked (_hc : ∀ i, c < L i) {i : Fin n} (hi : i ∉ S) : rank L i ≤ rank (masked L S c) i + S.card := by
  classical
  unfold rank
  refine (Finset.card_le_card (t := (Finset.univ.filter fun j => Before (masked L S c) j i) ∪ S) ?_).trans (Finset.card_union_le _ _)
  intro j hj
  simp only [Finset.mem_filter, Finset.mem_univ, true_and, Finset.mem_union] at hj ⊢
  by_cases h : j ∈ S
  · exact Or.inr h
  · exact Or.inl ((masked_before h hi).mpr hj)

/-- The first positions under the mask are unmasked. -/
theorem top_masked_notMem (hc : ∀ i, c < L i) (s : Fin n) (hs : s.val + S.card < n) : top (masked L S c) s ∉ S := by
  classical
  intro h
  have h1 : (Finset.univ \ S).card ≤ rank (masked L S c) (top (masked L S c) s) := Finset.card_le_card fun j hj => by
    simp only [Finset.mem_filter, Finset.mem_univ, true_and, Finset.mem_sdiff] at hj ⊢
    exact before_masked hc hj h
  rw [rank_top, Finset.card_sdiff_of_subset (Finset.subset_univ _), Finset.card_univ, Fintype.card_fin] at h1
  omega

/-! ## The candidates: the first 640 of the row -/

/-- How many unmasked candidates come before candidate `t`. -/
def place (L : Fin 32768 → EReal) (S : Finset (Fin 32768)) (t : Fin 640) : ℕ :=
  (Finset.univ.filter fun t' : Fin 640 => t' < t ∧ top L (t'.castLE (by decide)) ∉ S).card

/-- Candidate `t`. -/
def cand (L : Fin 32768 → EReal) (t : Fin 640) : Fin 32768 := top L (t.castLE (by decide))

/-- Candidate `t` has rank `t`. -/
theorem rank_cand (L : Fin 32768 → EReal) (t : Fin 640) : rank L (cand L t) = t.val := rank_top L _

/-- An unmasked candidate's rank in the masked row is its place. -/
theorem rank_masked_cand {L : Fin 32768 → EReal} {S : Finset (Fin 32768)} {c : EReal} (hc : ∀ i, c < L i) {t : Fin 640}
    (ht : cand L t ∉ S) : rank (masked L S c) (cand L t) = place L S t := by
  classical
  rw [rank_masked hc ht, rank_cand]
  refine Eq.symm (Eq.trans (Finset.card_image_of_injective _ (Fin.castLE_injective (show 640 ≤ 32768 by decide))).symm (congrArg Finset.card ?_))
  ext j
  simp only [Finset.mem_filter, Finset.mem_univ, true_and, Finset.mem_image]
  constructor
  · rintro ⟨t', ⟨h1, h2⟩, rfl⟩
    exact ⟨Fin.lt_def.mp h1, h2⟩
  · rintro ⟨h1, h2⟩
    exact ⟨⟨j.val, h1.trans t.isLt⟩, ⟨Fin.lt_def.mpr h1, h2⟩, rfl⟩

/-- The unmasked candidate at place `s` is the `s`-th greatest of the masked row. -/
theorem cand_eq_top {L : Fin 32768 → EReal} {S : Finset (Fin 32768)} {c : EReal} (hc : ∀ i, c < L i) {t : Fin 640}
    (ht : cand L t ∉ S) (s : Fin 32768) (hs : place L S t = s.val) : cand L t = top (masked L S c) s :=
  eq_top (by rw [rank_masked_cand hc ht, hs])

/-- A number below the bound is the value of an index. -/
theorem exists_val {m k : ℕ} (h : k < m) : ∃ t : Fin m, t.val = k := ⟨⟨k, h⟩, rfl⟩

/-- Each of the first 512 under the mask is an unmasked candidate, at its place. -/
theorem exists_cand {L : Fin 32768 → EReal} {S : Finset (Fin 32768)} {c : EReal} (hc : ∀ i, c < L i) (hS : S.card ≤ 128)
    (s : Fin 512) : ∃ t : Fin 640, cand L t ∉ S ∧ place L S t = s.val := by
  have hs := s.isLt
  have h1 := top_masked_notMem (S := S) hc (s.castLE (by decide)) (by rw [Fin.val_castLE]; omega)
  have h2 := rank_le_masked hc h1
  have h5 := rank_top (masked L S c) (s.castLE (by decide))
  generalize top (masked L S c) (s.castLE (by decide)) = x at h1 h2 h5
  rw [h5, Fin.val_castLE] at h2
  obtain ⟨t, ht⟩ : ∃ t : Fin 640, t.val = rank L x := exists_val (Nat.lt_of_le_of_lt h2 (by clear h1 h2 h5; omega))
  have h3 : cand L t = x := rank_injective L ((rank_cand L t).trans ht)
  subst h3
  refine ⟨t, h1, ?_⟩
  rw [← rank_masked_cand hc h1, h5, Fin.val_castLE]

/-- The places of unmasked candidates grow with the candidates. -/
theorem place_lt_place {L : Fin 32768 → EReal} {S : Finset (Fin 32768)} {t t' : Fin 640} (ht : cand L t ∉ S) (h : t < t') :
    place L S t < place L S t' := by
  classical
  unfold place
  refine Finset.card_lt_card (Finset.ssubset_iff_of_subset ?_ |>.mpr ⟨t, ?_, ?_⟩)
  · intro k hk
    simp only [Finset.mem_filter, Finset.mem_univ, true_and] at hk ⊢
    exact ⟨hk.1.trans h, hk.2⟩
  · exact Finset.mem_filter.mpr ⟨Finset.mem_univ _, h, ht⟩
  · intro hk
    exact lt_irrefl _ (Finset.mem_filter.mp hk).2.1

/-- Different lanes hold different candidates. -/
theorem cand_injective (L : Fin 32768 → EReal) : Function.Injective (cand L) := fun t t' h =>
  Fin.castLE_injective (show 640 ≤ 32768 by decide) ((top_bijective L).1 h)

end Cert.Proof.Rank
-- ==== Proof.Soft.lean ====
module

public import proofs.«01_k».proof.Proof.Masked

@[expose] public section

noncomputable section

/-! One slot's selection: the scores of the first 512 unmasked positions, their softmax, its greatest; and the same
computed over the 640 candidates with the others at -∞. -/

namespace Cert.Proof.Rank

open Idealize.ShloMosaic

/-- The softmax of a row, stabilised by its maximum. -/
def softmax {n : ℕ} (x : Fin n → EReal) (s : Fin n) : EReal :=
  Ideal.div (Ideal.exp (x s - Finset.univ.sup x)) (∑ k, Ideal.exp (x k - Finset.univ.sup x))

/-- A score of minus infinity weighs nothing. -/
theorem exp_bot_sub (m : EReal) : Ideal.exp (⊥ - m) = 0 := by
  rw [sub_eq_add_neg, EReal.bot_add]; rfl

/-! ## A row of scores spread over more lanes -/

section Spread
variable {n m : ℕ} (x : Fin n → EReal) (y : Fin m → EReal) (e : Fin n → Fin m) (he : Function.Injective e)
  (hx : ∀ s, y (e s) = x s) (hy : ∀ t, (∀ s, e s ≠ t) → y t = ⊥)
include hx hy

/-- Spreading a row over more lanes keeps its maximum. -/
theorem sup_spread : Finset.univ.sup y = Finset.univ.sup x := by
  refine le_antisymm (Finset.sup_le fun t _ => ?_) (Finset.sup_le fun s _ => ?_)
  · by_cases h : ∃ s, e s = t
    · obtain ⟨s, rfl⟩ := h
      rw [hx]
      exact Finset.le_sup (Finset.mem_univ s)
    · rw [hy t fun s h' => h ⟨s, h'⟩]
      exact bot_le
  · rw [← hx]
    exact Finset.le_sup (Finset.mem_univ (e s))

include he in
/-- Spreading a row over more lanes keeps its softmax. -/
theorem softmax_spread (s : Fin n) : softmax y (e s) = softmax x s := by
  classical
  unfold softmax
  rw [sup_spread x y e hx hy, hx]
  congr 1
  symm
  refine Finset.sum_of_injOn e he.injOn (fun _ _ => Finset.mem_coe.mpr (Finset.mem_univ _)) (fun t _ ht => ?_) (fun k _ => by rw [hx])
  rw [hy t fun k h => ht (by simpa using ⟨k, h⟩), exp_bot_sub]
end Spread

/-- A position that nothing comes before has rank zero. -/
theorem rank_eq_zero {n : ℕ} {L : Fin n → EReal} {i : Fin n} (h : ∀ j, ¬ Before L j i) : rank L i = 0 := by
  classical
  exact Finset.card_eq_zero.mpr (Finset.filter_eq_empty_iff.mpr fun j _ => h j)

/-! ## Real scores -/

/-- A row that is not empty attains its maximum. -/
theorem exists_max {n : ℕ} (x : Fin n → EReal) (hn : 0 < n) : ∃ s, x s = Finset.univ.sup x := by
  haveI : Nonempty (Fin n) := ⟨⟨0, hn⟩⟩
  obtain ⟨s, _, h⟩ := Finset.exists_mem_eq_sup Finset.univ Finset.univ_nonempty x
  exact ⟨s, h.symm⟩

/-- A sum of reals is the same in the extended reals. -/
theorem sum_coe {ι : Type} (s : Finset ι) (f : ι → ℝ) : (∑ k ∈ s, ((f k : ℝ) : EReal)) = ((∑ k ∈ s, f k : ℝ) : EReal) := by
  classical
  refine Finset.induction_on s (by simp) fun a s ha ih => ?_
  rw [Finset.sum_insert ha, Finset.sum_insert ha, ih, EReal.coe_add]

/-- The softmax of real scores is real and positive. -/
theorem softmax_real {n : ℕ} (x : Fin n → EReal) (hn : 0 < n) (hx : ∀ s, ∃ r : ℝ, x s = r) (s : Fin n) :
    ∃ r : ℝ, 0 < r ∧ softmax x s = r := by
  obtain ⟨s0, h0⟩ := exists_max x hn
  obtain ⟨m, hm⟩ := hx s0
  choose f hf using hx
  unfold softmax
  rw [← h0, hm]
  have h1 : ∀ k, Ideal.exp (x k - (m : EReal)) = ((Real.exp (f k - m) : ℝ) : EReal) := fun k => by
    rw [hf, ← EReal.coe_sub]; rfl
  simp only [h1]
  have h2 : (∑ k, ((Real.exp (f k - m) : ℝ) : EReal)) = ((∑ k, Real.exp (f k - m) : ℝ) : EReal) :=
    sum_coe _ _
  have h3 : 0 < ∑ k, Real.exp (f k - m) := Finset.sum_pos (fun k _ => Real.exp_pos _) ⟨s, Finset.mem_univ s⟩
  rw [h2, Ideal.div, if_neg (by exact_mod_cast h3.ne'), ← EReal.coe_inv, ← EReal.coe_mul]
  exact ⟨_, mul_pos (Real.exp_pos _) (inv_pos.mpr h3), rfl⟩

/-! ## One slot -/

section Slot
variable (L : Fin 32768 → EReal) (S : Finset (Fin 32768)) (c : EReal) (g : Fin 512 → EReal) (τ : EReal)

/-- Position `s` of the slot's candidates: the `s`-th greatest of the masked row. -/
def pick (s : Fin 512) : Fin 32768 := top (masked L S c) (s.castLE (by decide))

/-- Its score: the logit plus the noise, over the temperature. -/
def score (s : Fin 512) : EReal := Ideal.div (masked L S c (pick L S c s) + g s) τ

/-- Its probability. -/
def prob (s : Fin 512) : EReal := softmax (score L S c g τ) s

/-- The place of the greatest probability. -/
def best : Fin 512 := top (prob L S c g τ) ⟨0, by decide⟩

/-- The position the slot selects. -/
def choice : Fin 32768 := pick L S c (best L S c g τ)

/-- The slot's probabilities over the whole row. -/
def spread (i : Fin 32768) : EReal :=
  if h : rank (masked L S c) i < 512 then prob L S c g τ ⟨_, h⟩ else 0

open Classical in
/-- The scores over the 640 candidates: those masked or beyond the first 512 at -∞. -/
def laneScore (t : Fin 640) : EReal :=
  if h : cand L t ∉ S ∧ place L S t < 512 then Ideal.div (L (cand L t) + g ⟨_, h.2⟩) τ else ⊥

open Classical in
/-- The probabilities over the 640 candidates. -/
def laneProb (t : Fin 640) : EReal :=
  if cand L t ∉ S ∧ place L S t < 512 then softmax (laneScore L S g τ) t else 0

attribute [local irreducible] top rank place cand

variable {L S c g τ} (hc : ∀ i, c < L i) (hS : S.card ≤ 128)

/-- The candidate at a place. -/
def laneOf (s : Fin 512) : Fin 640 := (exists_cand hc hS s).choose

/-- The candidate at a place is not masked. -/
theorem laneOf_notMem (s : Fin 512) : cand L (laneOf hc hS s) ∉ S := (exists_cand hc hS s).choose_spec.1
/-- The candidate at place `s` has place `s`. -/
theorem place_laneOf (s : Fin 512) : place L S (laneOf hc hS s) = s.val := (exists_cand hc hS s).choose_spec.2

/-- Different places have different candidates. -/
theorem laneOf_injective : Function.Injective (laneOf hc hS) := fun s s' h => Fin.ext (by
  rw [← place_laneOf hc hS s, ← place_laneOf hc hS s', h])

/-- Unmasked candidates at one place are equal. -/
theorem place_inj {t t' : Fin 640} (h : cand L t ∉ S) (h' : cand L t' ∉ S) (e : place L S t = place L S t') : t = t' := by
  rcases lt_trichotomy t t' with g | g | g
  · exact absurd e (place_lt_place h g).ne
  · exact g
  · exact absurd e (place_lt_place h' g).ne'

/-- The candidate at a candidate's place is that candidate. -/
theorem laneOf_place {t : Fin 640} (h : cand L t ∉ S) (h' : place L S t < 512) : laneOf hc hS ⟨_, h'⟩ = t :=
  place_inj (laneOf_notMem hc hS _) h (place_laneOf hc hS _)

/-- Candidates in order have places in order. -/
theorem laneOf_lt {s s' : Fin 512} (h : laneOf hc hS s < laneOf hc hS s') : s < s' := by
  have := place_lt_place (laneOf_notMem hc hS s) h
  rw [place_laneOf, place_laneOf] at this
  exact Fin.lt_def.mpr this

/-- The candidate at place `s` is the `s`-th greatest of the masked row. -/
theorem cand_laneOf (s : Fin 512) : cand L (laneOf hc hS s) = pick L S c s :=
  cand_eq_top hc (laneOf_notMem hc hS s) (s.castLE (by decide)) (place_laneOf hc hS s)

include hc hS in
/-- The slot's first 512 positions are not masked. -/
theorem pick_notMem (s : Fin 512) : pick L S c s ∉ S := by
  rw [← cand_laneOf hc hS]; exact laneOf_notMem hc hS s

include hc hS in
/-- The masked row has the logit at each of them. -/
theorem masked_pick (s : Fin 512) : masked L S c (pick L S c s) = L (pick L S c s) := by
  unfold masked
  rw [if_neg (pick_notMem hc hS s)]

/-- The score of the lane at place `s` is score `s`. -/
theorem laneScore_laneOf (s : Fin 512) : laneScore L S g τ (laneOf hc hS s) = score L S c g τ s := by
  have h : cand L (laneOf hc hS s) ∉ S ∧ place L S (laneOf hc hS s) < 512 :=
    ⟨laneOf_notMem hc hS s, by rw [place_laneOf]; exact s.isLt⟩
  have h2 : (⟨place L S (laneOf hc hS s), h.2⟩ : Fin 512) = s := Fin.ext (place_laneOf hc hS s)
  unfold laneScore score
  rw [dif_pos h, h2, cand_laneOf, masked_pick hc hS]

/-- A lane at none of the 512 places scores minus infinity. -/
theorem laneScore_off {t : Fin 640} (h : ∀ s, laneOf hc hS s ≠ t) : laneScore L S g τ t = ⊥ := by
  unfold laneScore
  rw [dif_neg fun h' => h _ (laneOf_place hc hS h'.1 h'.2)]

/-- The probability of the lane at place `s` is probability `s`. -/
theorem laneProb_laneOf (s : Fin 512) : laneProb L S g τ (laneOf hc hS s) = prob L S c g τ s := by
  have h : cand L (laneOf hc hS s) ∉ S ∧ place L S (laneOf hc hS s) < 512 :=
    ⟨laneOf_notMem hc hS s, by rw [place_laneOf]; exact s.isLt⟩
  unfold laneProb prob
  rw [if_pos h]
  exact softmax_spread _ _ (laneOf hc hS) (laneOf_injective hc hS) (laneScore_laneOf hc hS) (fun t => laneScore_off hc hS) s

/-- A lane at none of the 512 places has probability zero. -/
theorem laneProb_off {t : Fin 640} (h : ∀ s, laneOf hc hS s ≠ t) : laneProb L S g τ t = 0 := by
  unfold laneProb
  rw [if_neg fun h' => h _ (laneOf_place hc hS h'.1 h'.2)]

attribute [local irreducible] laneOf laneProb prob

variable (hL : ∀ i, ∃ r : ℝ, L i = r) (hg : ∀ s, ∃ r : ℝ, g s = r) (hτ : ∃ r : ℝ, r ≠ 0 ∧ τ = r)
include hL hg hτ

include hc hS in
/-- Every score is a real number. -/
theorem score_real (s : Fin 512) : ∃ r : ℝ, score L S c g τ s = r := by
  obtain ⟨a, ha⟩ := hL (pick L S c s)
  obtain ⟨b, hb⟩ := hg s
  obtain ⟨t, ht, rfl⟩ := hτ
  unfold score
  rw [masked_pick hc hS, ha, hb, Ideal.div, if_neg (by exact_mod_cast ht), ← EReal.coe_add, ← EReal.coe_inv, ← EReal.coe_mul]
  exact ⟨_, rfl⟩

include hc hS in
/-- Every probability is a positive real number. -/
theorem prob_real (s : Fin 512) : ∃ r : ℝ, 0 < r ∧ prob L S c g τ s = r := by
  unfold prob
  exact softmax_real _ (by decide) (score_real hc hS hL hg hτ) s

include hc hS in
/-- The greatest over the candidates is the greatest over the places, and the first candidate holding it is the selected one. -/
theorem first_max {p : Fin 640} (hp : laneProb L S g τ p = Finset.univ.sup (laneProb L S g τ))
    (hmin : ∀ t, laneProb L S g τ t = Finset.univ.sup (laneProb L S g τ) → p ≤ t) :
    p = laneOf hc hS (best L S c g τ) := by
  have hle : ∀ s, prob L S c g τ s ≤ laneProb L S g τ p := fun s => by
    rw [hp, ← laneProb_laneOf hc hS]
    exact Finset.le_sup (Finset.mem_univ _)
  obtain ⟨s, hs⟩ : ∃ s, laneOf hc hS s = p := by
    by_contra h
    have h0 := laneProb_off hc hS (g := g) (τ := τ) (t := p) fun s h' => h ⟨s, h'⟩
    obtain ⟨r, hr, he⟩ := prob_real hc hS hL hg hτ ⟨0, by decide⟩
    have := hle ⟨0, by decide⟩
    rw [h0, he] at this
    exact absurd this (not_le.mpr (by exact_mod_cast hr))
  subst hs
  congr 1
  refine eq_top ?_
  refine rank_eq_zero fun j hj => ?_
  rcases hj with h2 | ⟨h2, h3⟩
  · exact absurd h2 (not_lt.mpr ((hle j).trans_eq (laneProb_laneOf hc hS s)))
  · have h4 := hmin (laneOf hc hS j) (by rw [← hp, laneProb_laneOf, laneProb_laneOf, h2])
    rcases lt_or_eq_of_le h4 with h5 | h5
    · exact absurd (laneOf_lt hc hS h5) (not_lt.mpr h3.le)
    · exact absurd (laneOf_injective hc hS h5) h3.ne'
omit hL hg hτ

/-! ## The row of probabilities from the candidates -/

/-- The `s`-th position has rank `s` in the masked row. -/
theorem rank_pick (s : Fin 512) : rank (masked L S c) (pick L S c s) = s.val := rank_top _ _

/-- The spread probabilities at the `s`-th position are probability `s`. -/
theorem spread_pick (s : Fin 512) : spread L S c g τ (pick L S c s) = prob L S c g τ s := by
  have h := rank_pick (L := L) (S := S) (c := c) s
  unfold spread
  rw [dif_pos (h.trans_lt s.isLt)]
  exact congrArg (prob L S c g τ) (Fin.ext h)

/-- The spread probabilities vanish off the 512 positions. -/
theorem spread_off {i : Fin 32768} (h : ∀ s, pick L S c s ≠ i) : spread L S c g τ i = 0 := by
  unfold spread
  refine dif_neg fun h' => ?_
  refine h ⟨_, h'⟩ (rank_injective (masked L S c) ?_)
  rw [rank_pick]

/-- The 512 positions are different. -/
theorem pick_injective : Function.Injective (pick L S c) := fun s s' h => Fin.ext (by
  rw [← rank_pick (L := L) (S := S) (c := c) s, ← rank_pick (L := L) (S := S) (c := c) s', h])

include hc hS in
/-- The spread probabilities at a candidate are its lane's probability. -/
theorem spread_cand (t : Fin 640) : spread L S c g τ (cand L t) = laneProb L S g τ t := by
  by_cases h : ∃ s, laneOf hc hS s = t
  · obtain ⟨s, rfl⟩ := h
    rw [cand_laneOf, spread_pick, laneProb_laneOf]
  · rw [laneProb_off hc hS fun s h' => h ⟨s, h'⟩]
    refine spread_off fun s h' => h ⟨s, cand_injective L ?_⟩
    rw [cand_laneOf, h']

include hc hS in
/-- The spread probabilities vanish off the 640 candidates. -/
theorem spread_off_cand {i : Fin 32768} (h : ∀ t, cand L t ≠ i) : spread L S c g τ i = 0 :=
  spread_off fun s h' => h (laneOf hc hS s) (by rw [cand_laneOf, h'])

/-- A sum against the spread row is the sum over the places. -/
theorem sum_spread (f : Fin 32768 → EReal) :
    ∑ i, spread L S c g τ i * f i = ∑ s, prob L S c g τ s * f (pick L S c s) := by
  classical
  symm
  refine Finset.sum_of_injOn (pick L S c) pick_injective.injOn (fun _ _ => Finset.mem_coe.mpr (Finset.mem_univ _))
    (fun i _ hi => ?_) (fun s _ => by rw [spread_pick])
  rw [spread_off fun s h => hi (by simpa using ⟨s, h⟩), zero_mul]

end Slot

end Cert.Proof.Rank
-- ==== Proof.Lanes.lean ====
module

public import proofs.«01_k».proof.Proof.SelectRun
public import proofs.«01_k».proof.Proof.Soft

@[expose] public section

set_option maxRecDepth 16384

noncomputable section

/-! One slot of region 1, lane by lane: which candidates survive, their running count, the scores and the
probabilities. -/

namespace Cert.KernelIdeal.Val

open Idealize.ShloMosaic Idealize.ShloMosaic.TcCoe Idealize.SL.Sem
open Idealize.ShloMosaic.ValueIdx
open Cert.KernelIdeal Cert.KernelIdeal.Gen

/-- Reducing the rows of a matrix sums over the entries of a column. -/
theorem lift_rows (h : S128x640.Reduces [0] S640) (t : Fin 640) (k : Fin 128) : h.lift (ix1 t) k = ix2 k t := by
  funext c; apply Fin.ext; fin_cases c <;> rfl

/-- Reducing the one row sums over its lanes. -/
theorem lift_lanes (h : S1x640.Reduces [1] S1) (t : Fin 640) : h.lift (ix1 0) t = ix2 0 t := by
  funext c; apply Fin.ext; fin_cases c <;> rfl

/-- A sum down the 128 rows. -/
theorem sum_rows (x : FVec Ideal S128x640 .f32) (t : Fin 640) :
    multiReduction .add [0] S640 x 0x00000000#32 reduces_S128x640_S640 (.inl rfl) rfl (ix1 t) = ∑ k : Fin 128, x (ix2 k t) :=
  (Ideal.multiReduction_add_single x _ reduces_S128x640_S640 (.inl rfl) rfl (ix1 t)).trans
    (Finset.sum_congr rfl fun k _ => congrArg x (lift_rows _ t k))

/-- A sum along the 640 lanes. -/
theorem sum_lanes (x : FVec Ideal S1x640 .f32) :
    multiReduction .add [1] S1 x 0x00000000#32 reduces_S1x640_S1 (.inl rfl) rfl (ix1 0) = ∑ t : Fin 640, x (ix2 0 t) :=
  (Ideal.multiReduction_add_single x _ reduces_S1x640_S1 (.inl rfl) rfl (ix1 0)).trans
    (Finset.sum_congr rfl fun k _ => congrArg x (lift_lanes _ k))

/-- The word of minus infinity reads as the bottom element. -/
theorem ofBits_neg_inf : Ideal.ofBits .f32 0xFF800000#32 = ⊥ := by simp [Ideal.ofBits, Ideal.ieee]

/-- The word of one reads as one. -/
theorem ofBits_one : Ideal.ofBits .f32 0x3F800000#32 = 1 := by
  simp [Ideal.ofBits, Ideal.ieee]
  rw [← EReal.coe_mul]
  norm_num

/-- The word of 512 reads as 512. -/
theorem ofBits_512 : Ideal.ofBits .f32 0x44000000#32 = ((512 : ℝ) : EReal) := by
  simp [Ideal.ofBits, Ideal.ieee]
  rw [← EReal.coe_mul]
  norm_num

/-- An iota along one axis is the word of that coordinate. -/
theorem iota_one {s : Shape} (κ : Kind) (d : Fin s.rank) (h : s.Iotas κ 32 [d]) (i : s.Idx) :
    iota κ s 32 [d] h i = BitVec.ofNat 32 (i d).val :=
  congrArg (BitVec.ofNat 32) (by show 0 * s.size d + (i d).val = _; rw [Nat.zero_mul, Nat.zero_add])

/-- A maximum along the 640 lanes. -/
theorem max_lanes (x : FVec Ideal S1x640 .f32) :
    multiReduction .maximumf [1] S1 x 0xFF800000#32 reduces_S1x640_S1 (.inl rfl) rfl (ix1 0)
      = Finset.univ.sup fun t : Fin 640 => x (ix2 0 t) := by
  refine (Ideal.multiReduction_maximumf_single x _ reduces_S1x640_S1 (.inl rfl) rfl (ix1 0)).trans ?_
  have hf : (x ∘ (reduces_S1x640_S1).lift (ix1 0)) = fun t : Fin 640 => x (ix2 0 t) :=
    funext fun k => congrArg x (lift_lanes _ k)
  have hb : (FloatOps.ofBits .f32 0xFF800000#32 : Ideal .f32) = (⊥ : EReal) := ofBits_neg_inf
  refine (congrArg (fun f => Finset.fold max (FloatOps.ofBits .f32 0xFF800000#32 : Ideal .f32) f (Finset.univ : Finset (Fin 640))) hf).trans ?_
  rw [hb]
  rfl

/-- A column of 640 as one row. -/
theorem cast_row {α : Type} (z : S640.Idx → α) (t : Fin 640) : shapeCast S1x640 z shapeCasts_S640_S1x640 (ix2 0 t) = z (ix1 t) :=
  (shapeCast_addUnit_apply ![640] z shapeCasts_S640_S1x640 (ix2 (0 : Fin 1) t)).trans
    (congrArg z (funext fun a => by fin_cases a; rfl))

/-- One element as a one by one array. -/
theorem cast_one {α : Type} (z : S1.Idx → α) : shapeCast S1x1 z shapeCasts_S1_S1x1 (ix2 0 0) = z (ix1 0) :=
  (shapeCast_addUnit_apply ![1] z shapeCasts_S1_S1x1 (ix2 (0 : Fin 1) (0 : Fin 1))).trans
    (congrArg z (funext fun a => by fin_cases a; rfl))

/-- One element spread along the lanes. -/
theorem spread_one {α : Type} (z : S1.Idx → α) (t : Fin 640) :
    broadcastTo S1x640 (shapeCast S1x1 z shapeCasts_S1_S1x1) broadcasts_S1x1_S1x640 (ix2 0 t) = z (ix1 0) :=
  Eq.trans (b := shapeCast S1x1 z shapeCasts_S1_S1x1 (ix2 0 0))
    (congrArg (shapeCast S1x1 z shapeCasts_S1_S1x1) (funext fun a => by fin_cases a <;> rfl)) (cast_one z)

/-- A truth value read as a number. -/
theorem sitofp_bool (b : Bool) :
    (FloatOps.sitofp .f32 ((BitVec.ofBool b).setWidth 32) : Ideal .f32) = (((if b then 1 else 0 : ℕ) : ℝ) : EReal) := by
  cases b <;> simp [FloatOps.sitofp, BitVec.ofBool]

/-- A sum of truth values counts them. -/
theorem sum_bool {ι : Type} (s : Finset ι) (p : ι → Prop) [DecidablePred p] :
    ∑ i ∈ s, (((if p i then 1 else 0 : ℕ) : ℝ) : EReal) = (((s.filter p).card : ℝ) : EReal) := by
  rw [Cert.Proof.Rank.sum_coe, ← Nat.cast_sum, Finset.card_filter]

/-- A selection whose bit is set takes the first value. -/
theorem select_pos {α : Type} {c : BitVec 1} (h : c = 1#1) (a b : α) : Scalar.select c a b = a := if_pos h

/-- A selection whose bit is not set takes the second value. -/
theorem select_neg {α : Type} {c : BitVec 1} (h : ¬ c = 1#1) (a b : α) : Scalar.select c a b = b := if_neg h

variable (sel : IVec S128x1 32) (ci : IVec S1x640 32)

/-- A lane survives when no carried selection is its position. -/
abbrev Surv (t : Fin 640) : Prop := ∀ j : Fin 128, ¬ ci (ix2 0 t) = sel (ix2 j 0)

/-- The survivor bit of a lane says that its candidate was not selected before. -/
theorem pay8_apply (t : Fin 640) : k1_pay8 (F := Ideal) sel ci (ix2 0 t) = BitVec.ofBool (decide (Surv sel ci t)) := by
  unfold k1_pay8 k1_pay7
  dsimp only
  rw [shapeCast_self]
  show FloatOps.cmpf .oeq (shapeCast S1x640 _ shapeCasts_S640_S1x640 (ix2 0 t)) (Ideal.ofBits .f32 0x00000000#32) = _
  rw [cast_row, sum_rows, Ideal.ofBits_zero_f32]
  have e : ∀ k : Fin 128, (sitofp .f32 (extui 32 (cmpi .eq (broadcastTo S128x640 ci broadcasts_S1x640_S128x640) (broadcastTo S128x640 sel broadcasts_S128x1_S128x640)) natLt_1_32) : FVec Ideal S128x640 .f32) (ix2 k t) = (((if ci (ix2 0 t) = sel (ix2 k 0) then 1 else 0 : ℕ) : ℝ) : EReal) := by
    intro k
    refine Eq.trans (b := (FloatOps.sitofp .f32 ((BitVec.ofBool (decide (ci (ix2 0 t) = sel (ix2 k 0)))).setWidth 32) : Ideal .f32)) ?_ ?_
    · have h1 : broadcastTo S128x640 ci broadcasts_S1x640_S128x640 (ix2 k t) = ci (ix2 0 t) :=
        congrArg ci (funext fun a => by fin_cases a <;> rfl)
      have h2 : broadcastTo S128x640 sel broadcasts_S128x1_S128x640 (ix2 k t) = sel (ix2 k 0) :=
        congrArg sel (funext fun a => by fin_cases a <;> rfl)
      rw [← h1, ← h2]
      rfl
    · rw [sitofp_bool]
      simp
  rw [Finset.sum_congr rfl fun k _ => e k, sum_bool]
  show BitVec.ofBool (decide _) = _
  congr 1
  rw [decide_eq_decide]
  rw [← EReal.coe_zero, EReal.coe_eq_coe_iff]
  rw [Nat.cast_eq_zero, Finset.card_eq_zero, Finset.filter_eq_empty_iff]
  simp [Surv]

/-- The running count of the survivors, less one. -/
theorem pay9_apply (t : Fin 640) : k1_pay9 (F := Ideal) k1_pay1 sel ci (ix2 0 t)
    = ((((Finset.univ.filter fun k : Fin 640 => Surv sel ci k ∧ k ≤ t).card : ℝ) : EReal)) - 1 := by
  unfold k1_pay9
  show matmul _ none _ _ _ (ix2 0 t) - Ideal.ofBits .f32 0x3F800000#32 = _
  rw [ofBits_one]
  congr 1
  refine (Ideal.matmul_plain_apply (M := 1) (K := 640) (N := 640) none _ _ _ 0 t).trans ?_
  rw [constant_apply, Ideal.ofBits_zero_f32, zero_add]
  have e : ∀ k : Fin 640, (sitofp .f32 (extui 32 (k1_pay8 (F := Ideal) sel ci) natLt_1_32) : FVec Ideal S1x640 .f32) (ix2 0 k) * (k1_pay1 : FVec Ideal S640x640 .f32) (ix2 k t)
      = (((if Surv sel ci k ∧ k ≤ t then 1 else 0 : ℕ) : ℝ) : EReal) := by
    intro k
    have h1 : (sitofp .f32 (extui 32 (k1_pay8 (F := Ideal) sel ci) natLt_1_32) : FVec Ideal S1x640 .f32) (ix2 0 k) = (((if Surv sel ci k then 1 else 0 : ℕ) : ℝ) : EReal) := by
      refine Eq.trans (b := (FloatOps.sitofp .f32 ((k1_pay8 (F := Ideal) sel ci (ix2 0 k)).setWidth 32) : Ideal .f32)) rfl ?_
      rw [pay8_apply, sitofp_bool]
      simp only [decide_eq_true_eq]
    have h2 : (k1_pay1 : FVec Ideal S640x640 .f32) (ix2 k t) = (((if k ≤ t then 1 else 0 : ℕ) : ℝ) : EReal) := by
      refine Eq.trans (b := (FloatOps.sitofp .f32 ((BitVec.ofBool (decide (k ≤ t))).setWidth 32) : Ideal .f32)) ?_ ?_
      · refine congrArg (fun b : BitVec 1 => (FloatOps.sitofp .f32 (b.setWidth 32) : Ideal .f32)) ?_
        show BitVec.ofBool ((iota .tc S640x640 32 [0] iota_S640x640_d0_w32 (ix2 k t)).sle (iota .tc S640x640 32 [1] iota_S640x640_d1_w32 (ix2 k t))) = _
        rw [iota_one, iota_one]
        show BitVec.ofBool ((BitVec.ofNat 32 k.val).sle (BitVec.ofNat 32 t.val)) = _
        have hk := k.isLt
        have ht := t.isLt
        rw [BitVec.sle_eq_decide]
        congr 1
        rw [decide_eq_decide, BitVec.toInt_eq_toNat_of_lt (by rw [BitVec.toNat_ofNat]; omega), BitVec.toInt_eq_toNat_of_lt (by rw [BitVec.toNat_ofNat]; omega), BitVec.toNat_ofNat, BitVec.toNat_ofNat, Fin.le_def]
        omega
      · rw [sitofp_bool]
        simp only [decide_eq_true_eq]
    rw [h1, h2, ← EReal.coe_mul, ← Nat.cast_mul]
    by_cases a : Surv sel ci k <;> by_cases b : k ≤ t <;> simp [a, b]
  rw [Finset.sum_congr rfl fun k _ => e k, sum_bool]

/-! ## Over the candidates of one slot -/

open Cert.Proof.Rank

variable {L : Fin 32768 → EReal} {S : Finset (Fin 32768)} {g : Fin 512 → EReal} {τ : EReal}

section Slot
variable {sel ci} (hci : ∀ t : Fin 640, ci (ix2 0 t) = BitVec.ofNat 32 (cand L t).val)
  (hsel : ∀ i : Fin 32768, (∃ j : Fin 128, BitVec.ofNat 32 i.val = sel (ix2 j 0)) ↔ i ∈ S)

attribute [local irreducible] top rank place cand

include hci hsel in
/-- A lane survives when its candidate is not among the selected positions. -/
theorem surv_iff (t : Fin 640) : Surv sel ci t ↔ cand L t ∉ S := by
  rw [← hsel, not_exists, Surv]
  simp only [hci]

include hci hsel in
/-- The running count at a surviving lane. -/
theorem count_eq {t : Fin 640} (ht : cand L t ∉ S) :
    (Finset.univ.filter fun k : Fin 640 => Surv sel ci k ∧ k ≤ t).card = place L S t + 1 := by
  classical
  have e : (Finset.univ.filter fun k : Fin 640 => Surv sel ci k ∧ k ≤ t)
      = insert t (Finset.univ.filter fun k : Fin 640 => k < t ∧ cand L k ∉ S) := by
    ext k
    rw [Finset.mem_insert, Finset.mem_filter, Finset.mem_filter, surv_iff hci hsel]
    constructor
    · rintro ⟨-, h, hk⟩
      rcases hk.lt_or_eq with hk | hk
      · exact Or.inr ⟨Finset.mem_univ _, hk, h⟩
      · exact Or.inl hk
    · rintro (rfl | ⟨-, hk, h⟩)
      · exact ⟨Finset.mem_univ _, ht, le_rfl⟩
      · exact ⟨Finset.mem_univ _, h, hk.le⟩
  rw [e, Finset.card_insert_of_notMem (fun h => lt_irrefl _ (Finset.mem_filter.1 h).2.1)]
  unfold place cand
  congr 2

include hci hsel in
/-- The place of a surviving lane, as the kernel computes it. -/
theorem pay9_place {t : Fin 640} (ht : cand L t ∉ S) :
    k1_pay9 (F := Ideal) k1_pay1 sel ci (ix2 0 t) = ((place L S t : ℝ) : EReal) := by
  rw [pay9_apply, count_eq hci hsel ht, ← EReal.coe_one, ← EReal.coe_sub]
  congr 1
  push_cast
  ring

include hci hsel in
/-- The lanes taking part. -/
theorem pay10_iff (t : Fin 640) :
    k1_pay10 (F := Ideal) k1_pay1 sel ci (ix2 0 t) = 1#1 ↔ cand L t ∉ S ∧ place L S t < 512 := by
  show (IntOp.andi (k1_pay8 (F := Ideal) sel ci (ix2 0 t)) (BitVec.ofBool (decide (k1_pay9 (F := Ideal) k1_pay1 sel ci (ix2 0 t) < Ideal.ofBits .f32 0x44000000#32)))) = 1#1 ↔ _
  rw [pay8_apply, ofBits_512]
  by_cases ht : cand L t ∉ S
  · rw [pay9_place hci hsel ht]
    have hs := (surv_iff hci hsel t).2 ht
    simp only [EReal.coe_lt_coe_iff]
    have : ((place L S t : ℝ) < 512) ↔ place L S t < 512 := by exact_mod_cast Iff.rfl
    by_cases h : place L S t < 512 <;> simp only [ht, this, h, IntOp.andi, decide_eq_true hs, not_false_eq_true, true_and, and_self, decide_true, decide_false] <;> simp
  · have hs := mt (surv_iff hci hsel t).1 ht
    simp only [hs, ht, false_and, iff_false, decide_false, IntOp.andi, BitVec.ofBool_false]
    simp

include hci hsel in
/-- The noise a lane is given. -/
theorem noise_lane (x3 : Vec Ideal S1x512 .f32) (hg : ∀ s : Fin 512, x3 (ix2 0 s) = g s) {t : Fin 640} (ht : cand L t ∉ S)
    (hp : place L S t < 512) :
    ∑ s : Fin 512, x3 (ix2 0 s) * (((if s = ⟨place L S t, hp⟩ then 1 else 0 : ℕ) : ℝ) : EReal) = g ⟨place L S t, hp⟩ := by
  rw [Finset.sum_eq_single ⟨place L S t, hp⟩]
  · simp [hg]
  · intro s _ hs
    simp [hs]
  · intro h
    exact absurd (Finset.mem_univ _) h

/-- A natural number below 512 converts back to its word. -/
theorem fptosi_nat {n : ℕ} (h : n < 512) : Ideal.fptosi 32 (((n : ℕ) : ℝ) : EReal) = BitVec.ofNat 32 n := by
  rw [Ideal.fptosi, Ideal.toIntClamped_coe, if_pos (Nat.cast_nonneg n), Int.floor_natCast, min_eq_right, max_eq_right, BitVec.ofInt_natCast]
  all_goals (norm_num <;> omega)

/-- The scores of one slot, lanes not taking part at -∞. -/
def scores (x0 : EReal) (sel : IVec S128x1 32) (cv : FVec Ideal S1x640 .f32) (ci : IVec S1x640 32) (x3 : FVec Ideal S1x512 .f32) : FVec Ideal S1x640 .f32 :=
  select (k1_pay10 (F := Ideal) k1_pay1 sel ci)
    (divf (addf cv (matmul (F := Ideal) (φ₁ := .f32) (φ₂ := .f32) dot_S1x512_S512x640_S1x640_1_0_0_1_n_n none x3
      (sitofp .f32 (extui 32 (cmpi .eq (broadcastTo S512x640 (fptosi 32 (k1_pay9 (F := Ideal) k1_pay1 sel ci)) broadcasts_S1x640_S512x640) places) natLt_1_32)) (constant S1x640 .f32 0x00000000#32)))
      (broadcast S1x640 x0)) (broadcast S1x640 (⊥ : EReal))

include hci hsel in
/-- The kernel's score of a lane is the score of its candidate. -/
theorem scores_apply {cv : FVec Ideal S1x640 .f32} (hcv : ∀ t : Fin 640, cv (ix2 0 t) = L (cand L t)) {x3 : FVec Ideal S1x512 .f32}
    (hg : ∀ s : Fin 512, x3 (ix2 0 s) = g s) (t : Fin 640) : scores τ sel cv ci x3 (ix2 0 t) = laneScore L S g τ t := by
  unfold laneScore scores
  show Scalar.select (k1_pay10 (F := Ideal) k1_pay1 sel ci (ix2 0 t)) (Ideal.div (cv (ix2 0 t) + matmul (F := Ideal) (φ₁ := .f32) (φ₂ := .f32) _ none _ _ _ (ix2 0 t)) τ) (⊥ : EReal) = _
  by_cases h : cand L t ∉ S ∧ place L S t < 512
  · rw [select_pos ((pay10_iff hci hsel t).2 h), dif_pos h, hcv]
    congr 2
    refine (Ideal.matmul_plain_apply (M := 1) (K := 512) (N := 640) none _ _ _ 0 t).trans ?_
    rw [constant_apply, Ideal.ofBits_zero_f32, zero_add]
    refine Eq.trans ?_ (noise_lane hci hsel x3 hg h.1 h.2)
    refine Finset.sum_congr rfl fun s _ => congrArg (x3 (ix2 0 s) * ·) ?_
    refine Eq.trans (b := (FloatOps.sitofp .f32 ((BitVec.ofBool (decide (s = (⟨place L S t, h.2⟩ : Fin 512)))).setWidth 32) : Ideal .f32)) ?_ ?_
    · refine congrArg (fun b : BitVec 1 => (FloatOps.sitofp .f32 (b.setWidth 32) : Ideal .f32)) ?_
      have e1 : broadcastTo S512x640 (fptosi 32 (k1_pay9 (F := Ideal) k1_pay1 sel ci)) broadcasts_S1x640_S512x640 (ix2 s t)
          = BitVec.ofNat 32 (place L S t) := by
        refine Eq.trans (b := Ideal.fptosi 32 (k1_pay9 (F := Ideal) k1_pay1 sel ci (ix2 0 t))) ?_ ?_
        · exact congrArg (fptosi (F := Ideal) (φ := .f32) 32 (k1_pay9 (F := Ideal) k1_pay1 sel ci)) (funext fun a => by fin_cases a <;> rfl)
        · rw [pay9_place hci hsel h.1]
          exact fptosi_nat h.2
      show BitVec.ofBool (broadcastTo S512x640 (fptosi 32 (k1_pay9 (F := Ideal) k1_pay1 sel ci)) broadcasts_S1x640_S512x640 (ix2 s t) == places (ix2 s t)) = _
      rw [e1]
      unfold places
      rw [iota_one]
      have h2 := h.2
      have h3 := s.isLt
      congr 1
      rw [Bool.eq_iff_iff, beq_iff_eq, decide_eq_true_eq, Fin.ext_iff]
      dsimp only
      generalize place L S t = p at h2 ⊢
      show BitVec.ofNat 32 p = BitVec.ofNat 32 s.val ↔ s.val = p
      constructor
      · intro e
        have := congrArg BitVec.toNat e
        rw [BitVec.toNat_ofNat, BitVec.toNat_ofNat] at this
        omega
      · intro e; rw [e]
    · rw [sitofp_bool]
      simp only [decide_eq_true_eq]
  · rw [select_neg (mt (pay10_iff hci hsel t).1 h), dif_neg h]

/-- The softmax of the scores. -/
theorem pay11_scores (x0 : EReal) (sel : IVec S128x1 32) (cv : FVec Ideal S1x640 .f32) (ci : IVec S1x640 32) (x3 : FVec Ideal S1x512 .f32) (t : Fin 640) :
    k1_pay11 (F := Ideal) x0 k1_pay1 places sel cv ci x3 (ix2 0 t) = softmax (fun t : Fin 640 => scores x0 sel cv ci x3 (ix2 0 t)) t := by
  have h1 : (multiReduction .maximumf [1] S1 (scores x0 sel cv ci x3) 0xFF800000#32 reduces_S1x640_S1 (.inl rfl) rfl) (ix1 0) = _ := max_lanes _
  have e : k1_pay11 (F := Ideal) x0 k1_pay1 places sel cv ci x3
      = divf (exp (subf (scores x0 sel cv ci x3) (broadcastTo S1x640 (shapeCast S1x1 (multiReduction .maximumf [1] S1 (scores x0 sel cv ci x3) 0xFF800000#32 reduces_S1x640_S1 (.inl rfl) rfl) shapeCasts_S1_S1x1) broadcasts_S1x1_S1x640)))
        (broadcastTo S1x640 (shapeCast S1x1 (multiReduction .add [1] S1 (exp (subf (scores x0 sel cv ci x3) (broadcastTo S1x640 (shapeCast S1x1 (multiReduction .maximumf [1] S1 (scores x0 sel cv ci x3) 0xFF800000#32 reduces_S1x640_S1 (.inl rfl) rfl) shapeCasts_S1_S1x1) broadcasts_S1x1_S1x640))) 0x00000000#32 reduces_S1x640_S1 (.inl rfl) rfl) shapeCasts_S1_S1x1) broadcasts_S1x1_S1x640) := by
    unfold k1_pay11 scores
    simp only [shapeCast_self]
    rfl
  rw [e]
  generalize scores x0 sel cv ci x3 = x at h1 ⊢
  have h2 : ∀ t : Fin 640, (exp (subf x (broadcastTo S1x640 (shapeCast S1x1 (multiReduction .maximumf [1] S1 x 0xFF800000#32 reduces_S1x640_S1 (.inl rfl) rfl) shapeCasts_S1_S1x1) broadcasts_S1x1_S1x640)) : FVec Ideal S1x640 .f32) (ix2 0 t)
      = Ideal.exp (x (ix2 0 t) - Finset.univ.sup fun t : Fin 640 => x (ix2 0 t)) := by
    intro t
    refine congrArg (fun y : EReal => Ideal.exp (x (ix2 0 t) - y)) ((spread_one _ t).trans h1)
  unfold softmax
  rw [divf_apply, h2, spread_one, sum_lanes, Finset.sum_congr rfl fun k _ => h2 k]

include hci hsel in
/-- The probabilities of one slot over the lanes. -/
theorem pay4_apply {cv : FVec Ideal S1x640 .f32} (hcv : ∀ t : Fin 640, cv (ix2 0 t) = L (cand L t)) {x3 : FVec Ideal S1x512 .f32}
    (hg : ∀ s : Fin 512, x3 (ix2 0 s) = g s) (t : Fin 640) :
    k1_pay4 (F := Ideal) (k1_pay10 (F := Ideal) k1_pay1 sel ci) (k1_pay11 (F := Ideal) τ k1_pay1 places sel cv ci x3) (ix2 0 t) = laneProb L S g τ t := by
  unfold laneProb k1_pay4
  show Scalar.select (k1_pay10 (F := Ideal) k1_pay1 sel ci (ix2 0 t)) (k1_pay11 (F := Ideal) τ k1_pay1 places sel cv ci x3 (ix2 0 t)) (Ideal.ofBits .f32 0x00000000#32) = _
  rw [Ideal.ofBits_zero_f32, pay11_scores, funext fun t => scores_apply hci hsel hcv hg t]
  by_cases h : cand L t ∉ S ∧ place L S t < 512
  · rw [select_pos ((pay10_iff hci hsel t).2 h), if_pos h]
  · rw [select_neg (mt (pay10_iff hci hsel t).1 h), if_neg h]

end Slot

end Cert.KernelIdeal.Val
-- ==== Proof.Slots.lean ====
module

public import proofs.«01_k».proof.Proof.Soft

@[expose] public section

set_option maxRecDepth 16384

noncomputable section

/-! The 128 slots in turn: each selects a position, and no later slot may take it again. -/

namespace Cert.Proof.Rank

open Idealize.ShloMosaic

/-- An entry equal to the maximum with none before it. -/
theorem first_of_sup {n : ℕ} [NeZero n] (f : Fin n → EReal) :
    ∃ p, f p = Finset.univ.sup f ∧ ∀ q, q < p → f q ≠ Finset.univ.sup f := by
  classical
  obtain ⟨m, -, hm⟩ := Finset.exists_mem_eq_sup Finset.univ (Finset.univ_nonempty (α := Fin n)) f
  have hne : (Finset.univ.filter fun p => f p = Finset.univ.sup f).Nonempty := ⟨m, Finset.mem_filter.2 ⟨Finset.mem_univ _, hm.symm⟩⟩
  refine ⟨_, (Finset.mem_filter.1 (Finset.min'_mem _ hne)).2, fun q hq he => ?_⟩
  exact absurd (Finset.min'_le _ q (Finset.mem_filter.2 ⟨Finset.mem_univ _, he⟩)) (not_le.2 hq)

variable (L : Fin 128 → Fin 32768 → EReal) (c : EReal) (G : Fin 128 → Fin 512 → EReal) (τ : EReal)

/-- The positions selected before slot `k`. -/
def chosen : ℕ → Finset (Fin 32768)
  | 0 => ∅
  | k + 1 => if h : k < 128 then insert (choice (L ⟨k, h⟩) (chosen k) c (G ⟨k, h⟩) τ) (chosen k) else chosen k

/-- The position slot `k` selects. -/
def chosenAt (k : Fin 128) : Fin 32768 := choice (L k) (chosen L c G τ k.val) c (G k) τ

variable {L c G τ}

/-- At most `k` positions are selected before slot `k`. -/
theorem card_chosen : ∀ k : ℕ, (chosen L c G τ k).card ≤ k
  | 0 => by simp [chosen]
  | k + 1 => by
    rw [chosen]
    have := card_chosen k
    split
    · exact (Finset.card_insert_le _ _).trans (by omega)
    · omega

/-- A position selected before slot `k` is the choice of an earlier slot. -/
theorem mem_chosen : ∀ {k : ℕ} {i : Fin 32768}, i ∈ chosen L c G τ k ↔ ∃ j : Fin 128, j.val < k ∧ i = chosenAt L c G τ j
  | 0, i => by simp [chosen]
  | k + 1, i => by
    rw [chosen]
    split
    · rename_i h
      rw [Finset.mem_insert, mem_chosen]
      constructor
      · rintro (e | ⟨j, hj, e⟩)
        · exact ⟨⟨k, h⟩, by simp, e⟩
        · exact ⟨j, by omega, e⟩
      · rintro ⟨j, hj, e⟩
        by_cases hk : j.val = k
        · left
          obtain ⟨j, hj'⟩ := j
          dsimp only at hk
          subst hk
          exact e
        · exact Or.inr ⟨j, by omega, e⟩
    · rename_i h
      rw [mem_chosen]
      exact exists_congr fun j => and_congr_left fun _ => ⟨fun _ => by omega, fun _ => by have := j.isLt; omega⟩

end Cert.Proof.Rank
-- ==== Proof.SelectStep.lean ====
module

public import proofs.«01_k».proof.Proof.Lanes
public import proofs.«01_k».proof.Proof.Slots
public import Idealize.ShloMosaic.Lib.WordSum

@[expose] public section

set_option maxRecDepth 16384

noncomputable section

/-! One trip of region 1's loop writes the selected position, and the loop as a whole carries the set of the
positions selected so far. -/

namespace Cert.KernelIdeal.Val

open Idealize.ShloMosaic Idealize.ShloMosaic.TcCoe Idealize.SL.Sem
open Idealize.ShloMosaic.ValueIdx
open Cert.KernelIdeal Cert.KernelIdeal.Gen
open Cert.Proof.Rank

/-- The lane of the first greatest entry: the lanes' numbers where the entry is the maximum, 640 elsewhere. -/
def firstLane (x : FVec Ideal S1x640 .f32) : IVec S1 32 :=
  multiReductionI .minsi [1] S1 (select (cmpf .oeq x (broadcastTo S1x640 (shapeCast S1x1 (multiReduction .maximumf [1] S1 x 0xFF800000#32 reduces_S1x640_S1 (.inl rfl) rfl) shapeCasts_S1_S1x1) broadcasts_S1x1_S1x640))
    (iota .tc S1x640 32 [1] iota_S1x640_d1_w32) (broadcast S1x640 640#32)) 2147483647#32 reduces_S1x640_S1 rfl

/-- The position at that lane. -/
def word (x : FVec Ideal S1x640 .f32) (ci : IVec S1x640 32) : BitVec 32 :=
  extractAt ![0, 0, 0] (shapeCast S1x1x1 (multiReductionI .add [1, 2] S1 (shapeCast S1x1x640
    (select (cmpi .eq (iota .tc S1x640 32 [1] iota_S1x640_d1_w32) (broadcastTo S1x640 (shapeCast S1x1 (firstLane x) shapeCasts_S1_S1x1) broadcasts_S1x1_S1x640)) ci (broadcast S1x640 0#32))
    shapeCasts_S1x640_S1x1x640) 0#32 reduces_S1x1x640_S1 rfl) shapeCasts_S1_S1x1x1) inpos_S1x1x1_p0_0_0

/-- The column of selected positions takes the new one at the slot's row. -/
theorem pay5_word (a : IVec S128x1 32) (w : BitVec 32) (ci : IVec S1x640 32) (l : IVec S1x640 1) (x : FVec Ideal S1x640 .f32) (j : Fin 128) :
    k1_pay5 (F := Ideal) a w ci l x (ix2 j 0) = if BitVec.ofNat 32 j.val = w then word (k1_pay4 (F := Ideal) l x) ci else a (ix2 j 0) := by
  have e : k1_pay5 (F := Ideal) a w ci l x = select (cmpi .eq (iota .tc S128x1 32 [0] iota_S128x1_d0_w32) (broadcast S128x1 w)) (broadcast S128x1 (word (k1_pay4 (F := Ideal) l x) ci)) a := by
    unfold k1_pay5 word firstLane
    rfl
  rw [e]
  generalize word (k1_pay4 (F := Ideal) l x) ci = v
  show Scalar.select (BitVec.ofBool (iota .tc S128x1 32 [0] iota_S128x1_d0_w32 (ix2 j 0) == w)) v (a (ix2 j 0)) = _
  rw [iota_one]
  show Scalar.select (BitVec.ofBool (BitVec.ofNat 32 j.val == w)) _ _ = _
  by_cases h : BitVec.ofNat 32 j.val = w
  · rw [if_pos h, select_pos]; simp [h]
  · rw [if_neg h, select_neg (by rw [beq_eq_false_iff_ne.2 h]; decide)]

/-- The row of selected positions takes the new one at the slot's lane. -/
theorem pay6_word (a : IVec S1x128 32) (w : BitVec 32) (ci : IVec S1x640 32) (l : IVec S1x640 1) (x : FVec Ideal S1x640 .f32) (j : Fin 128) :
    k1_pay6 (F := Ideal) a w ci l x (ix2 0 j) = if BitVec.ofNat 32 j.val = w then word (k1_pay4 (F := Ideal) l x) ci else a (ix2 0 j) := by
  have e : k1_pay6 (F := Ideal) a w ci l x = select (cmpi .eq (iota .tc S1x128 32 [1] iota_S1x128_d1_w32) (broadcast S1x128 w)) (broadcast S1x128 (word (k1_pay4 (F := Ideal) l x) ci)) a := by
    unfold k1_pay6 word firstLane
    rfl
  rw [e]
  generalize word (k1_pay4 (F := Ideal) l x) ci = v
  show Scalar.select (BitVec.ofBool (iota .tc S1x128 32 [1] iota_S1x128_d1_w32 (ix2 0 j) == w)) v (a (ix2 0 j)) = _
  rw [iota_one]
  show Scalar.select (BitVec.ofBool (BitVec.ofNat 32 j.val == w)) _ _ = _
  by_cases h : BitVec.ofNat 32 j.val = w
  · rw [if_pos h, select_pos]; simp [h]
  · rw [if_neg h, select_neg (by rw [beq_eq_false_iff_ne.2 h]; decide)]

/-- A small word is its number. -/
theorem toInt_small {n : ℕ} (h : n ≤ 32768) : (BitVec.ofNat 32 n).toInt = n := by
  rw [BitVec.toInt_eq_toNat_of_lt (by rw [BitVec.toNat_ofNat]; omega), BitVec.toNat_ofNat]
  omega

section First
variable {x : FVec Ideal S1x640 .f32} {p : Fin 640} (hp : x (ix2 0 p) = Finset.univ.sup fun t : Fin 640 => x (ix2 0 t))
  (hmin : ∀ q : Fin 640, q < p → x (ix2 0 q) ≠ Finset.univ.sup fun t : Fin 640 => x (ix2 0 t))
include hp hmin

/-- The first lane at the maximum is the lane of the greatest entry. -/
theorem firstLane_eq : firstLane x (ix1 0) = BitVec.ofNat 32 p.val := by
  apply BitVec.eq_of_toInt_eq
  rw [toInt_small (by have := p.isLt; omega)]
  unfold firstLane
  have hM : ∀ t : Fin 640, broadcastTo S1x640 (shapeCast S1x1 (multiReduction .maximumf [1] S1 x 0xFF800000#32 reduces_S1x640_S1 (.inl rfl) rfl) shapeCasts_S1_S1x1) broadcasts_S1x1_S1x640 (ix2 0 t)
      = Finset.univ.sup (fun t : Fin 640 => x (ix2 0 t)) := fun t => (spread_one _ t).trans (max_lanes x)
  generalize (broadcastTo S1x640 (shapeCast S1x1 (multiReduction .maximumf [1] S1 x 0xFF800000#32 reduces_S1x640_S1 (.inl rfl) rfl) shapeCasts_S1_S1x1) broadcasts_S1x1_S1x640) = M at hM ⊢
  have hx : ∀ t : Fin 640, (select (cmpf .oeq x M) (iota .tc S1x640 32 [1] iota_S1x640_d1_w32) (broadcast S1x640 640#32)) (ix2 0 t)
      = if x (ix2 0 t) = Finset.univ.sup (fun t : Fin 640 => x (ix2 0 t)) then BitVec.ofNat 32 t.val else 640#32 := by
    intro t
    refine Eq.trans (b := Scalar.select (BitVec.ofBool (decide ((x (ix2 0 t) : EReal) = M (ix2 0 t)))) (iota .tc S1x640 32 [1] iota_S1x640_d1_w32 (ix2 0 t)) 640#32) rfl ?_
    rw [iota_one]
    by_cases h : x (ix2 0 t) = Finset.univ.sup (fun t : Fin 640 => x (ix2 0 t))
    · rw [if_pos h, select_pos (by rw [decide_eq_true (h.trans (hM t).symm)]; rfl)]
    · rw [if_neg h, select_neg (by rw [decide_eq_false (fun e => h (e.trans (hM t)))]; decide)]
  generalize (select (cmpf .oeq x M) (iota .tc S1x640 32 [1] iota_S1x640_d1_w32) (broadcast S1x640 640#32)) = y at hx ⊢
  refine (congrArg BitVec.toInt (multiReductionI_eq_fold .minsi y 2147483647#32 reduces_S1x640_S1 rfl (ix1 0))).trans ?_
  rw [Shape.Reduces.fold_filter_drop_single]
  have hf : (y ∘ (reduces_S1x640_S1).lift (ix1 0)) = fun t : Fin 640 => y (ix2 0 t) := funext fun k => congrArg y (lift_lanes _ k)
  refine (congrArg (fun f => (Finset.fold IKind.minsi.op 2147483647#32 f (Finset.univ : Finset (Fin 640))).toInt) hf).trans ?_
  rw [← Finset.fold_hom (op' := (min : ℤ → ℤ → ℤ)) (m := BitVec.toInt)]
  · apply le_antisymm
    · rw [Finset.fold_min_le]
      refine Or.inr ⟨p, Finset.mem_univ _, ?_⟩
      rw [hx, if_pos hp, toInt_small (by have := p.isLt; omega)]
    · rw [Finset.le_fold_min]
      have hpl := p.isLt
      refine ⟨?_, fun t _ => ?_⟩
      · show (p.val : ℤ) ≤ 2147483647
        omega
      · rw [hx]
        split
        · rename_i h
          rw [toInt_small (by have := t.isLt; omega)]
          have : ¬ t < p := fun hlt => hmin t hlt h
          rw [Fin.lt_def] at this
          omega
        · rw [toInt_small (by norm_num)]
          omega
  · intro a b
    show (if a.slt b then a else b).toInt = min a.toInt b.toInt
    rw [BitVec.slt_eq_decide]
    by_cases h : a.toInt < b.toInt
    · simp [h, h.le]
    · rw [if_neg (by simpa using h), min_eq_right (not_lt.1 h)]

/-- The position read off is the one at the first greatest entry. -/
theorem word_eq (ci : IVec S1x640 32) : word x ci = ci (ix2 0 p) := by
  have hy : ∀ i : S1x640.Idx, (select (cmpi .eq (iota .tc S1x640 32 [1] iota_S1x640_d1_w32) (broadcastTo S1x640 (shapeCast S1x1 (firstLane x) shapeCasts_S1_S1x1) broadcasts_S1x1_S1x640)) ci (broadcast S1x640 0#32)) i
      = if i = ix2 0 p then ci (ix2 0 p) else 0#32 := by
    intro i
    obtain ⟨t, rfl⟩ : ∃ t : Fin 640, i = ix2 0 t := ⟨i 1, by
      funext a; apply Fin.ext
      match a with
      | ⟨0, _⟩ => have h0 : (i 0 : Nat) < 1 := (i 0).isLt
                  show (i 0 : Nat) = 0; omega
      | ⟨1, _⟩ => rfl⟩
    refine Eq.trans (b := Scalar.select (BitVec.ofBool (iota .tc S1x640 32 [1] iota_S1x640_d1_w32 (ix2 0 t) == broadcastTo S1x640 (shapeCast S1x1 (firstLane x) shapeCasts_S1_S1x1) broadcasts_S1x1_S1x640 (ix2 0 t))) (ci (ix2 0 t)) 0#32) rfl ?_
    rw [spread_one, firstLane_eq hp hmin, iota_one]
    show Scalar.select (BitVec.ofBool (BitVec.ofNat 32 t.val == BitVec.ofNat 32 p.val)) _ _ = _
    by_cases h : t = p
    · rw [h, if_pos rfl, select_pos (by simp)]
    · rw [if_neg (fun e => h (by have := congrFun e 1; exact this)), select_neg]
      have : ¬ BitVec.ofNat 32 t.val = BitVec.ofNat 32 p.val := by
        intro e
        have := congrArg BitVec.toNat e
        rw [BitVec.toNat_ofNat, BitVec.toNat_ofNat] at this
        have h1 := t.isLt
        have h2 := p.isLt
        exact h (Fin.ext (by omega))
      rw [beq_eq_false_iff_ne.2 this]
      decide
  unfold word
  generalize (select (cmpi .eq (iota .tc S1x640 32 [1] iota_S1x640_d1_w32) (broadcastTo S1x640 (shapeCast S1x1 (firstLane x) shapeCasts_S1_S1x1) broadcasts_S1x1_S1x640)) ci (broadcast S1x640 0#32)) = y at hy ⊢
  have hs : ∀ j : S1.Idx, multiReductionI .add [1, 2] S1 (shapeCast S1x1x640 y shapeCasts_S1x640_S1x1x640) 0#32 reduces_S1x1x640_S1 rfl j = ci (ix2 0 p) := by
    intro j
    refine (congrFun (multiReductionI_eq_reduceFold .add (shapeCast S1x1x640 y shapeCasts_S1x640_S1x1x640) 0#32 reduces_S1x1x640_S1 rfl) j).trans ?_
    show reduceFold _ (· + ·) (0#32 : BitVec 32) _ j = _
    refine (reduceFold_add_eq_sum (α := BitVec 32) _ (0 : BitVec 32) _ j).trans ?_
    rw [zero_add]
    have hall : (Finset.univ.filter fun i : S1x1x640.Idx => (reduces_S1x1x640_S1).drop i = j) = Finset.univ :=
      Finset.filter_true_of_mem fun i _ => by
        funext a; apply Fin.ext
        match a with
        | ⟨0, _⟩ => have h0 := ((reduces_S1x1x640_S1).drop i 0).isLt
                    have h1 := (j 0).isLt
                    show ((reduces_S1x1x640_S1).drop i 0).val = (j 0).val
                    change _ < 1 at h0
                    change _ < 1 at h1
                    omega
    rw [hall]
    have e2 : ∑ i : S1x1x640.Idx, shapeCast S1x1x640 y shapeCasts_S1x640_S1x1x640 i = ∑ i : S1x640.Idx, y i :=
      Equiv.sum_comp (Shape.reshapeEquiv shapeCasts_S1x640_S1x1x640) y
    rw [e2, Finset.sum_congr rfl fun i _ => hy i]
    exact (Finset.sum_ite_eq' Finset.univ (ix2 0 p) (fun _ => ci (ix2 0 p))).trans (if_pos (Finset.mem_univ _))
  exact hs _

end First

/-! ## The loop -/

section Loop
variable {L : Fin 128 → Fin 32768 → EReal} {c : EReal} {G : Fin 128 → Fin 512 → EReal} {τ : EReal}
  {x0 : Vec Ideal S1 .f32} {x1 : Vec Ideal S128x640 .f32} {x2 : Vec Ideal S128x640 .i32} {x3 : Vec Ideal S128x512 .f32}
  (hc : ∀ k i, c < L k i) (hL : ∀ k i, ∃ r : ℝ, L k i = r) (hG : ∀ k s, ∃ r : ℝ, G k s = r) (hτ : ∃ r : ℝ, r ≠ 0 ∧ τ = r)
  (h0 : x0 (ix1 0) = τ) (h1 : ∀ (k : Fin 128) (t : Fin 640), x1 (ix2 k t) = L k (cand (L k) t))
  (h2 : ∀ (k : Fin 128) (t : Fin 640), x2 (ix2 k t) = BitVec.ofNat 32 (cand (L k) t).val)
  (h3 : ∀ (k : Fin 128) (s : Fin 512), x3 (ix2 k s) = G k s)

attribute [local irreducible] top rank place cand choice chosen

/-- What the carried column and row hold before trip `k`: the positions selected so far, -1 elsewhere. -/
def Holds (L : Fin 128 → Fin 32768 → EReal) (c : EReal) (G : Fin 128 → Fin 512 → EReal) (τ : EReal) (k : ℕ) (a : IVec S128x1 32 × IVec S1x128 32) : Prop :=
  ∀ j : Fin 128, a.1 (ix2 j 0) = (if j.val < k then BitVec.ofNat 32 (chosenAt L c G τ j).val else 4294967295#32)
    ∧ a.2 (ix2 0 j) = (if j.val < k then BitVec.ofNat 32 (chosenAt L c G τ j).val else 4294967295#32)

/-- The words in the column are those of the positions selected so far. -/
theorem Holds.sel {k : ℕ} {a : IVec S128x1 32 × IVec S1x128 32} (h : Holds L c G τ k a) (i : Fin 32768) :
    (∃ j : Fin 128, BitVec.ofNat 32 i.val = a.1 (ix2 j 0)) ↔ i ∈ chosen L c G τ k := by
  rw [mem_chosen]
  refine exists_congr fun j => ?_
  rw [(h j).1]
  have hi := i.isLt
  by_cases hj : j.val < k
  · rw [if_pos hj]
    generalize chosenAt L c G τ j = m
    have hm := m.isLt
    constructor
    · intro e
      have := congrArg BitVec.toNat e
      rw [BitVec.toNat_ofNat, BitVec.toNat_ofNat] at this
      exact ⟨hj, Fin.ext (by omega)⟩
    · rintro ⟨-, rfl⟩; rfl
  · rw [if_neg hj]
    constructor
    · intro e
      have := congrArg BitVec.toNat e
      rw [BitVec.toNat_ofNat] at this
      change i.val % 4294967296 = 4294967295 at this
      omega
    · rintro ⟨hj', -⟩; exact absurd hj' hj

include h0 h1 h2 h3 in
/-- The row of probabilities of slot `k`. -/
theorem probs_apply {k : Fin 128} {a : IVec S128x1 32 × IVec S1x128 32} (h : Holds L c G τ k.val a) (t : Fin 640) :
    probs x0 x1 x2 x3 k a.1 (ix2 0 t) = laneProb (L k) (chosen L c G τ k.val) (G k) τ t := by
  unfold probs lanes soft
  rw [h0]
  exact pay4_apply (L := L k) (S := chosen L c G τ k.val) (g := G k) (sel := a.1) (ci := rowI x2 k) (cv := rowV x1 k) (x3 := rowG x3 k)
    (fun t => h2 k t) h.sel (fun t => h1 k t) (fun s => h3 k s) t

include h0 h1 h2 h3 hc hL hG hτ in
/-- One trip adds the position slot `k` selects. -/
theorem trip_holds {k : Fin 128} {a : IVec S128x1 32 × IVec S1x128 32} (h : Holds L c G τ k.val a) :
    Holds L c G τ (k.val + 1) (trip x0 x1 x2 x3 k a) := by
  have hS : (chosen L c G τ k.val).card ≤ 128 := (card_chosen k.val).trans k.isLt.le
  have hp := probs_apply h0 h1 h2 h3 h
  have hw : word (probs x0 x1 x2 x3 k a.1) (rowI x2 k) = BitVec.ofNat 32 (chosenAt L c G τ k).val := by
    obtain ⟨p, hpm, hmin⟩ := first_of_sup fun t : Fin 640 => laneProb (L k) (chosen L c G τ k.val) (G k) τ t
    have e := first_max (hc k) hS (hL k) (hG k) hτ hpm fun t ht => not_lt.1 fun hlt => hmin t hlt ht
    rw [word_eq (p := p) (by rw [hp, hpm]; exact congrArg _ (funext fun t => (hp t).symm))
      (fun q hq => by rw [hp]; intro e; exact hmin q hq (e.trans (congrArg _ (funext hp))))]
    show x2 (ix2 k p) = _
    rw [h2, e, cand_laneOf, chosenAt, choice]
  have hk := k.isLt
  intro j
  have hj := j.isLt
  have hjk : (BitVec.ofNat 32 j.val = BitVec.ofNat 32 k.val) ↔ j.val = k.val := by
    constructor
    · intro e
      have := congrArg BitVec.toNat e
      rw [BitVec.toNat_ofNat, BitVec.toNat_ofNat] at this
      omega
    · intro e; rw [e]
  have hci : k1_pay7 (F := Ideal) (rowI x2 k) = rowI x2 k := shapeCast_self _ _
  constructor
  · refine (pay5_word a.1 _ _ _ _ j).trans ?_
    rw [hci]
    show (if _ then word (probs x0 x1 x2 x3 k a.1) (rowI x2 k) else _) = _
    rw [hw, (h j).1]
    by_cases e : j.val = k.val
    · rw [if_pos (hjk.2 e), if_pos (by omega), Fin.ext e]
    · rw [if_neg (mt hjk.1 e)]
      by_cases h' : j.val < k.val
      · rw [if_pos h', if_pos (by omega)]
      · rw [if_neg h', if_neg (by omega)]
  · refine (pay6_word a.2 _ _ _ _ j).trans ?_
    rw [hci]
    show (if _ then word (probs x0 x1 x2 x3 k a.1) (rowI x2 k) else _) = _
    rw [hw, (h j).2]
    by_cases e : j.val = k.val
    · rw [if_pos (hjk.2 e), if_pos (by omega), Fin.ext e]
    · rw [if_neg (mt hjk.1 e)]
      by_cases h' : j.val < k.val
      · rw [if_pos h', if_pos (by omega)]
      · rw [if_neg h', if_neg (by omega)]

include h0 h1 h2 h3 hc hL hG hτ in
/-- After `k` trips the loop carries the positions of the first `k` slots. -/
theorem carried_holds : ∀ k : ℕ, k ≤ 128 → Holds L c G τ k (carried x0 x1 x2 x3 k)
  | 0, _ => fun j => ⟨(if_neg (Nat.not_lt_zero _)).symm ▸ rfl, (if_neg (Nat.not_lt_zero _)).symm ▸ rfl⟩
  | k + 1, hk => by
    rw [carried, dif_pos (show k < 128 by omega)]
    exact trip_holds hc hL hG hτ h0 h1 h2 h3 (k := ⟨k, by omega⟩) (carried_holds k (by omega))

include h0 h1 h2 h3 hc hL hG hτ in
/-- The selected positions after the loop. -/
theorem carried_idx (j : Fin 128) : (carried x0 x1 x2 x3 128).2 (ix2 0 j) = BitVec.ofNat 32 (chosenAt L c G τ j).val := by
  rw [(carried_holds hc hL hG hτ h0 h1 h2 h3 128 le_rfl j).2, if_pos j.isLt]

include h0 h1 h2 h3 hc hL hG hτ in
/-- The probabilities of every slot over its candidates. -/
theorem allProbs_apply (k : Fin 128) (t : Fin 640) :
    allProbs x0 x1 x2 x3 (ix2 k t) = laneProb (L k) (chosen L c G τ k.val) (G k) τ t :=
  probs_apply h0 h1 h2 h3 (carried_holds hc hL hG hτ h0 h1 h2 h3 k.val k.isLt.le) t

end Loop

end Cert.KernelIdeal.Val
-- ==== Proof.SelectArr.lean ====
module

public import proofs.«01_k».proof.Proof.SelectRun

@[expose] public section

set_option maxRecDepth 16384

noncomputable section

/-! Region 1's result arrays, of the arrays it reads. -/

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

/-- Region 1's one point. -/
abbrev point1 : Fin cfg1.N := ⟨0, by decide⟩

/-- Region 1's operand 0 reaches it whole. -/
theorem block1_0 (c : Dev nD) (t : Fin cfg1.N) : iblk1 V c 0 t = V c main_v41 := by
  unfold iblk1
  funext j
  rw [View.read_apply]
  show V c main_v41 _ = V c main_v41 _
  congr 1
  funext a
  apply Fin.ext
  match a with
  | ⟨0, _⟩ => show 0 * 1 + 1 * (j 0).val = (j 0).val; omega

/-- Region 1's operand 1 reaches it whole. -/
theorem block1_1 (c : Dev nD) (t : Fin cfg1.N) : iblk1 V c 1 t = V c main_values_1 := by
  unfold iblk1
  funext j
  rw [View.read_apply]
  show V c main_values_1 _ = V c main_values_1 _
  congr 1
  funext a
  apply Fin.ext
  match a with
  | ⟨0, _⟩ => show 0 * 128 + 1 * (j 0).val = (j 0).val; omega
  | ⟨1, _⟩ => show 0 * 640 + 1 * (j 1).val = (j 1).val; omega

/-- Region 1's operand 2 reaches it whole. -/
theorem block1_2 (c : Dev nD) (t : Fin cfg1.N) : iblk1 V c 2 t = V c main_v20 := by
  unfold iblk1
  funext j
  rw [View.read_apply]
  show V c main_v20 _ = V c main_v20 _
  congr 1
  funext a
  apply Fin.ext
  match a with
  | ⟨0, _⟩ => show 0 * 128 + 1 * (j 0).val = (j 0).val; omega
  | ⟨1, _⟩ => show 0 * 640 + 1 * (j 1).val = (j 1).val; omega

/-- Region 1's operand 3 reaches it whole. -/
theorem block1_3 (c : Dev nD) (t : Fin cfg1.N) : iblk1 V c 3 t = V c main_v39 := by
  unfold iblk1
  funext j
  rw [View.read_apply]
  show V c main_v39 _ = V c main_v39 _
  congr 1
  funext a
  apply Fin.ext
  match a with
  | ⟨0, _⟩ => show 0 * 128 + 1 * (j 0).val = (j 0).val; omega
  | ⟨1, _⟩ => show 0 * 512 + 1 * (j 1).val = (j 1).val; omega

/-- What region 1 writes back to its result 0. -/
theorem region1_flushed_4 (c : Dev nD) (t : Fin cfg1.N) :
    (dat1 V c).flushed 4 t = ((cfg1.win 4).blk t).view.read (Elt Ideal) (allProbs (V c main_v41) (V c main_values_1) (V c main_v20) (V c main_v39)) := by
  show (cfg1.win 4).cut (grid1.coords t) ((dat1 V c).after 4 t) = _
  rw [after1_4]
  unfold outsAt1
  dsimp only
  rw [out1_4, block1_0, block1_1, block1_2, block1_3]
  generalize allProbs (V c main_v41) (V c main_values_1) (V c main_v20) (V c main_v39) = G
  funext j
  rw [View.read_apply]
  show G _ = G _
  congr 1
  funext a
  apply Fin.ext
  match a with
  | ⟨0, _⟩ => show (j 0).val = 0 * 128 + 1 * (j 0).val; omega
  | ⟨1, _⟩ => show (j 1).val = 0 * 640 + 1 * (j 1).val; omega

/-- Region 1's one block of result 0 fills its array. -/
theorem region1_cover_4 (i : S128x640.Idx) :
    ∃ t : Fin cfg1.N, (cfg1.win 4).flush t = true ∧ i ∈ ((cfg1.win 4).blk t).view.set := by
  have h0 : (i 0 : Nat) < 128 := (i 0).isLt
  have h1 : (i 1 : Nat) < 640 := (i 1).isLt
  refine ⟨point1, by decide +kernel, ?_⟩
  show i ∈ ((View.whole main_v42_0).slice (win1_4.rect point1)).set
  rw [View.set_slice_whole, Rect.mem_set_unit]
  intro a
  match a with
  | ⟨0, _⟩ => show 0 * 128 ≤ (i 0 : Nat) ∧ (i 0 : Nat) < 0 * 128 + 128; omega
  | ⟨1, _⟩ => show 0 * 640 ≤ (i 1 : Nat) ∧ (i 1 : Nat) < 0 * 640 + 640; omega

/-- Region 1's result 0 after the run. -/
theorem region1_final_4 (c : Dev nD) : (dat1 V c).arrAt 4 cfg1.N = allProbs (V c main_v41) (V c main_values_1) (V c main_v20) (V c main_v39) :=
  (dat1 V c).arrAt_eq_of_cover 4 (allProbs (V c main_v41) (V c main_values_1) (V c main_v20) (V c main_v39)) (fun t _ => region1_flushed_4 V c t) region1_cover_4

/-- What region 1 writes back to its result 1. -/
theorem region1_flushed_5 (c : Dev nD) (t : Fin cfg1.N) :
    (dat1 V c).flushed 5 t = ((cfg1.win 5).blk t).view.read (Elt Ideal) ((carried (V c main_v41) (V c main_values_1) (V c main_v20) (V c main_v39) 128).2) := by
  show (cfg1.win 5).cut (grid1.coords t) ((dat1 V c).after 5 t) = _
  rw [after1_5]
  unfold outsAt1
  dsimp only
  rw [out1_5, block1_0, block1_1, block1_2, block1_3]
  generalize (carried (V c main_v41) (V c main_values_1) (V c main_v20) (V c main_v39) 128).2 = G
  funext j
  rw [View.read_apply]
  show G _ = G _
  congr 1
  funext a
  apply Fin.ext
  match a with
  | ⟨0, _⟩ => show (j 0).val = 0 * 1 + 1 * (j 0).val; omega
  | ⟨1, _⟩ => show (j 1).val = 0 * 128 + 1 * (j 1).val; omega

/-- Region 1's one block of result 1 fills its array. -/
theorem region1_cover_5 (i : S1x128.Idx) :
    ∃ t : Fin cfg1.N, (cfg1.win 5).flush t = true ∧ i ∈ ((cfg1.win 5).blk t).view.set := by
  have h0 : (i 0 : Nat) < 1 := (i 0).isLt
  have h1 : (i 1 : Nat) < 128 := (i 1).isLt
  refine ⟨point1, by decide +kernel, ?_⟩
  show i ∈ ((View.whole main_v42_1).slice (win1_5.rect point1)).set
  rw [View.set_slice_whole, Rect.mem_set_unit]
  intro a
  match a with
  | ⟨0, _⟩ => show 0 * 1 ≤ (i 0 : Nat) ∧ (i 0 : Nat) < 0 * 1 + 1; omega
  | ⟨1, _⟩ => show 0 * 128 ≤ (i 1 : Nat) ∧ (i 1 : Nat) < 0 * 128 + 128; omega

/-- Region 1's result 1 after the run. -/
theorem region1_final_5 (c : Dev nD) : (dat1 V c).arrAt 5 cfg1.N = (carried (V c main_v41) (V c main_values_1) (V c main_v20) (V c main_v39) 128).2 :=
  (dat1 V c).arrAt_eq_of_cover 5 ((carried (V c main_v41) (V c main_values_1) (V c main_v20) (V c main_v39) 128).2) (fun t _ => region1_flushed_5 V c t) region1_cover_5

end Cert.KernelIdeal.Val
-- ==== Proof.TopK.lean ====
module

public import proofs.«01_k».proof.Proof.Rank
public import Idealize.ShloMosaic.Lib.ValueIdx
public import Idealize.ShloMosaic.Lib.Pipeline.Value

@[expose] public section

noncomputable section

/-! The host's top-k along an axis lists each row's positions by rank. -/

namespace Cert.Proof.Rank

open Idealize Idealize.ShloMosaic Idealize.ShloMosaic.ValueIdx

/-- Moving along the axis of a vector. -/
theorem along1 {n : ℕ} (j : (⟨1, ![n]⟩ : Shape).Idx) (k : Fin n) : Shape.Idx.along j (0 : Fin 1) k = ix1 k := by
  funext a
  match a with
  | ⟨0, _⟩ => rfl

/-- Moving along the last axis of a matrix. -/
theorem along2 {A n : ℕ} (a : Fin A) (i k : Fin n) :
    Shape.Idx.along (ix2 a i : (⟨2, ![A, n]⟩ : Shape).Idx) (1 : Fin 2) k = ix2 a k := by
  funext d
  match d with
  | ⟨0, _⟩ => rfl
  | ⟨1, _⟩ => rfl

/-- Moving along the last axis of three. -/
theorem along3 {A B n : ℕ} (a : Fin A) (b : Fin B) (i k : Fin n) :
    Shape.Idx.along (ix3 a b i : (⟨3, ![A, B, n]⟩ : Shape).Idx) (2 : Fin 3) k = ix3 a b k := by
  funext d
  match d with
  | ⟨0, _⟩ => rfl
  | ⟨1, _⟩ => rfl
  | ⟨2, _⟩ => rfl

/-- Positions listed by rank, as the host's sort of a row names them. -/
theorem top_of_row {n : ℕ} (L : Fin n → EReal) (R : Fin n → EReal) (h : ∀ k, R k = L k) (j : Fin n) :
    sortedFrom (fun k k' => FloatOps.cmpfTotal (F := Ideal) (φ := .f32) .gt (R k) (R k') == 1#1) j = top L j := by
  have : R = L := funext h
  subst this
  rfl

section Rank1
variable {n m : ℕ} (x : FVec Ideal ⟨1, ![n]⟩ .f32) (h : (⟨1, ![n]⟩ : Shape).Slices (fun _ => 0) ⟨1, ![m]⟩) (hm : m ≤ n)

/-- The position the sort lists at place `j` of a row. -/
theorem sorted1 (j : Fin n) :
    sortedFrom (fun k k' => FloatOps.cmpfTotal (F := Ideal) (φ := .f32) .gt
        (x (Shape.Idx.along (ix1 (j) : (⟨1, ![n]⟩ : Shape).Idx) (0 : Fin 1) k))
        (x (Shape.Idx.along (ix1 (j) : (⟨1, ![n]⟩ : Shape).Idx) (0 : Fin 1) k')) == 1#1) j
      = top (fun k => x (ix1 (k))) j :=
  top_of_row _ _ (fun k => by rw [along1]) j

/-- The values of a top-k of rank 1. -/
theorem topK1_fst (i : Fin m) :
    (Host.topK ⟨1, ![m]⟩ 0 (FloatOps.cmpfTotal (F := Ideal) (φ := .f32) .gt) x h).1 (ix1 (i))
      = x (ix1 (top (fun k => x (ix1 (k))) (i.castLE hm))) := by
  unfold Host.topK
  dsimp only []
  refine (extractStridedSlice_apply _ _ h _ (ix1 (i.castLE hm)) fun d => ?_).trans ?_
  · match d with
    | ⟨0, _⟩ => exact (Nat.zero_add _).symm
  · refine Eq.trans (b := x (Shape.Idx.along (ix1 (i.castLE hm) : (⟨1, ![n]⟩ : Shape).Idx) (0 : Fin 1) _)) rfl ?_
    exact (congrArg x (along1 _ _)).trans <| congrArg (fun j => x (ix1 (j))) (sorted1 x (i.castLE hm))

/-- The positions of a top-k of rank 1. -/
theorem topK1_snd (i : Fin m) :
    (Host.topK ⟨1, ![m]⟩ 0 (FloatOps.cmpfTotal (F := Ideal) (φ := .f32) .gt) x h).2 (ix1 (i))
      = BitVec.ofNat 32 (top (fun k => x (ix1 (k))) (i.castLE hm)).val := by
  unfold Host.topK
  dsimp only []
  refine (extractStridedSlice_apply _ _ h _ (ix1 (i.castLE hm)) fun d => ?_).trans ?_
  · match d with
    | ⟨0, _⟩ => exact (Nat.zero_add _).symm
  · refine Eq.trans (b := BitVec.ofNat 32 (Shape.Idx.along (ix1 (i.castLE hm) : (⟨1, ![n]⟩ : Shape).Idx) (0 : Fin 1) _ (0 : Fin 1)).val) rfl ?_
    exact (congrArg (fun z : (⟨1, ![n]⟩ : Shape).Idx => BitVec.ofNat 32 (z (0 : Fin 1)).val) (along1 _ _)).trans <| congrArg (fun j : Fin n => BitVec.ofNat 32 j.val) (sorted1 x (i.castLE hm))
end Rank1

section Rank2
variable {A n m : ℕ} (x : FVec Ideal ⟨2, ![A, n]⟩ .f32) (h : (⟨2, ![A, n]⟩ : Shape).Slices (fun _ => 0) ⟨2, ![A, m]⟩) (hm : m ≤ n)

/-- The position the sort lists at place `j` of a row. -/
theorem sorted2 (a : Fin A) (j : Fin n) :
    sortedFrom (fun k k' => FloatOps.cmpfTotal (F := Ideal) (φ := .f32) .gt
        (x (Shape.Idx.along (ix2 a (j) : (⟨2, ![A, n]⟩ : Shape).Idx) (1 : Fin 2) k))
        (x (Shape.Idx.along (ix2 a (j) : (⟨2, ![A, n]⟩ : Shape).Idx) (1 : Fin 2) k')) == 1#1) j
      = top (fun k => x (ix2 a (k))) j :=
  top_of_row _ _ (fun k => by rw [along2]) j

/-- The values of a top-k of rank 2. -/
theorem topK2_fst (a : Fin A) (i : Fin m) :
    (Host.topK ⟨2, ![A, m]⟩ 1 (FloatOps.cmpfTotal (F := Ideal) (φ := .f32) .gt) x h).1 (ix2 a (i))
      = x (ix2 a (top (fun k => x (ix2 a (k))) (i.castLE hm))) := by
  unfold Host.topK
  dsimp only []
  refine (extractStridedSlice_apply _ _ h _ (ix2 a (i.castLE hm)) fun d => ?_).trans ?_
  · match d with
    | ⟨0, _⟩ => exact (Nat.zero_add _).symm
    | ⟨1, _⟩ => exact (Nat.zero_add _).symm
  · refine Eq.trans (b := x (Shape.Idx.along (ix2 a (i.castLE hm) : (⟨2, ![A, n]⟩ : Shape).Idx) (1 : Fin 2) _)) rfl ?_
    exact (congrArg x (along2 _ _ _)).trans <| congrArg (fun j => x (ix2 a (j))) (sorted2 x a (i.castLE hm))

/-- The positions of a top-k of rank 2. -/
theorem topK2_snd (a : Fin A) (i : Fin m) :
    (Host.topK ⟨2, ![A, m]⟩ 1 (FloatOps.cmpfTotal (F := Ideal) (φ := .f32) .gt) x h).2 (ix2 a (i))
      = BitVec.ofNat 32 (top (fun k => x (ix2 a (k))) (i.castLE hm)).val := by
  unfold Host.topK
  dsimp only []
  refine (extractStridedSlice_apply _ _ h _ (ix2 a (i.castLE hm)) fun d => ?_).trans ?_
  · match d with
    | ⟨0, _⟩ => exact (Nat.zero_add _).symm
    | ⟨1, _⟩ => exact (Nat.zero_add _).symm
  · refine Eq.trans (b := BitVec.ofNat 32 (Shape.Idx.along (ix2 a (i.castLE hm) : (⟨2, ![A, n]⟩ : Shape).Idx) (1 : Fin 2) _ (1 : Fin 2)).val) rfl ?_
    exact (congrArg (fun z : (⟨2, ![A, n]⟩ : Shape).Idx => BitVec.ofNat 32 (z (1 : Fin 2)).val) (along2 _ _ _)).trans <| congrArg (fun j : Fin n => BitVec.ofNat 32 j.val) (sorted2 x a (i.castLE hm))
end Rank2

section Rank3
variable {A B n m : ℕ} (x : FVec Ideal ⟨3, ![A, B, n]⟩ .f32) (h : (⟨3, ![A, B, n]⟩ : Shape).Slices (fun _ => 0) ⟨3, ![A, B, m]⟩) (hm : m ≤ n)

/-- The position the sort lists at place `j` of a row. -/
theorem sorted3 (a : Fin A) (b : Fin B) (j : Fin n) :
    sortedFrom (fun k k' => FloatOps.cmpfTotal (F := Ideal) (φ := .f32) .gt
        (x (Shape.Idx.along (ix3 a b (j) : (⟨3, ![A, B, n]⟩ : Shape).Idx) (2 : Fin 3) k))
        (x (Shape.Idx.along (ix3 a b (j) : (⟨3, ![A, B, n]⟩ : Shape).Idx) (2 : Fin 3) k')) == 1#1) j
      = top (fun k => x (ix3 a b (k))) j :=
  top_of_row _ _ (fun k => by rw [along3]) j

/-- The values of a top-k of rank 3. -/
theorem topK3_fst (a : Fin A) (b : Fin B) (i : Fin m) :
    (Host.topK ⟨3, ![A, B, m]⟩ 2 (FloatOps.cmpfTotal (F := Ideal) (φ := .f32) .gt) x h).1 (ix3 a b (i))
      = x (ix3 a b (top (fun k => x (ix3 a b (k))) (i.castLE hm))) := by
  unfold Host.topK
  dsimp only []
  refine (extractStridedSlice_apply _ _ h _ (ix3 a b (i.castLE hm)) fun d => ?_).trans ?_
  · match d with
    | ⟨0, _⟩ => exact (Nat.zero_add _).symm
    | ⟨1, _⟩ => exact (Nat.zero_add _).symm
    | ⟨2, _⟩ => exact (Nat.zero_add _).symm
  · refine Eq.trans (b := x (Shape.Idx.along (ix3 a b (i.castLE hm) : (⟨3, ![A, B, n]⟩ : Shape).Idx) (2 : Fin 3) _)) rfl ?_
    exact (congrArg x (along3 _ _ _ _)).trans <| congrArg (fun j => x (ix3 a b (j))) (sorted3 x a b (i.castLE hm))

/-- The positions of a top-k of rank 3. -/
theorem topK3_snd (a : Fin A) (b : Fin B) (i : Fin m) :
    (Host.topK ⟨3, ![A, B, m]⟩ 2 (FloatOps.cmpfTotal (F := Ideal) (φ := .f32) .gt) x h).2 (ix3 a b (i))
      = BitVec.ofNat 32 (top (fun k => x (ix3 a b (k))) (i.castLE hm)).val := by
  unfold Host.topK
  dsimp only []
  refine (extractStridedSlice_apply _ _ h _ (ix3 a b (i.castLE hm)) fun d => ?_).trans ?_
  · match d with
    | ⟨0, _⟩ => exact (Nat.zero_add _).symm
    | ⟨1, _⟩ => exact (Nat.zero_add _).symm
    | ⟨2, _⟩ => exact (Nat.zero_add _).symm
  · refine Eq.trans (b := BitVec.ofNat 32 (Shape.Idx.along (ix3 a b (i.castLE hm) : (⟨3, ![A, B, n]⟩ : Shape).Idx) (2 : Fin 3) _ (2 : Fin 3)).val) rfl ?_
    exact (congrArg (fun z : (⟨3, ![A, B, n]⟩ : Shape).Idx => BitVec.ofNat 32 (z (2 : Fin 3)).val) (along3 _ _ _ _)).trans <| congrArg (fun j : Fin n => BitVec.ofNat 32 j.val) (sorted3 x a b (i.castLE hm))
end Rank3

end Cert.Proof.Rank
-- ==== Proof.Candidates.lean ====
module

public import proofs.«01_k».proof.Proof.Norms
public import proofs.«01_k».proof.Proof.TopK
public import proofs.«01_k».proof.Proof.Chunks
public import proofs.«01_k».proof.Proof.Masked

@[expose] public section

set_option maxRecDepth 16384

noncomputable section

/-! The host's choice of the 640 candidates of each slot: the greatest 640 of each of 16 chunks, then the greatest
640 of those, with their positions in the row. -/

namespace Cert.KernelIdeal.Val

open Idealize.ShloMosaic Idealize.ShloMosaic.TcCoe Idealize.SL.Sem
open Idealize.ShloMosaic.ValueIdx
open Cert.KernelIdeal Cert.KernelIdeal.Gen
open Cert.Proof.Rank

section Pure
variable (x : FVec Ideal S128x32768 .f32)

/-- The rows cut into chunks. -/
def chunks : FVec Ideal S128x16x2048 .f32 := shapeCast S128x16x2048 x shapeCasts_S128x32768_S128x16x2048

/-- The greatest 640 of every chunk. -/
def keptVals : FVec Ideal S128x10240 .f32 :=
  shapeCast S128x10240 (Host.topK S128x16x640 2 (FloatOps.cmpfTotal (F := Ideal) (φ := .f32) .gt) (chunks x) sliceFits_S128x16x2048_S128x16x640).1 shapeCasts_S128x16x640_S128x10240

/-- Their positions in the row. -/
def keptPos : IVec S128x10240 32 :=
  shapeCast S128x10240 (addi (Host.topK S128x16x640 2 (FloatOps.cmpfTotal (F := Ideal) (φ := .f32) .gt) (chunks x) sliceFits_S128x16x2048_S128x16x640).2
    (broadcastInDim S128x16x640 ![0, 1, 2] bcast_S1x16x1_S128x16x640_0_1_2 (broadcastInDim S1x16x1 ![1] bcast_S16_S1x16x1_1
      (muli (iotaInDim S16 32 0) (broadcastInDim S16 ![] bcast_S_S16 (constantI S_ 32 2048#32)))))) shapeCasts_S128x16x640_S128x10240

/-- The candidates' logits. -/
def candVals : FVec Ideal S128x640 .f32 :=
  (Host.topK S128x640 1 (FloatOps.cmpfTotal (F := Ideal) (φ := .f32) .gt) (keptVals x) sliceFits_S128x10240_S128x640).1

/-- The candidates' places among the kept entries. -/
def candPlaces : IVec S128x640 32 :=
  (Host.topK S128x640 1 (FloatOps.cmpfTotal (F := Ideal) (φ := .f32) .gt) (keptVals x) sliceFits_S128x10240_S128x640).2

/-- A gather along the rows as it is printed. -/
def takeAlong (y : IVec S128x10240 32) (i : IVec S128x640 32) : IVec S128x640 32 :=
  have i' : IVec S128x640x1 32 := shapeCast S128x640x1 (select (cmpi .slt i (broadcastInDim S128x640 ![] bcast_S_S128x640 (constantI S_ 32 0#32)))
    (addi i (broadcastInDim S128x640 ![] bcast_S_S128x640 (constantI S_ 32 10240#32))) i) shapeCasts_S128x640_S128x640x1
  select (Host.reduce IntOp.andi (andi (cmpi .sge i' (broadcastInDim S128x640x1 ![] bcast_S_S128x640x1 (constantI S_ 32 0#32)))
      (cmpi .sle i' (broadcastInDim S128x640x1 ![0, 1, 2] bcast_S1x1x1_S128x640x1_0_1_2 (broadcastInDim S1x1x1 ![2] bcast_S1_S1x1x1_2 (constantI S1 32 10239#32)))))
      (constantI S_ 1 1#1) reducesTo_S128x640x1_S128x640_d2 h_S_)
    (Host.gather gather_S128x10240_S128x640x1_S128x640_n_1_0_0_1_2_11 y i')
    (broadcastInDim S128x640 ![] bcast_S_S128x640 (constantI S_ 32 2147483648#32))

/-- The candidates' positions in the row. -/
def candPos : IVec S128x640 32 := takeAlong (keptPos x) (candPlaces x)

/-- A slot's row. -/
abbrev rowOf (k : Fin 128) : Fin 32768 → EReal := fun i => x (ix2 k i)

/-- An entry of the reshaped logits is an entry of a chunk of its row. -/
theorem chunks_apply (a : Fin 128) (q : Fin 16) (w : Fin 2048) : chunks x (ix3 a q w) = chunk (rowOf x a) q w := by
  unfold chunks chunk
  refine shapeCast_apply x _ (ix3 a q w) (ix2 a (cell q w)) ?_
  rw [Shape.rowMajor_val_two, Shape.rowMajor_val_three]
  show a.val * 32768 + (cell q w).val = _
  rw [cell_val]
  show _ = (a.val * 16 + q.val) * 2048 + w.val
  omega

/-- A kept position sits at the same place in memory before and after the reshape. -/
theorem keptIdx (a : Fin 128) (p : Fin 10240) :
    (S128x16x640.rowMajor (ix3 a (chunkOf p) (⟨p.val % 640, Nat.mod_lt _ (by decide)⟩ : Fin 640))).val = (S128x10240.rowMajor (ix2 a p)).val := by
  rw [Shape.rowMajor_val_two, Shape.rowMajor_val_three]
  show (a.val * 16 + p.val / 640) * 640 + p.val % 640 = a.val * 10240 + p.val
  omega

/-- The kept values of a row, read at a kept position. -/
theorem keptVals_apply (a : Fin 128) (p : Fin 10240) : keptVals x (ix2 a p) = kept (rowOf x a) p := by
  unfold keptVals
  refine (shapeCast_apply _ _ (ix2 a p) (ix3 a (chunkOf p) (⟨p.val % 640, Nat.mod_lt _ (by decide)⟩ : Fin 640)) (keptIdx a p)).trans ?_
  refine (topK3_fst (chunks x) _ (by decide) a (chunkOf p) _).trans ?_
  rw [funext (chunks_apply x a (chunkOf p)), chunks_apply]
  rfl

/-- The kept positions of a row are the words of their sources. -/
theorem keptPos_apply (a : Fin 128) (p : Fin 10240) : keptPos x (ix2 a p) = BitVec.ofNat 32 (source (rowOf x a) p).val := by
  unfold keptPos
  refine (shapeCast_apply _ _ (ix2 a p) (ix3 a (chunkOf p) (⟨p.val % 640, Nat.mod_lt _ (by decide)⟩ : Fin 640)) (keptIdx a p)).trans ?_
  refine Eq.trans (b := (Host.topK S128x16x640 2 (FloatOps.cmpfTotal (F := Ideal) (φ := .f32) .gt) (chunks x) sliceFits_S128x16x2048_S128x16x640).2 (ix3 a (chunkOf p) (⟨p.val % 640, Nat.mod_lt _ (by decide)⟩ : Fin 640)) + BitVec.ofNat 32 (chunkOf p).val * 2048#32) rfl ?_
  refine (congrArg (· + BitVec.ofNat 32 (chunkOf p).val * 2048#32) (topK3_snd (chunks x) _ (by decide) a (chunkOf p) _)).trans ?_
  rw [funext (chunks_apply x a (chunkOf p))]
  unfold source
  rw [cell_val]
  apply BitVec.eq_of_toNat_eq
  have e : (Fin.castLE (by decide) (⟨p.val % 640, Nat.mod_lt _ (by decide)⟩ : Fin 640) : Fin 2048) = placeOf p := rfl
  rw [e]
  generalize top (chunk (rowOf x a) (chunkOf p)) (placeOf p) = w
  have hw := w.isLt
  have hq := (chunkOf p).isLt
  rw [BitVec.toNat_add, BitVec.toNat_mul, BitVec.toNat_ofNat, BitVec.toNat_ofNat, BitVec.toNat_ofNat]
  show (w.val % 4294967296 + (chunkOf p).val % 4294967296 * 2048 % 4294967296) % 4294967296 = (2048 * (chunkOf p).val + w.val) % 4294967296
  omega

/-- The gather along rows reads the column its index names. -/
theorem gather_apply (y : IVec S128x10240 32) (i : IVec S128x640x1 32) (a : Fin 128) (t : Fin 640) (p : Fin 10240)
    (h : i (ix3 a t 0) = BitVec.ofNat 32 p.val) :
    Host.gather gather_S128x10240_S128x640x1_S128x640_n_1_0_0_1_2_11 y i (ix2 a t) = y (ix2 a p) := by
  refine congrArg y ?_
  have hm : (1 : Fin 2) ∈ gather_S128x10240_S128x640x1_S128x640_n_1_0_0_1_2_11.startIndexMap := List.mem_singleton.2 rfl
  have hb0 : (0 : Fin 2) ∈ gather_S128x10240_S128x640x1_S128x640_n_1_0_0_1_2_11.operandBatchingDims := List.mem_singleton.2 rfl
  have hb1 : (1 : Fin 2) ∉ gather_S128x10240_S128x640x1_S128x640_n_1_0_0_1_2_11.operandBatchingDims := fun h => absurd (List.mem_singleton.1 h) (by decide)
  have hk0 : (0 : Fin 2) ∉ gather_S128x10240_S128x640x1_S128x640_n_1_0_0_1_2_11.sKept := fun h =>
    ((GatherDims.mem_sKept _ _).1 h).2 hb0
  have hk1 : (1 : Fin 2) ∉ gather_S128x10240_S128x640x1_S128x640_n_1_0_0_1_2_11.sKept := fun h =>
    ((GatherDims.mem_sKept _ _).1 h).1 (List.mem_singleton.2 rfl)
  funext d
  apply Fin.ext
  match d with
  | ⟨0, _⟩ =>
    show GatherDims.start _ _ _ 0 + GatherDims.batchCoord _ _ 0 + GatherDims.offCoord _ _ 0 = a.val
    rw [GatherDims.start_batching _ _ _ _ hb0, GatherDims.offCoord_eq_zero _ _ _ hk0]
    unfold GatherDims.batchCoord
    rw [dif_pos hb0, Nat.zero_add, Nat.add_zero]
    rfl
  | ⟨1, _⟩ =>
    show GatherDims.start _ _ _ 1 + GatherDims.batchCoord _ _ 1 + GatherDims.offCoord _ _ 1 = p.val
    rw [GatherDims.batchCoord_eq_zero _ _ _ hb1, GatherDims.offCoord_eq_zero _ _ _ hk1]
    unfold GatherDims.start
    rw [dif_pos hm]
    have hi : gather_S128x10240_S128x640x1_S128x640_n_1_0_0_1_2_11.siIdx (ix2 a t)
        ⟨List.idxOf (1 : Fin 2) gather_S128x10240_S128x640x1_S128x640_n_1_0_0_1_2_11.startIndexMap, List.idxOf_lt_length_iff.2 hm⟩ = ix3 a t 0 := by
      funext b
      apply Fin.ext
      match b with
      | ⟨0, _⟩ => rfl
      | ⟨1, _⟩ => rfl
      | ⟨2, _⟩ => rfl
    have hp := p.isLt
    rw [hi, h, BitVec.toInt_eq_toNat_of_lt (by rw [BitVec.toNat_ofNat]; omega), BitVec.toNat_ofNat]
    show min (p.val % 4294967296 : ℤ).toNat (10240 - 1) = p.val
    omega

/-- The printed gather along the rows, at words in range. -/
theorem takeAlong_apply (y : IVec S128x10240 32) (i : IVec S128x640 32) (a : Fin 128) (t : Fin 640) (p : Fin 10240)
    (h : i (ix2 a t) = BitVec.ofNat 32 p.val) : takeAlong y i (ix2 a t) = y (ix2 a p) := by
  have hp := p.isLt
  have hn : (BitVec.ofNat 32 p.val).toInt = p.val := by
    rw [BitVec.toInt_eq_toNat_of_lt (by rw [BitVec.toNat_ofNat]; omega), BitVec.toNat_ofNat]
    omega
  unfold takeAlong
  have hi : (shapeCast S128x640x1 (select (cmpi .slt i (broadcastInDim S128x640 ![] bcast_S_S128x640 (constantI S_ 32 0#32)))
    (addi i (broadcastInDim S128x640 ![] bcast_S_S128x640 (constantI S_ 32 10240#32))) i) shapeCasts_S128x640_S128x640x1) (ix3 a t 0) = BitVec.ofNat 32 p.val := by
    refine (shapeCast_apply _ _ (ix3 a t (0 : Fin 1)) (ix2 a t) ?_).trans ?_
    · rw [Shape.rowMajor_val_two, Shape.rowMajor_val_three]
      show a.val * 640 + t.val = (a.val * 640 + t.val) * 1 + 0
      omega
    · show Scalar.select (BitVec.ofBool ((i (ix2 a t)).slt 0#32)) _ (i (ix2 a t)) = _
      rw [h, BitVec.slt_eq_decide, hn, decide_eq_false (by show ¬ ((p.val : ℤ) < 0); omega)]
      exact if_neg (by decide)
  generalize (shapeCast S128x640x1 (select (cmpi .slt i (broadcastInDim S128x640 ![] bcast_S_S128x640 (constantI S_ 32 0#32)))
    (addi i (broadcastInDim S128x640 ![] bcast_S_S128x640 (constantI S_ 32 10240#32))) i) shapeCasts_S128x640_S128x640x1) = i' at hi ⊢
  have hr : (Host.reduce IntOp.andi (andi (cmpi .sge i' (broadcastInDim S128x640x1 ![] bcast_S_S128x640x1 (constantI S_ 32 0#32)))
      (cmpi .sle i' (broadcastInDim S128x640x1 ![0, 1, 2] bcast_S1x1x1_S128x640x1_0_1_2 (broadcastInDim S1x1x1 ![2] bcast_S1_S1x1x1_2 (constantI S1 32 10239#32)))))
      (constantI S_ 1 1#1) reducesTo_S128x640x1_S128x640_d2 h_S_) (ix2 a t) = 1#1 := by
    rw [Host.reduce_eq_fold_single IntOp.andi _ _ reducesTo_S128x640x1_S128x640_d2 (by decide : S128x640x1.Reduces [2] S128x640) h_S_]
    have hl : (andi (cmpi .sge i' (broadcastInDim S128x640x1 ![] bcast_S_S128x640x1 (constantI S_ 32 0#32)))
      (cmpi .sle i' (broadcastInDim S128x640x1 ![0, 1, 2] bcast_S1x1x1_S128x640x1_0_1_2 (broadcastInDim S1x1x1 ![2] bcast_S1_S1x1x1_2 (constantI S1 32 10239#32)))))
        ∘ (by decide : S128x640x1.Reduces [2] S128x640).lift (ix2 a t) = fun _ : Fin 1 => 1#1 := by
      funext k
      have hk : (by decide : S128x640x1.Reduces [2] S128x640).lift (ix2 a t) k = ix3 a t 0 := by
        funext b
        apply Fin.ext
        match b with
        | ⟨0, _⟩ => rfl
        | ⟨1, _⟩ => rfl
        | ⟨2, _⟩ => have := k.isLt
                    change k.val < 1 at this
                    show k.val = 0
                    omega
      show (andi _ _) _ = _
      rw [hk]
      show BitVec.ofBool ((0#32).sle (i' (ix3 a t 0))) &&& BitVec.ofBool ((i' (ix3 a t 0)).sle 10239#32) = 1#1
      rw [hi, BitVec.sle_eq_decide, BitVec.sle_eq_decide, hn, decide_eq_true (by show (0 : ℤ) ≤ p.val; omega), decide_eq_true (by show (p.val : ℤ) ≤ 10239; omega)]
      decide
    refine (congrArg (fun f => Finset.fold IntOp.andi (1#1 : BitVec 1) f (Finset.univ : Finset (Fin 1))) hl).trans ?_
    decide
  show Scalar.select (Host.reduce IntOp.andi _ _ reducesTo_S128x640x1_S128x640_d2 h_S_ (ix2 a t)) _ _ = _
  rw [hr]
  exact (if_pos rfl).trans (gather_apply y i' a t p hi)

attribute [local irreducible] top rank

/-- The candidates' logits are the row's entries at the candidates. -/
theorem candVals_apply (a : Fin 128) (t : Fin 640) : candVals x (ix2 a t) = rowOf x a (cand (rowOf x a) t) := by
  unfold candVals
  refine (topK2_fst (keptVals x) _ (by decide) a t).trans ?_
  rw [funext (keptVals_apply x a), keptVals_apply]
  exact congrArg (rowOf x a) (source_top (rowOf x a) t)

/-- Equal positions have equal words. -/
theorem word_congr {i j : Fin 32768} (h : i = j) : BitVec.ofNat 32 i.val = BitVec.ofNat 32 j.val := by rw [h]

/-- The candidates' positions in the row. -/
theorem candPos_apply (a : Fin 128) (t : Fin 640) : candPos x (ix2 a t) = BitVec.ofNat 32 (cand (rowOf x a) t).val := by
  have e : source (rowOf x a) (top (fun k => keptVals x (ix2 a k)) (t.castLE (by decide))) = cand (rowOf x a) t := by
    rw [funext (keptVals_apply x a)]
    exact source_top (rowOf x a) t
  have h : candPlaces x (ix2 a t) = BitVec.ofNat 32 (top (fun k => keptVals x (ix2 a k)) (t.castLE (by decide))).val :=
    topK2_snd (keptVals x) _ (by decide) a t
  generalize top (fun k => keptVals x (ix2 a k)) (t.castLE (by decide)) = p at e h
  unfold candPos
  rw [takeAlong_apply _ _ a t p h, keptPos_apply, e]

end Pure

variable (m : (ℓ : Loc nD τ sig) → Buf (Elt Ideal) ℓ) (ρ : Dev nD → PrngReg)

/-- The candidates' logits before region 1. -/
theorem W12_vals (c : Dev nD) : W12 m ρ c (Proc.devRef .tc main_values_1) = candVals (W5 m ρ c (Proc.devRef .tc main_v10)) := by
  refine (W12_of m ρ c main_values_1 (by decide)).trans <| (W11_of m ρ c main_values_1 (by decide)).trans <|
    (W10_of m ρ c main_values_1 (by decide)).trans <| (W9_of m ρ c main_values_1 (by decide)).trans <|
    (W8_of m ρ c main_values_1 (by decide)).trans <| (W7_of m ρ c main_values_1 (by decide)).trans ?_
  unfold W6
  after_reads_simp
  rfl

/-- The kept positions and the candidates' places among them, before the gather. -/
theorem W6_pos (c : Dev nD) : W6 m ρ c (Proc.devRef .tc main_v19) = keptPos (W5 m ρ c (Proc.devRef .tc main_v10))
    ∧ W6 m ρ c (Proc.devRef .tc main_indices_2) = candPlaces (W5 m ρ c (Proc.devRef .tc main_v10)) := by
  constructor
  · unfold W6
    after_reads_simp
    rfl
  · unfold W6
    after_reads_simp
    rfl

/-- The gather's stretch. -/
theorem gather_stretch (c : Dev nD) : W7 m ρ c (Proc.devRef .tc main_v20)
    = takeAlong (W6 m ρ c (Proc.devRef .tc main_v19)) (W6 m ρ c (Proc.devRef .tc main_indices_2)) := by
  unfold W7
  generalize W6 m ρ = V
  after_reads_simp
  simp only [StableHlo.TRef.ofBuf_toBuf]
  have e1 : ∀ v (h1) (h2) (h3), (StableHlo.TRef.of main_indices_2 h1 h2 h3 : StableHlo.TRef sig ⟨S128x640, .i32⟩).ofBuf (Val := Elt Ideal) v = v :=
    fun _ _ _ _ => rfl
  have e2 : ∀ v (h1) (h2) (h3), (StableHlo.TRef.of main_v19 h1 h2 h3 : StableHlo.TRef sig ⟨S128x10240, .i32⟩).ofBuf (Val := Elt Ideal) v = v :=
    fun _ _ _ _ => rfl
  have e3 : ∀ v (h1) (h2) (h3), (StableHlo.TRef.of main_v20 h1 h2 h3 : StableHlo.TRef sig ⟨S128x640, .i32⟩).toBuf (Val := Elt Ideal) v = v :=
    fun _ _ _ _ => rfl
  have e4 : ∀ v (h1) (h2) (h3), (StableHlo.TRef.of main_call2_v4 h1 h2 h3 : StableHlo.TRef sig ⟨S128x640, .i32⟩).toBuf (Val := Elt Ideal) v = v :=
    fun _ _ _ _ => rfl
  have e5 : ∀ v (h1) (h2) (h3), (StableHlo.TRef.of main_call2_v5 h1 h2 h3 : StableHlo.TRef sig ⟨S128x640x1, .i32⟩).ofBuf (Val := Elt Ideal) v = v :=
    fun _ _ _ _ => rfl
  rw [e3]
  simp only [e1, e2, e4, e5]
  unfold takeAlong
  generalize V c (Proc.devRef .tc main_indices_2) = x
  generalize V c (Proc.devRef .tc main_v19) = y
  rfl

/-- The candidates' positions before region 1. -/
theorem W12_pos (c : Dev nD) : W12 m ρ c (Proc.devRef .tc main_v20) = candPos (W5 m ρ c (Proc.devRef .tc main_v10)) := by
  refine (W12_of m ρ c main_v20 (by decide)).trans <| (W11_of m ρ c main_v20 (by decide)).trans <|
    (W10_of m ρ c main_v20 (by decide)).trans <| (W9_of m ρ c main_v20 (by decide)).trans <|
    (W8_of m ρ c main_v20 (by decide)).trans <| (gather_stretch m ρ c).trans ?_
  rw [(W6_pos m ρ c).1, (W6_pos m ρ c).2]
  rfl

end Cert.KernelIdeal.Val
-- ==== Proof.Bounds.lean ====
module

public import proofs.«01_k».proof.Proof.Lanes
public import proofs.«01_k».proof.Proof.Norms

@[expose] public section

set_option maxRecDepth 16384

noncomputable section

/-! The logits are real numbers of size at most 256, whatever the arguments hold. -/

namespace Cert.KernelIdeal.Val

open Idealize.ShloMosaic Idealize.ShloMosaic.ValueIdx
open Cert.KernelIdeal Cert.KernelIdeal.Gen

/-- The millionth added to a norm. -/
theorem millionth_real : ∃ r : ℝ, 0 < r ∧ Ideal.ofBits .f32 0x358637BD#32 = (r : EReal) := by
  refine ⟨(8796093 : ℝ) * 2 ^ (-43 : ℤ), by norm_num, ?_⟩
  simp [Ideal.ofBits, Ideal.ieee]

/-- An entry over its row's norm plus a positive number is real and at most 1 in size, infinite entries included. -/
theorem unit_real {n : ℕ} (x : Fin n → EReal) (ε : ℝ) (hε : 0 < ε) (d : Fin n) :
    ∃ r : ℝ, |r| ≤ 1 ∧ Ideal.div (x d) (Ideal.sqrt (∑ k, x k * x k) + (ε : EReal)) = r := by
  by_cases h : ∀ k, ∃ r : ℝ, x k = r
  · choose f hf using h
    have hs : (∑ k, x k * x k) = ((∑ k, f k * f k : ℝ) : EReal) := by
      rw [← Cert.Proof.Rank.sum_coe]
      exact Finset.sum_congr rfl fun k _ => by rw [hf, EReal.coe_mul]
    have hn : 0 ≤ ∑ k, f k * f k := Finset.sum_nonneg fun k _ => mul_self_nonneg _
    have hq : Ideal.sqrt ((∑ k, f k * f k : ℝ) : EReal) = ((Real.sqrt (∑ k, f k * f k) : ℝ) : EReal) := if_neg (not_lt.mpr hn)
    have hp : 0 < Real.sqrt (∑ k, f k * f k) + ε := by have := Real.sqrt_nonneg (∑ k, f k * f k); linarith
    rw [hs, hq, ← EReal.coe_add, hf]
    refine ⟨f d * (Real.sqrt (∑ k, f k * f k) + ε)⁻¹, ?_, ?_⟩
    · rw [abs_mul, abs_inv, abs_of_pos hp, ← div_eq_mul_inv, div_le_one hp]
      refine le_trans ?_ (le_add_of_nonneg_right hε.le)
      refine Real.abs_le_sqrt ?_
      rw [sq]
      exact Finset.single_le_sum (f := fun k => f k * f k) (fun k _ => mul_self_nonneg _) (Finset.mem_univ d)
    · unfold Ideal.div
      rw [if_neg (by exact_mod_cast hp.ne'), ← EReal.coe_inv, ← EReal.coe_mul]
  · obtain ⟨k, hk⟩ := not_forall.mp h
    have hsq : ∀ j, 0 ≤ x j * x j := fun j => by
      rcases le_total 0 (x j) with h0 | h0
      · exact mul_nonneg h0 h0
      · rw [← neg_mul_neg]
        exact mul_nonneg (EReal.neg_nonneg.mpr h0) (EReal.neg_nonneg.mpr h0)
    have ht : x k * x k = ⊤ := by
      induction hx : x k using EReal.rec with
      | bot => rfl
      | top => rfl
      | coe r => exact absurd ⟨r, hx⟩ hk
    have hs : (∑ j, x j * x j) = ⊤ := top_le_iff.mp (by
      rw [← ht]
      exact Finset.single_le_sum (f := fun j => x j * x j) (fun j _ => hsq j) (Finset.mem_univ k))
    refine ⟨0, by simp, ?_⟩
    rw [hs]
    have hq : Ideal.sqrt ⊤ + (ε : EReal) = ⊤ := EReal.top_add_coe ε
    rw [hq]
    unfold Ideal.div
    rw [if_neg (by simp), EReal.inv_top, mul_zero]
    rfl

/-- Reducing the columns of a matrix sums over the entries of a row. -/
theorem lift_row {n w : ℕ} (h : (⟨2, ![n, w]⟩ : Shape).Reduces [1] ⟨1, ![n]⟩) (a : Fin n) (k : Fin w) :
    h.lift (ix1 a) k = ix2 a k := by
  funext b
  apply Fin.ext
  match b with
  | ⟨0, _⟩ => rfl
  | ⟨1, _⟩ => rfl

/-- The normalised keys are real and at most 1 in size. -/
theorem keysNorm_real (x : FVec Ideal S32768x256 .f32) (n : Fin 32768) (d : Fin 256) :
    ∃ r : ℝ, |r| ≤ 1 ∧ keysNorm x (ix2 n d) = r := by
  obtain ⟨e, he, h⟩ := millionth_real
  obtain ⟨r, h1, h2⟩ := unit_real (fun k => x (ix2 n k)) e he d
  refine ⟨r, h1, Eq.trans ?_ h2⟩
  have hr : Host.reduceAdd (mulf x x) (constant S_ .f32 0#32) reducesTo_S32768x256_S32768_d1 h_S_ (ix1 n) = ∑ k : Fin 256, x (ix2 n k) * x (ix2 n k) := by
    refine (Ideal.hostReduceAdd_single reducesTo_S32768x256_S32768_d1 (by decide : S32768x256.Reduces [1] S32768) _ _ _).trans ?_
    rw [show (constant S_ .f32 0#32 : FVec Ideal S_ .f32) (Shape.Idx.first h_S_) = 0 from Ideal.ofBits_zero_f32, zero_add]
    exact Finset.sum_congr rfl fun k _ => congrArg (fun i => x i * x i) (lift_row _ n k)
  rw [← h, ← hr]
  unfold keysNorm
  generalize hR : (Host.reduceAdd (mulf x x) (constant S_ .f32 0#32) reducesTo_S32768x256_S32768_d1 h_S_ : FVec Ideal S32768 .f32) = R
  refine congrArg (fun j => Ideal.div (x (ix2 n d)) (Ideal.sqrt (R j) + Ideal.ofBits .f32 0x358637BD#32)) ?_
  funext b
  match b with
  | ⟨0, _⟩ => rfl

/-- The normalised slots are real and at most 1 in size. -/
theorem slotNorm_real (x : FVec Ideal S128x256 .f32) (n : Fin 128) (d : Fin 256) :
    ∃ r : ℝ, |r| ≤ 1 ∧ slotNorm x (ix2 n d) = r := by
  obtain ⟨e, he, h⟩ := millionth_real
  obtain ⟨r, h1, h2⟩ := unit_real (fun k => x (ix2 n k)) e he d
  refine ⟨r, h1, Eq.trans ?_ h2⟩
  have hr : Host.reduceAdd (mulf x x) (constant S_ .f32 0#32) reducesTo_S128x256_S128_d1 h_S_ (ix1 n) = ∑ k : Fin 256, x (ix2 n k) * x (ix2 n k) := by
    refine (Ideal.hostReduceAdd_single reducesTo_S128x256_S128_d1 (by decide : S128x256.Reduces [1] S128) _ _ _).trans ?_
    rw [show (constant S_ .f32 0#32 : FVec Ideal S_ .f32) (Shape.Idx.first h_S_) = 0 from Ideal.ofBits_zero_f32, zero_add]
    exact Finset.sum_congr rfl fun k _ => congrArg (fun i => x i * x i) (lift_row _ n k)
  rw [← h, ← hr]
  unfold slotNorm
  generalize hR : (Host.reduceAdd (mulf x x) (constant S_ .f32 0#32) reducesTo_S128x256_S128_d1 h_S_ : FVec Ideal S128 .f32) = R
  refine congrArg (fun j => Ideal.div (x (ix2 n d)) (Ideal.sqrt (R j) + Ideal.ofBits .f32 0x358637BD#32)) ?_
  funext b
  match b with
  | ⟨0, _⟩ => rfl

/-- A logit is real and at most 256 in size. -/
theorem logits_real (a0 : FVec Ideal S32768x256 .f32) (a4 : FVec Ideal S128x256 .f32) (k : Fin 128) (i : Fin 32768) :
    ∃ r : ℝ, |r| ≤ 256 ∧ logits a0 a4 (ix2 k i) = r := by
  choose f hf using fun d => slotNorm_real a4 k d
  choose g hg using fun d => keysNorm_real a0 i d
  refine ⟨∑ d, f d * g d, ?_, ?_⟩
  · refine (Finset.abs_sum_le_sum_abs _ _).trans ?_
    refine (Finset.sum_le_sum (g := fun _ : Fin 256 => (1 : ℝ)) (fun d _ => ?_)).trans (by simp)
    rw [abs_mul]
    exact mul_le_one₀ (hf d).1 (abs_nonneg _) (hg d).1
  · refine Eq.trans ?_ (Cert.Proof.Rank.sum_coe Finset.univ fun d => f d * g d)
    unfold logits product
    refine Finset.sum_congr rfl fun d _ => ?_
    rw [EReal.coe_mul, ← (hf d).2, ← (hg d).2]

/-- The value that masks a selected key. -/
theorem masked_value : Ideal.ofBits .f32 0xCE6E6B28#32 = ((-1000000000 : ℝ) : EReal) := by
  simp [Ideal.ofBits, Ideal.ieee]
  exact_mod_cast (by norm_num : (15625000 : ℝ) * 2 ^ 6 = 1000000000)

/-- It lies below every logit. -/
theorem masked_lt (a0 : FVec Ideal S32768x256 .f32) (a4 : FVec Ideal S128x256 .f32) (k : Fin 128) (i : Fin 32768) :
    Ideal.ofBits .f32 0xCE6E6B28#32 < logits a0 a4 (ix2 k i) := by
  obtain ⟨r, h1, h2⟩ := logits_real a0 a4 k i
  rw [masked_value, h2, EReal.coe_lt_coe_iff]
  linarith [neg_abs_le r]

end Cert.KernelIdeal.Val
-- ==== Proof.Lockstep.lean ====
module

public import proofs.«01_k».proof.Proof.RefRun

@[expose] public section

set_option maxRecDepth 16384

noncomputable section

/-! Two programs' straight lines of host operations, one beside the other: the same operations on buffers of consecutive
numbers, the second program's numbers lower by a constant. -/

namespace Cert.Proof.Lockstep

open Idealize.ShloMosaic Idealize.ShloMosaic.TcCoe Idealize.ShloMosaic.StableHlo

variable {τ τ' : Topo} {sig sig' : RefSig} {Val : EltTy → Type}

/-- The HBM buffer of a number. -/
def At (r : Ref sig .tc) (n : ℕ) : Prop := r.space = .hbm ∧ r.idx.val = n

instance (r : Ref sig .tc) (n : ℕ) : Decidable (At r n) := inferInstanceAs (Decidable (_ ∧ _))

/-- The buffers from `lo` on and below `n` hold what the second program's hold at numbers lower by `off`. -/
def Agrees (lo off n : ℕ) (V : Valuation τ sig Val) (V' : Valuation τ' sig' Val) : Prop :=
  ∀ (i : ℕ) (r : Ref sig .tc) (r' : Ref sig' .tc), lo ≤ i → i < n → At r i → r'.space = .hbm → r'.idx.val + off = i →
    HEq (V (Proc.devRef .tc r)) (V' (Proc.devRef .tc r'))

/-- A pair of operations that write the buffers of the next number, and the same there, carry the agreement on. -/
theorem Agrees.step {lo off n : ℕ} {V : Valuation τ sig Val} {V' : Valuation τ' sig' Val} (h : Agrees lo off n V V')
    {op : HloOp τ sig Val} {op' : HloOp τ' sig' Val} {y : Ref sig .tc} {y' : Ref sig' .tc}
    (hw : op.writes = {Proc.devRef (τ := τ) .tc y}) (hw' : op'.writes = {Proc.devRef (τ := τ') .tc y'})
    (hy : At y n) (hy' : y'.space = .hbm ∧ y'.idx.val + off = n)
    (he : HEq (op.result V (Proc.devRef .tc y)) (op'.result V' (Proc.devRef .tc y'))) :
    Agrees lo off (n + 1) (op.result V) (op'.result V') := by
  intro i r r' h1 h2 h3 h4 h5
  rcases Nat.lt_or_ge i n with h6 | h6
  · have e : r ≠ y := fun e => by have := h3.2; have := hy.2; subst e; omega
    have e' : r' ≠ y' := fun e => by have := hy'.2; subst e; omega
    rw [result_of_writes_ne op V y r hw e, result_of_writes_ne op' V' y' r' hw' e']
    exact h i r r' h1 h6 h3 h4 h5
  · obtain rfl : i = n := by omega
    obtain rfl : r = y := by
      cases r; cases y
      obtain ⟨a, b⟩ := h3
      obtain ⟨a', b'⟩ := hy
      cases a; cases a'
      simp only [Ref.mk.injEq, heq_eq_eq, true_and]
      exact Fin.ext (b.trans b'.symm)
    obtain rfl : r' = y' := by
      cases r'; cases y'
      obtain ⟨a', b'⟩ := hy'
      cases h4; cases a'
      simp only [Ref.mk.injEq, heq_eq_eq, true_and]
      exact Fin.ext (by have := h5.trans b'.symm; simp only at this; omega)
    exact he

/-- An operation of the second program alone that writes no buffer of the range carries the agreement on. -/
theorem Agrees.right {lo off n : ℕ} {V : Valuation τ sig Val} {V' : Valuation τ' sig' Val} (h : Agrees lo off n V V')
    {op' : HloOp τ' sig' Val} {y' : Ref sig' .tc} (hw' : op'.writes = {Proc.devRef (τ := τ') .tc y'})
    (hy' : y'.idx.val + off < lo ∨ n ≤ y'.idx.val + off) : Agrees lo off n V (op'.result V') := by
  intro i r r' h1 h2 h3 h4 h5
  have e' : r' ≠ y' := fun e => by subst e; omega
  rw [result_of_writes_ne op' V' y' r' hw' e']
  exact h i r r' h1 h2 h3 h4 h5

/-- The lines carry the agreement from the buffers below `n` to those below `N`. -/
def Steps (lo off n : ℕ) (ops : List (HloOp τ sig Val)) (ops' : List (HloOp τ' sig' Val)) (N : ℕ) : Prop :=
  ∀ V V', Agrees lo off n V V' → Agrees lo off N (after ops V) (after ops' V')

variable {lo off n N : ℕ} {ops : List (HloOp τ sig Val)} {ops' : List (HloOp τ' sig' Val)}

/-- Two empty programs walk in step. -/
theorem Steps.nil (h : N = n) : Steps lo off n ([] : List (HloOp τ sig Val)) ([] : List (HloOp τ' sig' Val)) N := by
  intro V V' h'
  subst h
  exact h'

/-- A constant, written by both. -/
theorem Steps.nullary {y : Ref sig .tc} {y' : Ref sig' .tc} {v : y.ty.Contents Val} {v' : y'.ty.Contents Val} {hy hy'}
    (hv : HEq v v') (h : At y n ∧ y'.space = .hbm ∧ y'.idx.val + off = n) (t : Steps lo off (n + 1) ops ops' N) :
    Steps lo off n (StableHlo.nullary (τ := τ) y v hy :: ops) (StableHlo.nullary (τ := τ') y' v' hy' :: ops') N := by
  intro V V' hV
  refine t _ _ (hV.step (nullary_writes ..) (nullary_writes ..) h.1 h.2 ?_)
  rw [nullary_result, nullary_result]
  exact hv

/-- Equal functions at equal arguments give equal values, across types that are equal. -/
theorem heq_app {x x' y y' : BufTy} {f : x.Contents Val → y.Contents Val} {f' : x'.Contents Val → y'.Contents Val}
    {a : x.Contents Val} {a' : x'.Contents Val} (ex : x = x') (ey : y = y') (hf : HEq f f') (ha : HEq a a') : HEq (f a) (f' a') := by
  subst ex; subst ey; cases hf; cases ha; rfl

/-- An operation of one operand that was written before. -/
theorem Steps.unary {x y : Ref sig .tc} {x' y' : Ref sig' .tc} {f : x.ty.Contents Val → y.ty.Contents Val}
    {f' : x'.ty.Contents Val → y'.ty.Contents Val} {hx hy hx' hy'} (ex : x.ty = x'.ty) (ey : y.ty = y'.ty)
    (hf : HEq f f') (h : At y n ∧ y'.space = .hbm ∧ y'.idx.val + off = n)
    (hx1 : x.space = .hbm ∧ lo ≤ x.idx.val ∧ x.idx.val < n ∧ x'.space = .hbm ∧ x'.idx.val + off = x.idx.val)
    (t : Steps lo off (n + 1) ops ops' N) :
    Steps lo off n (StableHlo.unary (τ := τ) x y f hx hy :: ops) (StableHlo.unary (τ := τ') x' y' f' hx' hy' :: ops') N := by
  intro V V' hV
  refine t _ _ (hV.step (unary_writes ..) (unary_writes ..) h.1 h.2 ?_)
  rw [unary_result, unary_result]
  exact heq_app ex ey hf (hV _ x x' hx1.2.1 hx1.2.2.1 ⟨hx1.1, rfl⟩ hx1.2.2.2.1 hx1.2.2.2.2)

/-- The same for functions of two arguments. -/
theorem heq_app₂ {a a' b b' y y' : BufTy} {f : a.Contents Val → b.Contents Val → y.Contents Val}
    {f' : a'.Contents Val → b'.Contents Val → y'.Contents Val} {u : a.Contents Val} {u' : a'.Contents Val}
    {v : b.Contents Val} {v' : b'.Contents Val} (ea : a = a') (eb : b = b') (ey : y = y') (hf : HEq f f') (hu : HEq u u')
    (hv : HEq v v') : HEq (f u v) (f' u' v') := by
  subst ea; subst eb; subst ey; cases hf; cases hu; cases hv; rfl

/-- An operation of two operands that were written before. -/
theorem Steps.binary {a b y : Ref sig .tc} {a' b' y' : Ref sig' .tc} {f : a.ty.Contents Val → b.ty.Contents Val → y.ty.Contents Val}
    {f' : a'.ty.Contents Val → b'.ty.Contents Val → y'.ty.Contents Val} {ha hb hy ha' hb' hy'} (ea : a.ty = a'.ty) (eb : b.ty = b'.ty)
    (ey : y.ty = y'.ty) (hf : HEq f f') (h : At y n ∧ y'.space = .hbm ∧ y'.idx.val + off = n)
    (ha1 : a.space = .hbm ∧ lo ≤ a.idx.val ∧ a.idx.val < n ∧ a'.space = .hbm ∧ a'.idx.val + off = a.idx.val)
    (hb1 : b.space = .hbm ∧ lo ≤ b.idx.val ∧ b.idx.val < n ∧ b'.space = .hbm ∧ b'.idx.val + off = b.idx.val)
    (t : Steps lo off (n + 1) ops ops' N) :
    Steps lo off n (StableHlo.binary (τ := τ) a b y f ha hb hy :: ops) (StableHlo.binary (τ := τ') a' b' y' f' ha' hb' hy' :: ops') N := by
  intro V V' hV
  refine t _ _ (hV.step (binary_writes ..) (binary_writes ..) h.1 h.2 ?_)
  rw [binary_result, binary_result]
  exact heq_app₂ ea eb ey hf (hV _ a a' ha1.2.1 ha1.2.2.1 ⟨ha1.1, rfl⟩ ha1.2.2.2.1 ha1.2.2.2.2)
    (hV _ b b' hb1.2.1 hb1.2.2.1 ⟨hb1.1, rfl⟩ hb1.2.2.2.1 hb1.2.2.2.2)

/-- Reshapes of equal contents are equal, across types that are equal. -/
theorem heq_cast {X X' Y Y' : BufTy} {he : X.elt = Y.elt} {hn : X.shape.ShapeCasts Y.shape} {he' : X'.elt = Y'.elt}
    {hn' : X'.shape.ShapeCasts Y'.shape} {v : X.Contents Val} {v' : X'.Contents Val} (ex : X = X') (ey : Y = Y') (hv : HEq v v') :
    HEq (fun i => (he ▸ shapeCast Y.shape v hn i : Val Y.elt)) (fun i => (he' ▸ shapeCast Y'.shape v' hn' i : Val Y'.elt)) := by
  subst ex; subst ey; cases hv; rfl

/-- A reshape of an operand that was written before. -/
theorem Steps.reshape {x y : Ref sig .tc} {x' y' : Ref sig' .tc} {he hn hx hy he' hn' hx' hy'} (ex : x.ty = x'.ty) (ey : y.ty = y'.ty)
    (h : At y n ∧ y'.space = .hbm ∧ y'.idx.val + off = n)
    (hx1 : x.space = .hbm ∧ lo ≤ x.idx.val ∧ x.idx.val < n ∧ x'.space = .hbm ∧ x'.idx.val + off = x.idx.val)
    (t : Steps lo off (n + 1) ops ops' N) :
    Steps lo off n (StableHlo.reshape (τ := τ) (Val := Val) x y he hn hx hy :: ops)
      (StableHlo.reshape (τ := τ') (Val := Val) x' y' he' hn' hx' hy' :: ops') N := by
  intro V V' hV
  refine t _ _ (hV.step (reshape_writes ..) (reshape_writes ..) h.1 h.2 ?_)
  rw [reshape_result, reshape_result]
  exact heq_cast ex ey (hV _ x x' hx1.2.1 hx1.2.2.1 ⟨hx1.1, rfl⟩ hx1.2.2.2.1 hx1.2.2.2.2)

/-- An operation of the second program alone. -/
theorem Steps.right {op' : HloOp τ' sig' Val} {y' : Ref sig' .tc} (hw' : op'.writes = {Proc.devRef (τ := τ') .tc y'})
    (hy' : y'.idx.val + off < lo ∨ n ≤ y'.idx.val + off) (t : Steps lo off n ops ops' N) : Steps lo off n ops (op' :: ops') N :=
  fun _ _ hV => t _ _ (hV.right hw' hy')

end Cert.Proof.Lockstep
-- ==== Proof.Noise.lean ====
module

public import proofs.«01_k».proof.Proof.Lockstep

@[expose] public section

set_option maxRecDepth 16384
set_option maxHeartbeats 4000000

noncomputable section

/-! The random words of the two programs: the same operations, one beside the other. -/

namespace Cert.Proof.Noise

open Idealize.ShloMosaic Idealize.ShloMosaic.TcCoe Idealize.ShloMosaic.StableHlo
open Cert.Proof.Lockstep

/-- The key words and the slots' numbers. -/
theorem steps_key : Steps 62 35 62 (Cert.KernelIdeal.Gen.hostOps1_2 (F := Ideal)) (Cert.ReferenceIdeal.Gen.hostOps0_3 (F := Ideal)) 74 := by
  refine Steps.right (y' := Cert.ReferenceIdeal.main_cst_0) rfl (by decide +kernel) ?_
  refine Steps.right (y' := Cert.ReferenceIdeal.main_v6) rfl (by decide +kernel) ?_
  refine Steps.right (y' := Cert.ReferenceIdeal.main_v7) rfl (by decide +kernel) ?_
  refine Steps.right (y' := Cert.ReferenceIdeal.main_v8) rfl (by decide +kernel) ?_
  refine Steps.right (y' := Cert.ReferenceIdeal.main_v9) rfl (by decide +kernel) ?_
  refine Steps.right (y' := Cert.ReferenceIdeal.main_v10) rfl (by decide +kernel) ?_
  refine Steps.right (y' := Cert.ReferenceIdeal.main_v11) rfl (by decide +kernel) ?_
  refine Steps.nullary HEq.rfl (by decide +kernel) ?_
  refine Steps.nullary HEq.rfl (by decide +kernel) ?_
  refine Steps.binary rfl rfl rfl HEq.rfl (by decide +kernel) (by decide +kernel) (by decide +kernel) ?_
  refine Steps.unary rfl rfl HEq.rfl (by decide +kernel) (by decide +kernel) ?_
  refine Steps.unary rfl rfl HEq.rfl (by decide +kernel) (by decide +kernel) ?_
  refine Steps.nullary HEq.rfl (by decide +kernel) ?_
  refine Steps.binary rfl rfl rfl HEq.rfl (by decide +kernel) (by decide +kernel) (by decide +kernel) ?_
  refine Steps.unary rfl rfl HEq.rfl (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  exact Steps.nil rfl

/-- The fold of the slots' numbers into the key. -/
theorem steps_fold : Steps 62 35 74 (Cert.KernelIdeal.Gen.hostOps1_3 (F := Ideal)) (Cert.ReferenceIdeal.Gen.hostOps0_4 (F := Ideal)) 312 := by
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.reshape rfl rfl (by decide +kernel) (by decide +kernel) ?_
  refine Steps.unary rfl rfl HEq.rfl (by decide +kernel) (by decide +kernel) ?_
  refine Steps.reshape rfl rfl (by decide +kernel) (by decide +kernel) ?_
  refine Steps.unary rfl rfl HEq.rfl (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  exact Steps.nil rfl

/-- The ends of the range. -/
theorem steps_range : Steps 62 35 312 (Cert.KernelIdeal.Gen.hostOps1_4 (F := Ideal)) (Cert.ReferenceIdeal.Gen.hostOps0_5 (F := Ideal)) 314 := by
  refine Steps.nullary HEq.rfl (by decide +kernel) ?_
  refine Steps.nullary HEq.rfl (by decide +kernel) ?_
  exact Steps.nil rfl

/-- The uniform numbers. -/
theorem steps_uniform : Steps 62 35 314 (Cert.KernelIdeal.Gen.hostOps1_5 (F := Ideal)) (Cert.ReferenceIdeal.Gen.hostOps0_6 (F := Ideal)) 581 := by
  refine Steps.unary rfl rfl HEq.rfl (by decide +kernel) (by decide +kernel) ?_
  refine Steps.unary rfl rfl HEq.rfl (by decide +kernel) (by decide +kernel) ?_
  refine Steps.unary rfl rfl HEq.rfl (by decide +kernel) (by decide +kernel) ?_
  refine Steps.unary rfl rfl HEq.rfl (by decide +kernel) (by decide +kernel) ?_
  refine Steps.unary rfl rfl HEq.rfl (by decide +kernel) (by decide +kernel) ?_
  refine Steps.reshape rfl rfl (by decide +kernel) (by decide +kernel) ?_
  refine Steps.unary rfl rfl HEq.rfl (by decide +kernel) (by decide +kernel) ?_
  refine Steps.reshape rfl rfl (by decide +kernel) (by decide +kernel) ?_
  refine Steps.nullary HEq.rfl (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.unary rfl rfl HEq.rfl (by decide +kernel) (by decide +kernel) ?_
  refine Steps.unary rfl rfl HEq.rfl (by decide +kernel) (by decide +kernel) ?_
  refine Steps.unary rfl rfl HEq.rfl (by decide +kernel) (by decide +kernel) ?_
  refine Steps.unary rfl rfl HEq.rfl (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.nullary HEq.rfl (by decide +kernel) ?_
  refine Steps.unary rfl rfl HEq.rfl (by decide +kernel) (by decide +kernel) ?_
  refine Steps.binary rfl rfl rfl HEq.rfl (by decide +kernel) (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.unary rfl rfl HEq.rfl (by decide +kernel) (by decide +kernel) ?_
  refine Steps.binary rfl rfl rfl HEq.rfl (by decide +kernel) (by decide +kernel) (by decide +kernel) ?_
  refine Steps.unary rfl rfl HEq.rfl (by decide +kernel) (by decide +kernel) ?_
  refine Steps.unary rfl rfl HEq.rfl (by decide +kernel) (by decide +kernel) ?_
  refine Steps.binary rfl rfl rfl HEq.rfl (by decide +kernel) (by decide +kernel) (by decide +kernel) ?_
  exact Steps.nil rfl

end Cert.Proof.Noise
-- ==== Proof.NoiseValue.lean ====
module

public import proofs.«01_k».proof.Proof.Noise
public import proofs.«01_k».proof.Proof.Lanes

@[expose] public section

set_option maxRecDepth 16384

noncomputable section

/-! The noise both programs add to the logits: one array, and every entry of it a real number. -/

namespace Cert.Proof.Noise

open Idealize.ShloMosaic Idealize.ShloMosaic.TcCoe Idealize.ShloMosaic.StableHlo Idealize.ShloMosaic.ValueIdx
open Cert.Proof.Lockstep

section Pure
open Cert.KernelIdeal Cert.KernelIdeal.Gen

/-- The Gumbel transform of uniform numbers. -/
def gumbel (u : FVec Ideal S128x512 .f32) : FVec Ideal S128x512 .f32 :=
  Host.negf (Host.log (addf (Host.negf (Host.log (addf u (broadcastInDim S128x512 ![] bcast_S_S128x512 (constant S_ .f32 0x3089705F#32)))))
    (broadcastInDim S128x512 ![] bcast_S_S128x512 (constant S_ .f32 0x3089705F#32))))

/-- Words as uniform numbers between the ends of a range. -/
def scaled (w : IVec S128x512 32) (lo hi : FVec Ideal S1 .f32) : FVec Ideal S128x512 .f32 :=
  maximumf (broadcastInDim S128x512 ![0, 1] bcast_S1x1_S128x512_0_1 (broadcastInDim S1x1 ![1] bcast_S1_S1x1_1 lo))
    (addf (mulf (subf (bitcastToFloat .f32 (ori (Host.shrui w (broadcastInDim S128x512 ![] bcast_S_S128x512 (constantI S_ 32 9#32)))
        (broadcastInDim S128x512 ![] bcast_S_S128x512 (constantI S_ 32 1065353216#32))))
        (broadcastInDim S128x512 ![] bcast_S_S128x512 (constant S_ .f32 0x3F800000#32)))
      (broadcastInDim S128x512 ![0, 1] bcast_S1x1_S128x512_0_1 (broadcastInDim S1x1 ![1] bcast_S1_S1x1_1 (subf hi lo))))
      (broadcastInDim S128x512 ![0, 1] bcast_S1x1_S128x512_0_1 (broadcastInDim S1x1 ![1] bcast_S1_S1x1_1 lo)))

variable (m : (ℓ : Loc nD τ sig) → Buf (Elt Ideal) ℓ) (ρ : Dev nD → PrngReg)

/-- The kernel's noise before region 1. -/
theorem W12_noise (c : Dev nD) : W12 m ρ c (Proc.devRef .tc main_v39) = gumbel (W11 m ρ c (Proc.devRef .tc main_v31)) := by
  unfold W12
  generalize W11 m ρ = V
  after_reads_simp
  rfl

/-- The temperature before region 1. -/
theorem W12_tau (c : Dev nD) : W12 m ρ c (Proc.devRef .tc main_v41)
    = broadcastInDim S1 ![] bcast_S_S1 (sitofp (F := Ideal) .f32 (W11 m ρ c (Proc.devRef .tc main_arg3))) := by
  unfold W12
  generalize W11 m ρ = V
  after_reads_simp

/-- The lower end of the uniform range, as the program spreads it. -/
theorem range_lo (V : Valuation τ sig (Elt Ideal)) : upto hostOps1_5 V 247 (Proc.devRef .tc main_call4_v2)
    = (broadcastInDim S1 ![] bcast_S_S1 (V (Proc.devRef .tc main_cst_6)) : FVec Ideal S1 .f32) := by
  after_reads_simp
  rfl

/-- The upper end of the uniform range, as the program spreads it. -/
theorem range_hi (V : Valuation τ sig (Elt Ideal)) : upto hostOps1_5 V 247 (Proc.devRef .tc main_call4_v3)
    = (broadcastInDim S1 ![] bcast_S_S1 (V (Proc.devRef .tc main_cst_7)) : FVec Ideal S1 .f32) := by
  after_reads_simp
  rfl

/-- The last operations scale the drawn words to the range. -/
theorem scaled_tail (U : Valuation τ sig (Elt Ideal)) : after (hostOps1_5.drop 247) U (Proc.devRef .tc main_v31)
    = scaled (U (Proc.devRef .tc main_call4_v20)) (U (Proc.devRef .tc main_call4_v2)) (U (Proc.devRef .tc main_call4_v3)) := by
  after_reads_simp
  simp only [TRef.ofBuf_toBuf]
  rfl

/-- The uniform numbers: some words, scaled to the range from 0 to 1. -/
theorem uniform_scaled (c : Dev nD) : ∃ w : IVec S128x512 32, W11 m ρ c (Proc.devRef .tc main_v31)
    = scaled w (broadcastInDim S1 ![] bcast_S_S1 (constant S_ .f32 0x00000000#32)) (broadcastInDim S1 ![] bcast_S_S1 (constant S_ .f32 0x3F800000#32)) := by
  refine ⟨upto hostOps1_5 (W10 m ρ c) 247 (Proc.devRef .tc main_call4_v20), ?_⟩
  have e : W11 m ρ c = after (hostOps1_5.drop 247) (upto hostOps1_5 (W10 m ρ c) 247) := by
    have := after_append (hostOps1_5.take 247) (hostOps1_5.drop 247) (W10 m ρ c)
    rw [List.take_append_drop] at this
    exact this
  rw [e, scaled_tail, range_lo, range_hi]
  have h6 : W10 m ρ c (Proc.devRef .tc main_cst_6) = (constant S_ .f32 0x00000000#32 : FVec Ideal S_ .f32) := by
    unfold W10
    after_reads_simp
  have h7 : W10 m ρ c (Proc.devRef .tc main_cst_7) = (constant S_ .f32 0x3F800000#32 : FVec Ideal S_ .f32) := by
    unfold W10
    after_reads_simp
  rw [h6, h7]

/-- The float whose fraction is a word's upper bits and whose exponent is zero lies from 1 up to 2. -/
theorem word_real (w : BitVec 32) : ∃ r : ℝ, 1 ≤ r ∧ r ≤ 2 - 2 ^ (-23 : ℤ) ∧ Ideal.ofBits .f32 ((w >>> 9) ||| 1065353216#32) = (r : EReal) := by
  have h1 : ((w >>> 9) ||| 1065353216#32).extractLsb' 31 1 = 0#1 := by
    apply BitVec.eq_of_getLsbD_eq
    intro i hi
    interval_cases i
    simp
  have h2 : ((w >>> 9) ||| 1065353216#32).extractLsb' 23 8 = 127#8 := by
    apply BitVec.eq_of_getLsbD_eq
    intro i hi
    interval_cases i <;> simp
  have h3 := (((w >>> 9) ||| 1065353216#32).extractLsb' 0 23).isLt
  generalize hf : (((w >>> 9) ||| 1065353216#32).extractLsb' 0 23).toNat = f at h3
  refine ⟨((2 : ℝ) ^ 23 + f) * 2 ^ (-23 : ℤ), ?_, ?_, ?_⟩
  · have : (0 : ℝ) ≤ f := Nat.cast_nonneg f
    norm_num
    linarith
  · have : (f : ℝ) ≤ 8388607 := by
      have : f ≤ 8388607 := by omega
      exact_mod_cast this
    norm_num
    linarith
  · show Ideal.ieee 8 23 _ = _
    unfold Ideal.ieee
    simp only [h1, h2, hf]
    norm_num

/-- The small number added before each logarithm. -/
theorem small_real : ∃ r : ℝ, 0 < r ∧ r < 2 ^ (-23 : ℤ) ∧ Ideal.ofBits .f32 0x3089705F#32 = (r : EReal) := by
  refine ⟨(9007199 : ℝ) * 2 ^ (-53 : ℤ), by norm_num, by norm_num, ?_⟩
  simp [Ideal.ofBits, Ideal.ieee]

/-- A scaled word lies from 0 up to 1. -/
theorem scaled_real (w : IVec S128x512 32) (i : S128x512.Idx) : ∃ r : ℝ, 0 ≤ r ∧ r ≤ 1 - 2 ^ (-23 : ℤ) ∧
    scaled w (broadcastInDim S1 ![] bcast_S_S1 (constant S_ .f32 0x00000000#32)) (broadcastInDim S1 ![] bcast_S_S1 (constant S_ .f32 0x3F800000#32)) i = (r : EReal) := by
  obtain ⟨r, h1, h2, h3⟩ := word_real (w i)
  refine ⟨r - 1, by linarith, by linarith, ?_⟩
  show max (Ideal.ofBits .f32 0#32) ((Ideal.ofBits .f32 (IntOp.shrui .host (w i) 9#32 ||| 1065353216#32) - Ideal.ofBits .f32 0x3F800000#32)
    * (Ideal.ofBits .f32 0x3F800000#32 - Ideal.ofBits .f32 0#32) + Ideal.ofBits .f32 0#32) = _
  have hs : IntOp.shrui .host (w i) 9#32 = w i >>> 9 := rfl
  rw [hs, h3, Cert.KernelIdeal.Val.ofBits_one, Ideal.ofBits_zero_f32, sub_zero, mul_one, add_zero]
  rw [max_eq_right]
  · rfl
  · have : (0 : ℝ) ≤ r - 1 := by linarith
    exact_mod_cast this

/-- The noise of a scaled word is a real number. -/
theorem gumbel_real (u : FVec Ideal S128x512 .f32) (i : S128x512.Idx) (h : ∃ r : ℝ, 0 ≤ r ∧ r ≤ 1 - 2 ^ (-23 : ℤ) ∧ u i = (r : EReal)) :
    ∃ r : ℝ, gumbel u i = (r : EReal) := by
  obtain ⟨r, h1, h2, h3⟩ := h
  obtain ⟨s, s1, s2, s3⟩ := small_real
  have l1 : ∀ x : ℝ, 0 < x → Ideal.log (x : EReal) = ((Real.log x : ℝ) : EReal) := fun x hx => if_neg (not_le.mpr hx)
  have hp : 0 < r + s := by linarith
  have hq : Real.log (r + s) < 0 := Real.log_neg hp (by linarith)
  refine ⟨-Real.log (-Real.log (r + s) + s), ?_⟩
  show -(Ideal.log (-(Ideal.log (u i + Ideal.ofBits .f32 0x3089705F#32)) + Ideal.ofBits .f32 0x3089705F#32)) = _
  rw [h3, s3, ← EReal.coe_add, l1 _ hp, ← EReal.coe_neg, ← EReal.coe_add, l1 _ (by linarith), ← EReal.coe_neg]

/-- The kernel's noise is real everywhere. -/
theorem W12_noise_real (c : Dev nD) (i : S128x512.Idx) : ∃ r : ℝ, W12 m ρ c (Proc.devRef .tc main_v39) i = (r : EReal) := by
  obtain ⟨w, hw⟩ := uniform_scaled m ρ c
  rw [W12_noise, hw]
  exact gumbel_real _ i (scaled_real w i)

end Pure

/-- The uniform numbers of the two programs are the same. -/
theorem uniform_eq (V : Valuation Cert.KernelIdeal.τ Cert.KernelIdeal.sig (Elt Ideal)) (V' : Valuation Cert.ReferenceIdeal.τ Cert.ReferenceIdeal.sig (Elt Ideal)) :
    after (Cert.KernelIdeal.Gen.hostOps1_5 (F := Ideal)) (after Cert.KernelIdeal.Gen.hostOps1_4 (after Cert.KernelIdeal.Gen.hostOps1_3
      (after Cert.KernelIdeal.Gen.hostOps1_2 V))) (Proc.devRef .tc Cert.KernelIdeal.main_v31)
    = (after (Cert.ReferenceIdeal.Gen.hostOps0_6 (F := Ideal)) (after Cert.ReferenceIdeal.Gen.hostOps0_5 (after Cert.ReferenceIdeal.Gen.hostOps0_4
      (after Cert.ReferenceIdeal.Gen.hostOps0_3 V'))) (Proc.devRef .tc Cert.ReferenceIdeal.main_v22) : FVec Ideal Cert.KernelIdeal.S128x512 .f32) := by
  have h0 : Agrees 62 35 62 V V' := fun i r r' h1 h2 => by omega
  have h := steps_uniform _ _ (steps_range _ _ (steps_fold _ _ (steps_key _ _ h0)))
  exact eq_of_heq (h _ Cert.KernelIdeal.main_v31 Cert.ReferenceIdeal.main_v22 (by decide) (by decide) ⟨rfl, rfl⟩ rfl rfl)

section Reference
open Cert.ReferenceIdeal Cert.ReferenceIdeal.Gen Cert.ReferenceIdeal.Val Cert.ReferenceIdeal.Value

variable (m : (ℓ : Loc nD τ sig) → Buf (Elt Ideal) ℓ)

/-- The stretches up to the uniform numbers. -/
abbrev atUniform (c : Dev nD) : Valuation τ sig (Elt Ideal) := after hostOps0_6 (after hostOps0_5 (after hostOps0_4 (atNorms m c)))

/-- The reference's noise at the loop's entry. -/
theorem entry_noise (c : Dev nD) : entryContents preI m c (Proc.devRef .tc main_v38_1) = gumbel (atUniform m c (Proc.devRef .tc main_v22)) := by
  show after hostOps0_7 (atUniform m c) (Proc.devRef .tc main_v38_1) = _
  generalize atUniform m c = V
  after_reads_simp
  rfl

end Reference

/-- The two programs add the same noise. -/
theorem noise_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (c' : Dev Cert.ReferenceIdeal.nD) :
    entryContents Cert.ReferenceIdeal.Value.preI m' c' (Proc.devRef .tc Cert.ReferenceIdeal.main_v38_1)
    = (Cert.KernelIdeal.Gen.W12 m ρ c (Proc.devRef .tc Cert.KernelIdeal.main_v39) : FVec Ideal Cert.KernelIdeal.S128x512 .f32) := by
  refine (entry_noise m' c').trans ((congrArg gumbel ?_).trans (W12_noise m ρ c).symm)
  exact (uniform_eq _ _).symm

end Cert.Proof.Noise
-- ==== Proof.RowOps.lean ====
module

public import proofs.«01_k».proof.Proof.Norms
public import Idealize.ShloMosaic.Lib.Routing.OpsOne
public import Idealize.ShloMosaic.Lib.WordCmp

@[expose] public section

set_option maxRecDepth 16384

noncomputable section

/-! Host operations on rows read at an index: a row sliced off, a row written, one entry set, rows gathered, and
the wrap of a negative index. -/

namespace Cert.Proof.RowOps

open Idealize.ShloMosaic Idealize.ShloMosaic.ValueIdx Idealize.ShloMosaic.Routing Idealize.ShloMosaic.WordCmp

variable {α : Type}

/-- One row sliced off a matrix. -/
theorem slice_row {A N : ℕ} (x : (⟨2, ![A, N]⟩ : Shape).Idx → α) (start : Fin 2 → ℤ) (h : (⟨2, ![A, N]⟩ : Shape).Slices (fun _ => 0) ⟨2, ![1, N]⟩)
    (k : Fin A) (h0 : start 0 = (k.val : ℤ)) (h1 : start 1 = 0) (i : Fin N) :
    Host.dynamicSlice ⟨2, ![1, N]⟩ x start h (ix2 0 i) = x (ix2 k i) := by
  have hk := k.isLt
  rw [dynamicSlice_eq_extract (s := ⟨2, ![A, N]⟩) ⟨2, ![1, N]⟩ x start h ![k.val, 0] ⟨rfl, fun a => match a with
    | ⟨0, _⟩ => hk
    | ⟨1, _⟩ => by show 0 + N ≤ N; omega⟩ (fun a => match a with
    | ⟨0, _⟩ => h0
    | ⟨1, _⟩ => h1)]
  refine congrArg x (funext fun a => Fin.ext ?_)
  match a with
  | ⟨0, _⟩ => rfl
  | ⟨1, _⟩ => show 0 + i.val = i.val; omega

/-- One entry sliced off a vector. -/
theorem slice_entry {N : ℕ} (x : (⟨1, ![N]⟩ : Shape).Idx → α) (start : Fin 1 → ℤ) (h : (⟨1, ![N]⟩ : Shape).Slices (fun _ => 0) ⟨1, ![1]⟩)
    (k : Fin N) (h0 : start 0 = (k.val : ℤ)) :
    Host.dynamicSlice ⟨1, ![1]⟩ x start h (ix1 0) = x (ix1 k) := by
  have hk := k.isLt
  rw [dynamicSlice_eq_extract (s := ⟨1, ![N]⟩) ⟨1, ![1]⟩ x start h ![k.val] ⟨rfl, fun a => match a with
    | ⟨0, _⟩ => hk⟩ (fun a => match a with
    | ⟨0, _⟩ => h0)]
  refine congrArg x (funext fun a => Fin.ext ?_)
  match a with
  | ⟨0, _⟩ => rfl

/-- One entry written into a vector. -/
theorem update_entry {A : ℕ} (x : (⟨1, ![A]⟩ : Shape).Idx → α) (upd : (⟨1, ![1]⟩ : Shape).Idx → α) (start : Fin 1 → ℤ)
    (h : (⟨1, ![A]⟩ : Shape).Slices (fun _ => 0) ⟨1, ![1]⟩) (k : Fin A) (h0 : start 0 = (k.val : ℤ)) (a : Fin A) :
    Host.dynamicUpdateSlice x upd start h (ix1 a) = if a = k then upd (ix1 0) else x (ix1 a) := by
  have hk := k.isLt
  rw [dynamicUpdateSlice_eq_update (s := ⟨1, ![A]⟩) x upd start h ![k.val] ⟨rfl, fun a => match a with
    | ⟨0, _⟩ => hk⟩ (fun a => match a with
    | ⟨0, _⟩ => h0)]
  unfold updateSlice
  by_cases e : a = k
  · subst e
    rw [if_pos rfl, dif_pos (fun b => match b with
      | ⟨0, _⟩ => ⟨Nat.le_refl _, by show a.val < a.val + 1; omega⟩)]
    refine congrArg upd (funext fun b => Fin.ext ?_)
    match b with
    | ⟨0, _⟩ => show a.val - a.val = 0; omega
  · rw [if_neg e, dif_neg]
    intro hh
    have := hh 0
    change k.val ≤ a.val ∧ a.val < k.val + 1 at this
    exact e (Fin.ext (by omega))

/-- One row written into a matrix. -/
theorem update_row {A N : ℕ} (x : (⟨2, ![A, N]⟩ : Shape).Idx → α) (upd : (⟨2, ![1, N]⟩ : Shape).Idx → α) (start : Fin 2 → ℤ)
    (h : (⟨2, ![A, N]⟩ : Shape).Slices (fun _ => 0) ⟨2, ![1, N]⟩) (k : Fin A) (h0 : start 0 = (k.val : ℤ)) (h1 : start 1 = 0) (a : Fin A) (i : Fin N) :
    Host.dynamicUpdateSlice x upd start h (ix2 a i) = if a = k then upd (ix2 0 i) else x (ix2 a i) := by
  have hk := k.isLt
  have hi := i.isLt
  rw [dynamicUpdateSlice_eq_update (s := ⟨2, ![A, N]⟩) x upd start h ![k.val, 0] ⟨rfl, fun a => match a with
    | ⟨0, _⟩ => hk
    | ⟨1, _⟩ => by show 0 + N ≤ N; omega⟩ (fun a => match a with
    | ⟨0, _⟩ => h0
    | ⟨1, _⟩ => h1)]
  unfold updateSlice
  by_cases e : a = k
  · subst e
    rw [if_pos rfl, dif_pos (fun b => match b with
      | ⟨0, _⟩ => ⟨Nat.le_refl _, by show a.val < a.val + 1; omega⟩
      | ⟨1, _⟩ => ⟨Nat.zero_le _, by show i.val < 0 + N; omega⟩)]
    refine congrArg upd (funext fun b => Fin.ext ?_)
    match b with
    | ⟨0, _⟩ => show a.val - a.val = 0; omega
    | ⟨1, _⟩ => show i.val - 0 = i.val; omega
  · rw [if_neg e, dif_neg]
    intro hh
    have := hh 0
    change k.val ≤ a.val ∧ a.val < k.val + 1 at this
    exact e (Fin.ext (by omega))

/-- One plane written into a stack of matrices. -/
theorem update_plane {A M N : ℕ} (x : (⟨3, ![A, M, N]⟩ : Shape).Idx → α) (upd : (⟨3, ![1, M, N]⟩ : Shape).Idx → α) (start : Fin 3 → ℤ)
    (h : (⟨3, ![A, M, N]⟩ : Shape).Slices (fun _ => 0) ⟨3, ![1, M, N]⟩) (k : Fin A) (h0 : start 0 = (k.val : ℤ)) (h1 : start 1 = 0) (h2 : start 2 = 0)
    (a : Fin A) (j : Fin M) (i : Fin N) :
    Host.dynamicUpdateSlice x upd start h (ix3 a j i) = if a = k then upd (ix3 0 j i) else x (ix3 a j i) := by
  have hk := k.isLt
  have hi := i.isLt
  have hj := j.isLt
  rw [dynamicUpdateSlice_eq_update (s := ⟨3, ![A, M, N]⟩) x upd start h ![k.val, 0, 0] ⟨rfl, fun a => match a with
    | ⟨0, _⟩ => hk
    | ⟨1, _⟩ => by show 0 + M ≤ M; omega
    | ⟨2, _⟩ => by show 0 + N ≤ N; omega⟩ (fun a => match a with
    | ⟨0, _⟩ => h0
    | ⟨1, _⟩ => h1
    | ⟨2, _⟩ => h2)]
  unfold updateSlice
  by_cases e : a = k
  · subst e
    rw [if_pos rfl, dif_pos (fun b => match b with
      | ⟨0, _⟩ => ⟨Nat.le_refl _, by show a.val < a.val + 1; omega⟩
      | ⟨1, _⟩ => ⟨Nat.zero_le _, by show j.val < 0 + M; omega⟩
      | ⟨2, _⟩ => ⟨Nat.zero_le _, by show i.val < 0 + N; omega⟩)]
    refine congrArg upd (funext fun b => Fin.ext ?_)
    match b with
    | ⟨0, _⟩ => show a.val - a.val = 0; omega
    | ⟨1, _⟩ => show j.val - 0 = j.val; omega
    | ⟨2, _⟩ => show i.val - 0 = i.val; omega
  · rw [if_neg e, dif_neg]
    intro hh
    have := hh 0
    change k.val ≤ a.val ∧ a.val < k.val + 1 at this
    exact e (Fin.ext (by omega))

/-- One entry of a vector set by a scatter of one update. -/
theorem set_entry {N : ℕ} (d : ScatterDims (shape1 N) (shape1 1) shape0) (hiw : d.insertedWindowDims = [0])
    (hsd : d.scatterDimsToOperandDims = [0]) (x : (shape1 N).Idx → α) (idx : IVec (shape1 1) 32) (upd : shape0.Idx → α)
    (k : Fin N) (hidx : (idx (ix1 0)).toInt = (k.val : ℤ)) (e : Fin N) :
    Host.scatter d (fun _ b => b) x idx upd (ix1 e) = if e = k then upd ix0 else x (ix1 e) := by
  by_cases h : e = k
  · rw [if_pos h]
    exact scatter_set_hit d x idx upd _ _ (fun j _ => congrArg upd (eq_ix0 j)) ix0 ((lands_one d hiw hsd idx k hidx e).2 h)
  · rw [if_neg h]
    exact scatter_set_miss d x idx upd _ fun j hj => h ((lands_one d hiw hsd idx k hidx e).1 (by rw [← eq_ix0 j]; exact hj))

/-- A word that is a small number reads as the number. -/
theorem toInt_small {n : ℕ} (h : n < 2147483648) : (BitVec.ofNat 32 n).toInt = (n : ℤ) := by
  rw [BitVec.toInt_eq_toNat_of_lt (by rw [BitVec.toNat_ofNat]; omega), BitVec.toNat_ofNat]
  omega

/-- The wrap of a negative index leaves a small number. -/
theorem wrap_small {n : ℕ} (h : n < 2147483648) (y : BitVec 32) :
    Scalar.select (IntOp.cmpi .slt (BitVec.ofNat 32 n) 0#32) y (BitVec.ofNat 32 n) = BitVec.ofNat 32 n := by
  show Scalar.select (BitVec.ofBool ((BitVec.ofNat 32 n).slt 0#32)) _ _ = _
  rw [BitVec.slt_eq_decide, toInt_small h, decide_eq_false (by show ¬ ((n : ℤ) < 0); omega)]
  exact if_neg (by decide)

/-- The dimension numbers of a gather of planes by their numbers. -/
def planeDims (A M N n : ℕ)
    (wf : GatherDims.WF ⟨3, ![A, M, N]⟩ ⟨2, ![n, 1]⟩ ⟨3, ![n, M, N]⟩ [1, 2] [0] [] [0] [] 1 ![1, M, N]) :
    GatherDims ⟨3, ![A, M, N]⟩ ⟨2, ![n, 1]⟩ ⟨3, ![n, M, N]⟩ where
  offsetDims := [1, 2]
  collapsedSliceDims := [0]
  operandBatchingDims := []
  startIndicesBatchingDims := []
  startIndexMap := [0]
  indexVectorDim := 1
  sliceSizes := ![1, M, N]
  wf := wf

/-- A gather of planes by their numbers, at a number in range. -/
theorem gather_plane {A M N n : ℕ} (hA : A < 2147483648)
    (wf : GatherDims.WF ⟨3, ![A, M, N]⟩ ⟨2, ![n, 1]⟩ ⟨3, ![n, M, N]⟩ [1, 2] [0] [] [0] [] 1 ![1, M, N])
    (x : (⟨3, ![A, M, N]⟩ : Shape).Idx → α) (idx : IVec ⟨2, ![n, 1]⟩ 32) (s : Fin n) (a : Fin A) (j : Fin M) (i : Fin N)
    (h : idx (ix2 s 0) = BitVec.ofNat 32 a.val) :
    Host.gather (planeDims A M N n wf) x idx (ix3 s j i) = x (ix3 a j i) := by
  have ha := a.isLt
  refine congrArg x (funext fun d => Fin.ext ?_)
  have hb : ∀ d : Fin 3, d ∉ (planeDims A M N n wf).operandBatchingDims := fun d => List.not_mem_nil
  match d with
  | ⟨0, _⟩ =>
    show GatherDims.start _ _ _ 0 + GatherDims.batchCoord _ _ 0 + GatherDims.offCoord _ _ 0 = a.val
    rw [GatherDims.batchCoord_eq_zero _ _ _ (hb 0), GatherDims.offCoord_eq_zero _ _ _ (fun h => ((GatherDims.mem_sKept _ _).1 h).1 (List.mem_singleton.2 rfl))]
    unfold GatherDims.start
    rw [dif_pos (show (0 : Fin 3) ∈ (planeDims A M N n wf).startIndexMap from List.mem_singleton.2 rfl)]
    have hi : (planeDims A M N n wf).siIdx (ix3 s j i)
        ⟨List.idxOf (0 : Fin 3) (planeDims A M N n wf).startIndexMap, List.idxOf_lt_length_iff.2 (List.mem_singleton.2 rfl)⟩ = ix2 s 0 := by
      funext b
      apply Fin.ext
      match b with
      | ⟨0, _⟩ => rfl
      | ⟨1, _⟩ => rfl
    rw [hi, h, toInt_small (by omega)]
    show min (a.val : ℤ).toNat (A - 1) = a.val
    omega
  | ⟨1, _⟩ =>
    show GatherDims.start _ _ _ 1 + GatherDims.batchCoord _ _ 1 + GatherDims.offCoord _ _ 1 = j.val
    rw [GatherDims.batchCoord_eq_zero _ _ _ (hb 1)]
    unfold GatherDims.start
    rw [dif_neg (show (1 : Fin 3) ∉ (planeDims A M N n wf).startIndexMap from fun h => Nat.one_ne_zero (congrArg Fin.val (List.mem_singleton.1 h)))]
    refine (Nat.zero_add _).trans ?_
    unfold GatherDims.offCoord
    rw [dif_pos ((GatherDims.mem_sKept _ _).2 ⟨fun h => Nat.one_ne_zero (congrArg Fin.val (List.mem_singleton.1 h)), hb 1⟩)]
    rfl
  | ⟨2, _⟩ =>
    show GatherDims.start _ _ _ 2 + GatherDims.batchCoord _ _ 2 + GatherDims.offCoord _ _ 2 = i.val
    rw [GatherDims.batchCoord_eq_zero _ _ _ (hb 2)]
    unfold GatherDims.start
    rw [dif_neg (show (2 : Fin 3) ∉ (planeDims A M N n wf).startIndexMap from fun h => Nat.succ_ne_zero 1 (congrArg Fin.val (List.mem_singleton.1 h)))]
    refine (Nat.zero_add _).trans ?_
    unfold GatherDims.offCoord
    rw [dif_pos ((GatherDims.mem_sKept _ _).2 ⟨fun h => Nat.succ_ne_zero 1 (congrArg Fin.val (List.mem_singleton.1 h)), hb 2⟩)]
    rfl

end Cert.Proof.RowOps
-- ==== Proof.Spread.lean ====
module

public import proofs.«01_k».proof.Proof.RowOps
public import Idealize.ShloMosaic.Lib.Routing.OpsPair
public import Idealize.ShloMosaic.Lib.Pipeline.Value

@[expose] public section

set_option maxRecDepth 16384

noncomputable section

/-! Scattering values to the cells of a matrix named by (row, column) pairs, and the pairs themselves. -/

namespace Cert.Proof.RowOps

open Idealize.ShloMosaic Idealize.ShloMosaic.ValueIdx Idealize.ShloMosaic.Routing Idealize.ShloMosaic.WordCmp

variable {α : Type}

/-- Each row's number. -/
abbrev rowWords (A B : ℕ) : IVec ⟨2, ![A, B]⟩ 32 := fun j => BitVec.ofNat 32 (j 0).val

/-- The first word of a pair. -/
theorem pair_left {A B : ℕ} (v w : (⟨3, ![A, B, 1]⟩ : Shape).Idx → α)
    (h : Shape.Concatenates [⟨3, ![A, B, 1]⟩, ⟨3, ![A, B, 1]⟩] ⟨3, ![A, B, 2]⟩ 2) (a : Fin A) (b : Fin B) :
    concatenate ⟨3, ![A, B, 2]⟩ 2 [⟨⟨3, ![A, B, 1]⟩, v⟩, ⟨⟨3, ![A, B, 1]⟩, w⟩] h (ix3 a b 0) = v (ix3 a b 0) :=
  concatenate_pair_apply_left (t := ⟨3, ![A, B, 2]⟩) (s₁ := ⟨3, ![A, B, 1]⟩) (s₂ := ⟨3, ![A, B, 1]⟩) 2 v w h (ix3 a b 0) rfl (ix3 a b 0)
    fun q => match q with
      | ⟨0, _⟩ => rfl
      | ⟨1, _⟩ => rfl
      | ⟨2, _⟩ => rfl

/-- The second word of a pair. -/
theorem pair_right {A B : ℕ} (v w : (⟨3, ![A, B, 1]⟩ : Shape).Idx → α)
    (h : Shape.Concatenates [⟨3, ![A, B, 1]⟩, ⟨3, ![A, B, 1]⟩] ⟨3, ![A, B, 2]⟩ 2) (a : Fin A) (b : Fin B) :
    concatenate ⟨3, ![A, B, 2]⟩ 2 [⟨⟨3, ![A, B, 1]⟩, v⟩, ⟨⟨3, ![A, B, 1]⟩, w⟩] h (ix3 a b 1) = w (ix3 a b 0) :=
  concatenate_pair_apply_right (t := ⟨3, ![A, B, 2]⟩) (s₁ := ⟨3, ![A, B, 1]⟩) (s₂ := ⟨3, ![A, B, 1]⟩) 2 v w h (ix3 a b 1) rfl rfl (ix3 a b 0)
    (fun q => match q with
      | ⟨0, _⟩ => fun _ => rfl
      | ⟨1, _⟩ => fun _ => rfl
      | ⟨2, _⟩ => fun hq => absurd rfl hq) rfl

/-- The first word of a pair in a list of pairs. -/
theorem two_left {A : ℕ} (v w : (⟨2, ![A, 1]⟩ : Shape).Idx → α)
    (h : Shape.Concatenates [⟨2, ![A, 1]⟩, ⟨2, ![A, 1]⟩] ⟨2, ![A, 2]⟩ 1) (a : Fin A) :
    concatenate ⟨2, ![A, 2]⟩ 1 [⟨⟨2, ![A, 1]⟩, v⟩, ⟨⟨2, ![A, 1]⟩, w⟩] h (ix2 a 0) = v (ix2 a 0) :=
  concatenate_pair_apply_left (t := ⟨2, ![A, 2]⟩) (s₁ := ⟨2, ![A, 1]⟩) (s₂ := ⟨2, ![A, 1]⟩) 1 v w h (ix2 a 0) rfl (ix2 a 0)
    fun q => match q with
      | ⟨0, _⟩ => rfl
      | ⟨1, _⟩ => rfl

/-- The second word of a pair in a list of pairs. -/
theorem two_right {A : ℕ} (v w : (⟨2, ![A, 1]⟩ : Shape).Idx → α)
    (h : Shape.Concatenates [⟨2, ![A, 1]⟩, ⟨2, ![A, 1]⟩] ⟨2, ![A, 2]⟩ 1) (a : Fin A) :
    concatenate ⟨2, ![A, 2]⟩ 1 [⟨⟨2, ![A, 1]⟩, v⟩, ⟨⟨2, ![A, 1]⟩, w⟩] h (ix2 a 1) = w (ix2 a 0) :=
  concatenate_pair_apply_right (t := ⟨2, ![A, 2]⟩) (s₁ := ⟨2, ![A, 1]⟩) (s₂ := ⟨2, ![A, 1]⟩) 1 v w h (ix2 a 1) rfl rfl (ix2 a 0)
    (fun q => match q with
      | ⟨0, _⟩ => fun _ => rfl
      | ⟨1, _⟩ => fun hq => absurd rfl hq) rfl

section Rows
variable {R C B : ℕ} (hR : R < 2147483648) (hC : C < 2147483648) (d : ScatterDims (shape2 R C) (shape3 R B 2) (shape2 R B))
  (hiw : d.insertedWindowDims = [0, 1]) (hsd : d.scatterDimsToOperandDims = [0, 1]) (hivd : d.indexVectorDim = 2)
  (x : (shape2 R C).Idx → α) (idx : IVec (shape3 R B 2) 32) (upd : (shape2 R B).Idx → α) (p : Fin R → Fin B → Fin C)
  (h0 : ∀ a b, idx (ix3 a b 0) = BitVec.ofNat 32 a.val) (h1 : ∀ a b, idx (ix3 a b 1) = BitVec.ofNat 32 (p a b).val)

include hR hC hiw hsd hivd h0 h1

/-- An update lands in its own row, at the column its word names. -/
theorem rows_lands (a : Fin R) (b : Fin B) (r : Fin R) (c : Fin C) : d.resultIdx? (ix2 a b) idx = some (ix2 r c) ↔ a = r ∧ p a b = c := by
  rw [scatter_lands2 d hiw hsd hivd, h0, h1, toInt_small (by have := a.isLt; omega), toInt_small (by have := (p a b).isLt; omega), Fin.ext_iff, Fin.ext_iff]
  omega

/-- A row scattered to distinct columns: at a column named, the value sent there. -/
theorem rows_hit (hp : ∀ a, Function.Injective (p a)) (a : Fin R) (b : Fin B) :
    Host.scatter d (fun _ y => y) x idx upd (ix2 a (p a b)) = upd (ix2 a b) := by
  refine scatter_set_hit d x idx upd _ _ (fun k hk => ?_) (ix2 a b) ((rows_lands hR hC d hiw hsd hivd idx p h0 h1 a b a (p a b)).2 ⟨rfl, rfl⟩)
  rw [eq_ix2 (n0 := R) (n1 := B) k] at hk ⊢
  generalize k 0 = a', k 1 = b' at hk ⊢
  obtain ⟨rfl, e⟩ := (rows_lands hR hC d hiw hsd hivd idx p h0 h1 a' b' a (p a b)).1 hk
  rw [hp _ e]
  rfl

/-- At a column not named, what was there. -/
theorem rows_miss (a : Fin R) (c : Fin C) (hn : ∀ b, p a b ≠ c) : Host.scatter d (fun _ y => y) x idx upd (ix2 a c) = x (ix2 a c) := by
  refine scatter_set_miss d x idx upd _ fun k hk => ?_
  rw [eq_ix2 (n0 := R) (n1 := B) k] at hk
  generalize k 0 = a', k 1 = b' at hk
  obtain ⟨rfl, e⟩ := (rows_lands hR hC d hiw hsd hivd idx p h0 h1 a' b' a c).1 hk
  exact hn _ e

end Rows

/-- The dimension numbers of a scatter of single values to cells. -/
def cellDims (R C : ℕ) (wf : ScatterDims.WF ⟨2, ![R, C]⟩ ⟨2, ![R, 2]⟩ ⟨1, ![R]⟩ [] [0, 1] [0, 1] 1) :
    ScatterDims ⟨2, ![R, C]⟩ ⟨2, ![R, 2]⟩ ⟨1, ![R]⟩ where
  updateWindowDims := []
  insertedWindowDims := [0, 1]
  scatterDimsToOperandDims := [0, 1]
  indexVectorDim := 1
  wf := wf

section Cells
variable {R C : ℕ} (hR : R < 2147483648) (hC : C < 2147483648) (wf : ScatterDims.WF ⟨2, ![R, C]⟩ ⟨2, ![R, 2]⟩ ⟨1, ![R]⟩ [] [0, 1] [0, 1] 1)
  (x : (shape2 R C).Idx → α) (idx : IVec (shape2 R 2) 32) (upd : (shape1 R).Idx → α) (p : Fin R → Fin C)
  (h0 : ∀ a, idx (ix2 a 0) = BitVec.ofNat 32 a.val) (h1 : ∀ a, idx (ix2 a 1) = BitVec.ofNat 32 (p a).val)

/-- Where a value's scatter starts. -/
theorem cells_start (a : Fin R) (q : Fin 2) : (cellDims R C wf).start (ix1 a) idx q = (idx (ix2 a q)).toInt := by
  have hm : q ∈ (cellDims R C wf).scatterDimsToOperandDims := by
    show q ∈ ([0, 1] : List (Fin 2))
    fin_cases q <;> simp
  unfold ScatterDims.start
  rw [dif_pos hm]
  refine congrArg (fun i => (idx i).toInt) (funext fun b => Fin.ext ?_)
  match b with
  | ⟨0, _⟩ => rfl
  | ⟨1, _⟩ =>
    show ([0, 1] : List (Fin 2)).idxOf q = q.val
    fin_cases q <;> rfl

/-- A single value has no window. -/
theorem cells_window (a : Fin R) (q : Fin 2) : (cellDims R C wf).window (ix1 a) q = 0 := by
  unfold ScatterDims.window
  refine dif_neg fun h => (of_decide_eq_true (List.mem_filter.1 h).2) ?_
  show q ∈ ([0, 1] : List (Fin 2))
  fin_cases q <;> simp

include hR hC h0 h1

/-- One value a row, at the column its word names. -/
theorem cells_eq (a : Fin R) (c : Fin C) :
    Host.scatter (cellDims R C wf) (fun _ y => y) x idx upd (ix2 a c) = if c = p a then upd (ix1 a) else x (ix2 a c) := by
  have hl : ∀ (a' : Fin R) (r : Fin R) (c : Fin C), (cellDims R C wf).resultIdx? (ix1 a') idx = some (ix2 r c) ↔ a' = r ∧ p a' = c := by
    intro a' r c
    rw [resultIdx?_ix2, cells_start, cells_start, cells_window, cells_window, h0, h1, toInt_small (by have := a'.isLt; omega),
      toInt_small (by have := (p a').isLt; omega), Fin.ext_iff, Fin.ext_iff]
    omega
  by_cases h : c = p a
  · rw [if_pos h]
    refine scatter_set_hit _ x idx upd _ _ (fun k hk => ?_) (ix1 a) ((hl a a c).2 ⟨rfl, h.symm⟩)
    rw [eq_ix1 (n := R) k] at hk ⊢
    generalize k 0 = a' at hk ⊢
    rw [((hl a' a c).1 hk).1]
    rfl
  · rw [if_neg h]
    refine scatter_set_miss _ x idx upd _ fun k hk => ?_
    rw [eq_ix1 (n := R) k] at hk
    generalize k 0 = a' at hk
    obtain ⟨rfl, e⟩ := (hl a' a c).1 hk
    exact h e.symm

end Cells

end Cert.Proof.RowOps
-- ==== Proof.KernelFinal.lean ====
module

public import proofs.«01_k».proof.Proof.SelectStep
public import proofs.«01_k».proof.Proof.SelectArr
public import proofs.«01_k».proof.Proof.Candidates
public import proofs.«01_k».proof.Proof.Bounds
public import proofs.«01_k».proof.Proof.NoiseValue
public import proofs.«01_k».proof.Proof.Spread

@[expose] public section

set_option maxRecDepth 16384

noncomputable section

/-! What the kernel's select region leaves, and what the host operations after it make of that. -/

namespace Cert.KernelIdeal.Val

open Idealize.ShloMosaic Idealize.ShloMosaic.TcCoe Idealize.SL.Sem
open Idealize.ShloMosaic.StableHlo
open Idealize.ShloMosaic.ValueIdx
open Cert.KernelIdeal Cert.KernelIdeal.Gen
open Cert.Proof.Rank Cert.Proof.RowOps

/-- The masking value. -/
abbrev low : EReal := Ideal.ofBits .f32 0xCE6E6B28#32

section Tail

/-- Row numbers, a negative one wrapped. -/
def rowNumbers : IVec S128x640 32 :=
  select (cmpi .slt (broadcastInDim S128x640 ![0, 1] bcast_S128x1_S128x640_0_1 (broadcastInDim S128x1 ![0] bcast_S128_S128x1_0 (iotaInDim S128 32 0)))
      (broadcastInDim S128x640 ![] bcast_S_S128x640 (constantI S_ 32 0#32)))
    (addi (broadcastInDim S128x640 ![0, 1] bcast_S128x1_S128x640_0_1 (broadcastInDim S128x1 ![0] bcast_S128_S128x1_0 (iotaInDim S128 32 0)))
      (broadcastInDim S128x640 ![] bcast_S_S128x640 (constantI S_ 32 128#32)))
    (broadcastInDim S128x640 ![0, 1] bcast_S128x1_S128x640_0_1 (broadcastInDim S128x1 ![0] bcast_S128_S128x1_0 (iotaInDim S128 32 0)))

/-- Column numbers, a negative one wrapped. -/
def colNumbers (x : IVec S128x640 32) : IVec S128x640 32 :=
  select (cmpi .slt x (broadcastInDim S128x640 ![] bcast_S_S128x640 (constantI S_ 32 0#32)))
    (addi x (broadcastInDim S128x640 ![] bcast_S_S128x640 (constantI S_ 32 32768#32))) x

/-- A matrix of zeros with values scattered along its rows. -/
def spreadRows (x : IVec S128x640 32) (u : FVec Ideal S128x640 .f32) : FVec Ideal S128x32768 .f32 :=
  Host.scatter scatter_S128x32768_S128x640x2_S128x640_n_01_01_2 (fun _ b => b)
    (broadcastInDim S128x32768 ![] bcast_S_S128x32768 (constant S_ .f32 0x00000000#32))
    (concatenate S128x640x2 2 [⟨S128x640x1, broadcastInDim S128x640x1 ![0, 1] bcast_S128x640_S128x640x1_0_1 rowNumbers⟩,
      ⟨S128x640x1, broadcastInDim S128x640x1 ![0, 1] bcast_S128x640_S128x640x1_0_1 (colNumbers x)⟩] concatenates_S128x640x1_S128x640x1_S128x640x2_d2) u

/-- A number a slot, a negative one wrapped by `n`. -/
def wrapped (n : BitVec 32) (x : IVec S128 32) : IVec S128 32 :=
  select (cmpi .slt x (broadcastInDim S128 ![] bcast_S_S128 (constantI S_ 32 0#32))) (addi x (broadcastInDim S128 ![] bcast_S_S128 (constantI S_ 32 n))) x

/-- A matrix of zeros with a one in each row. -/
def spreadOnes (x : IVec S128 32) : FVec Ideal S128x32768 .f32 :=
  Host.scatter scatter_S128x32768_S128x2_S128_n_01_01_1 (fun _ b => b)
    (broadcastInDim S128x32768 ![] bcast_S_S128x32768 (constant S_ .f32 0x00000000#32))
    (concatenate S128x2 1 [⟨S128x1, broadcastInDim S128x1 ![0] bcast_S128_S128x1_0 (wrapped 128#32 (iotaInDim S128 32 0))⟩,
      ⟨S128x1, broadcastInDim S128x1 ![0] bcast_S128_S128x1_0 (wrapped 32768#32 x)⟩] concatenates_S128x1_S128x1_S128x2_d1)
    (broadcastInDim S128 ![] bcast_S_S128 (constant S_ .f32 0x3F800000#32))

/-- The memory rows the slots chose. -/
def memoryOf (y : FVec Ideal S32768x8x256 .f32) (x : IVec S128 32) : FVec Ideal S128x8x256 .f32 :=
  Host.gather gather_S32768x8x256_S128x1_S128x8x256_12_0_n_n_0_1_18256 y (broadcastInDim S128x1 ![0] bcast_S128_S128x1_0 (wrapped 32768#32 x))

/-- The indices as a vector. -/
def indexVec (x : IVec S1x128 32) : IVec S128 32 := shapeCast S128 x shapeCasts_S1x128_S128

variable (V : Valuation τ sig (Elt Ideal))

/-- The indices returned are those the selection kernel wrote. -/
theorem tail_43 : after hostOps2 V (Proc.devRef .tc main_v43) = indexVec (V (Proc.devRef .tc main_v42_1)) := by
  after_reads_simp
  rfl

/-- The probabilities returned are the selection kernel's, spread over the rows. -/
theorem tail_61 : after hostOps2 V (Proc.devRef .tc main_v61) = spreadRows (V (Proc.devRef .tc main_v20)) (V (Proc.devRef .tc main_v42_0)) := by
  after_reads_simp
  rfl

/-- The one-hot weights returned are spread from the selected indices. -/
theorem tail_78 : after hostOps2 V (Proc.devRef .tc main_v78) = spreadOnes (indexVec (V (Proc.devRef .tc main_v42_1))) := by
  after_reads_simp
  rfl

/-- The memory returned is gathered at the selected indices. -/
theorem tail_85 : after hostOps2 V (Proc.devRef .tc main_v85) = memoryOf (V (Proc.devRef .tc main_arg1)) (indexVec (V (Proc.devRef .tc main_v42_1))) := by
  after_reads_simp
  rfl

/-- The index row as a vector, read at a slot. -/
theorem indexVec_apply (x : IVec S1x128 32) (a : Fin 128) : indexVec x (ix1 a) = x (ix2 0 a) :=
  shapeCast_apply x shapeCasts_S1x128_S128 (ix1 a) (ix2 0 a) (by
    rw [Shape.rowMajor_val_one, Shape.rowMajor_val_two]
    show 0 * 128 + a.val = a.val
    omega)

/-- The row half of a scatter's index is the number of the row. -/
theorem rowNumbers_apply (a : Fin 128) (b : Fin 640) : rowNumbers (ix2 a b) = BitVec.ofNat 32 a.val :=
  wrap_small (n := a.val) (by have := a.isLt; omega) _

/-- A matrix given a last axis of length one keeps its entries. -/
theorem unit_apply (x : IVec S128x640 32) (a : Fin 128) (b : Fin 640) :
    broadcastInDim S128x640x1 ![0, 1] bcast_S128x640_S128x640x1_0_1 x (ix3 a b 0) = x (ix2 a b) :=
  congrArg x (funext fun q => match q with
    | ⟨0, _⟩ => rfl
    | ⟨1, _⟩ => rfl)

/-- A vector given a last axis of length one keeps its entries. -/
theorem unit1_apply (x : IVec S128 32) (a : Fin 128) : broadcastInDim S128x1 ![0] bcast_S128_S128x1_0 x (ix2 a 0) = x (ix1 a) :=
  congrArg x (funext fun q => match q with
    | ⟨0, _⟩ => rfl)

/-- A column number in range is not wrapped. -/
theorem colNumbers_apply (x : IVec S128x640 32) (a : Fin 128) (b : Fin 640) (n : ℕ) (hn : n < 32768) (h : x (ix2 a b) = BitVec.ofNat 32 n) :
    colNumbers x (ix2 a b) = BitVec.ofNat 32 n := by
  show Scalar.select (IntOp.cmpi .slt (x (ix2 a b)) 0#32) _ (x (ix2 a b)) = _
  rw [h]
  exact wrap_small (by omega) _

/-- An index in range is not wrapped. -/
theorem wrapped_apply (w : BitVec 32) (x : IVec S128 32) (a : Fin 128) (n : ℕ) (hn : n < 32768) (h : x (ix1 a) = BitVec.ofNat 32 n) :
    wrapped w x (ix1 a) = BitVec.ofNat 32 n := by
  show Scalar.select (IntOp.cmpi .slt (x (ix1 a)) 0#32) _ (x (ix1 a)) = _
  rw [h]
  exact wrap_small (by omega) _

section
variable (x : IVec S128x640 32) (u : FVec Ideal S128x640 .f32) (p : Fin 128 → Fin 640 → Fin 32768)
  (hx : ∀ a b, x (ix2 a b) = BitVec.ofNat 32 (p a b).val)
include hx

/-- The spread row at a candidate's position is that candidate's value. -/
theorem spreadRows_hit (hp : ∀ a, Function.Injective (p a)) (a : Fin 128) (b : Fin 640) : spreadRows x u (ix2 a (p a b)) = u (ix2 a b) :=
  rows_hit (by decide) (by decide) scatter_S128x32768_S128x640x2_S128x640_n_01_01_2 rfl rfl rfl _ _ u p
    (fun a b => (pair_left (A := 128) (B := 640) _ _ _ a b).trans <| (unit_apply _ a b).trans (rowNumbers_apply a b))
    (fun a b => (pair_right (A := 128) (B := 640) _ _ _ a b).trans <| (unit_apply _ a b).trans (colNumbers_apply x a b _ (p a b).isLt (hx a b))) hp a b

/-- The spread row at a position of no candidate is zero. -/
theorem spreadRows_miss (a : Fin 128) (c : Fin 32768) (hn : ∀ b, p a b ≠ c) : spreadRows x u (ix2 a c) = 0 :=
  (rows_miss (by decide) (by decide) scatter_S128x32768_S128x640x2_S128x640_n_01_01_2 rfl rfl rfl _ _ u p
    (fun a b => (pair_left (A := 128) (B := 640) _ _ _ a b).trans <| (unit_apply _ a b).trans (rowNumbers_apply a b))
    (fun a b => (pair_right (A := 128) (B := 640) _ _ _ a b).trans <| (unit_apply _ a b).trans (colNumbers_apply x a b _ (p a b).isLt (hx a b))) a c hn).trans
    Ideal.ofBits_zero_f32

end

section
variable (x : IVec S128 32) (p : Fin 128 → Fin 32768) (hx : ∀ a, x (ix1 a) = BitVec.ofNat 32 (p a).val)
include hx

/-- The one-hot row is one at the selected position and zero elsewhere. -/
theorem spreadOnes_apply (a : Fin 128) (i : Fin 32768) : spreadOnes x (ix2 a i) = if i = p a then (1 : EReal) else (0 : EReal) := by
  refine (cells_eq (R := 128) (C := 32768) (by decide) (by decide) scatter_S128x32768_S128x2_S128_n_01_01_1_wf _ _ _ p
    (fun a => (two_left (A := 128) _ _ _ a).trans <| (unit1_apply _ a).trans (wrapped_apply _ _ a a.val (by have := a.isLt; omega) rfl))
    (fun a => (two_right (A := 128) _ _ _ a).trans <| (unit1_apply _ a).trans (wrapped_apply _ _ a _ (p a).isLt (hx a))) a i).trans ?_
  by_cases h : i = p a
  · rw [if_pos h, if_pos h]
    exact ofBits_one
  · rw [if_neg h, if_neg h]
    exact Ideal.ofBits_zero_f32

/-- The gathered memory is the row of the selected position. -/
theorem memoryOf_apply (y : FVec Ideal S32768x8x256 .f32) (a : Fin 128) (j : Fin 8) (i : Fin 256) : memoryOf y x (ix3 a j i) = y (ix3 (p a) j i) :=
  gather_plane (A := 32768) (M := 8) (N := 256) (n := 128) (by decide) gather_S32768x8x256_S128x1_S128x8x256_12_0_n_n_0_1_18256_wf y _ a (p a) j i
    ((unit1_apply _ a).trans (wrapped_apply _ _ a _ (p a).isLt (hx a)))

end

end Tail

section Values
variable (m : (ℓ : Loc nD τ sig) → Buf (Elt Ideal) ℓ) (ρ : Dev nD → PrngReg) (c : Dev nD)

/-- The slots' rows of logits. -/
def rowsL : Fin 128 → Fin 32768 → EReal := fun k i => logits (m ((c : Thread nD τ).loc main_arg0)) (m ((c : Thread nD τ).loc main_arg4)) (ix2 k i)

/-- The slots' noise. -/
def noiseG : Fin 128 → Fin 512 → EReal := fun k s => (W12 m ρ c (Proc.devRef .tc main_v39) : FVec Ideal S128x512 .f32) (ix2 k s)

/-- The temperature. -/
def tempT : EReal := sitofp (F := Ideal) .f32 (m ((c : Thread nD τ).loc main_arg3) : IVec S_ 32) ix0

/-- The temperature word is still the input when the selection kernel starts. -/
theorem W11_tau : W11 m ρ c (Proc.devRef .tc main_arg3) = m ((c : Thread nD τ).loc main_arg3) :=
  W11_args m ρ c main_arg3 (by decide)

/-- The temperature is a real number other than 0. -/
theorem temp_real (h : (m ((c : Thread nD τ).loc main_arg3) : IVec S_ 32) ix0 ≠ 0#32) : ∃ r : ℝ, r ≠ 0 ∧ tempT m c = r := by
  refine ⟨(((m ((c : Thread nD τ).loc main_arg3) : IVec S_ 32) ix0).toInt : ℝ), ?_, rfl⟩
  intro e
  refine h (BitVec.eq_of_toInt_eq ?_)
  rw [Int.cast_eq_zero.1 e]
  rfl

variable (ht : ∃ r : ℝ, r ≠ 0 ∧ tempT m c = r)
include ht

/-- The selection kernel leaves the position each slot selects. -/
theorem W13_idx (j : Fin 128) : (W13 m ρ c (Proc.devRef .tc main_v42_1) : IVec S1x128 32) (ix2 0 j)
    = BitVec.ofNat 32 (chosenAt (rowsL m c) low (noiseG m ρ c) (tempT m c) j).val := by
  rw [show W13 m ρ c (Proc.devRef .tc main_v42_1) = _ from (W13_arr m ρ c 5).trans (region1_final_5 (V12 m ρ) c)]
  refine carried_idx (L := rowsL m c) (G := noiseG m ρ c) (fun k i => masked_lt _ _ k i) (fun k i => ?_) (fun k s => Cert.Proof.Noise.W12_noise_real m ρ c _) ht ?_ (fun k t => ?_)
    (fun k t => ?_) (fun k s => rfl) j
  · obtain ⟨r, _, h⟩ := logits_real (m ((c : Thread nD τ).loc main_arg0)) (m ((c : Thread nD τ).loc main_arg4)) k i
    exact ⟨r, h⟩
  · show W12 m ρ c (Proc.devRef .tc main_v41) (ix1 0) = _
    rw [Cert.Proof.Noise.W12_tau, W11_tau]
    exact congrArg (sitofp (F := Ideal) .f32 (m ((c : Thread nD τ).loc main_arg3) : IVec S_ 32)) (eq_ix0 _)
  · show W12 m ρ c (Proc.devRef .tc main_values_1) (ix2 k t) = _
    rw [W12_vals, W5_logits]
    exact candVals_apply _ k t
  · show W12 m ρ c (Proc.devRef .tc main_v20) (ix2 k t) = _
    rw [W12_pos, W5_logits]
    exact candPos_apply _ k t

/-- The selection kernel leaves each slot's probabilities over its 640 candidates. -/
theorem W13_probs (k : Fin 128) (t : Fin 640) : (W13 m ρ c (Proc.devRef .tc main_v42_0) : FVec Ideal S128x640 .f32) (ix2 k t)
    = laneProb (rowsL m c k) (chosen (rowsL m c) low (noiseG m ρ c) (tempT m c) k.val) (noiseG m ρ c k) (tempT m c) t := by
  rw [show W13 m ρ c (Proc.devRef .tc main_v42_0) = _ from (W13_arr m ρ c 4).trans (region1_final_4 (V12 m ρ) c)]
  refine allProbs_apply (L := rowsL m c) (c := low) (G := noiseG m ρ c) (fun k i => masked_lt _ _ k i) (fun k i => ?_) (fun k s => Cert.Proof.Noise.W12_noise_real m ρ c _) ht ?_ (fun k t => ?_)
    (fun k t => ?_) (fun k s => rfl) k t
  · obtain ⟨r, _, h⟩ := logits_real (m ((c : Thread nD τ).loc main_arg0)) (m ((c : Thread nD τ).loc main_arg4)) k i
    exact ⟨r, h⟩
  · show W12 m ρ c (Proc.devRef .tc main_v41) (ix1 0) = _
    rw [Cert.Proof.Noise.W12_tau, W11_tau]
    exact congrArg (sitofp (F := Ideal) .f32 (m ((c : Thread nD τ).loc main_arg3) : IVec S_ 32)) (eq_ix0 _)
  · show W12 m ρ c (Proc.devRef .tc main_values_1) (ix2 k t) = _
    rw [W12_vals, W5_logits]
    exact candVals_apply _ k t
  · show W12 m ρ c (Proc.devRef .tc main_v20) (ix2 k t) = _
    rw [W12_pos, W5_logits]
    exact candPos_apply _ k t

/-- The chosen indices, as a vector. -/
theorem W14_idx (a : Fin 128) : (W14 m ρ c (Proc.devRef .tc main_v43) : IVec S128 32) (ix1 a)
    = BitVec.ofNat 32 (chosenAt (rowsL m c) low (noiseG m ρ c) (tempT m c) a).val := by
  rw [show W14 m ρ c (Proc.devRef .tc main_v43) = _ from tail_43 (W13 m ρ c)]
  exact (indexVec_apply _ a).trans (W13_idx m ρ c ht a)

/-- The memory rows chosen. -/
theorem W14_memory (a : Fin 128) (j : Fin 8) (i : Fin 256) : (W14 m ρ c (Proc.devRef .tc main_v85) : FVec Ideal S128x8x256 .f32) (ix3 a j i)
    = (m ((c : Thread nD τ).loc main_arg1) : FVec Ideal S32768x8x256 .f32) (ix3 (chosenAt (rowsL m c) low (noiseG m ρ c) (tempT m c) a) j i) := by
  rw [show W14 m ρ c (Proc.devRef .tc main_v85) = _ from tail_85 (W13 m ρ c), W13_args m ρ c main_arg1 (by decide)]
  exact memoryOf_apply _ (chosenAt (rowsL m c) low (noiseG m ρ c) (tempT m c)) (fun a => (indexVec_apply _ a).trans (W13_idx m ρ c ht a)) _ a j i

/-- The one-hot rows. -/
theorem W14_ones (a : Fin 128) (i : Fin 32768) : (W14 m ρ c (Proc.devRef .tc main_v78) : FVec Ideal S128x32768 .f32) (ix2 a i)
    = if i = chosenAt (rowsL m c) low (noiseG m ρ c) (tempT m c) a then (1 : EReal) else (0 : EReal) := by
  rw [show W14 m ρ c (Proc.devRef .tc main_v78) = _ from tail_78 (W13 m ρ c)]
  exact spreadOnes_apply _ (chosenAt (rowsL m c) low (noiseG m ρ c) (tempT m c)) (fun a => (indexVec_apply _ a).trans (W13_idx m ρ c ht a)) a i

/-- The probabilities over the whole rows. -/
theorem W14_probs (a : Fin 128) (i : Fin 32768) : (W14 m ρ c (Proc.devRef .tc main_v61) : FVec Ideal S128x32768 .f32) (ix2 a i)
    = spread (rowsL m c a) (chosen (rowsL m c) low (noiseG m ρ c) (tempT m c) a.val) low (noiseG m ρ c a) (tempT m c) i := by
  rw [show W14 m ρ c (Proc.devRef .tc main_v61) = _ from tail_61 (W13 m ρ c)]
  have hp : ∀ (a : Fin 128) (b : Fin 640), (W13 m ρ c (Proc.devRef .tc main_v20) : IVec S128x640 32) (ix2 a b) = BitVec.ofNat 32 (cand (rowsL m c a) b).val := by
    intro a b
    rw [W13_of m ρ c main_v20 (by decide), W12_pos, W5_logits]
    exact candPos_apply _ a b
  have hc : ∀ i, low < rowsL m c a i := fun i => masked_lt _ _ a i
  have hS : (chosen (rowsL m c) low (noiseG m ρ c) (tempT m c) a.val).card ≤ 128 := (card_chosen _).trans a.isLt.le
  by_cases h : ∃ t, cand (rowsL m c a) t = i
  · obtain ⟨t, rfl⟩ := h
    rw [spreadRows_hit _ _ (fun a t => cand (rowsL m c a) t) hp (fun a => cand_injective _) a t, W13_probs m ρ c ht, spread_cand hc hS]
  · rw [spreadRows_miss _ _ (fun a t => cand (rowsL m c a) t) hp a i fun t h' => h ⟨t, h'⟩, spread_off_cand hc hS fun t h' => h ⟨t, h'⟩]

end Values

end Cert.KernelIdeal.Val
-- ==== Proof.ExpKeys.lean ====
module

public import proofs.«01_k».proof.Proof.Logits

@[expose] public section

set_option maxRecDepth 16384

noncomputable section

/-! The kernel's last region: probabilities times keys, summed block by block. -/

namespace Cert.KernelIdeal.Val

open Idealize.ShloMosaic Idealize.ShloMosaic.TcCoe Idealize.SL.Sem
open Idealize.ShloMosaic.ValueIdx
open Cert.KernelIdeal Cert.KernelIdeal.Gen

/-- Probabilities times keys. -/
def mixed (A : FVec Ideal S128x32768 .f32) (B : FVec Ideal S32768x256 .f32) : FVec Ideal S128x256 .f32 :=
  fun j => ∑ i : Fin 32768, A (ix2 (j 0) i) * B (ix2 i (j 1))

/-- What one grid step adds. -/
theorem mix_apply (a : Vec Ideal S128x256 .f32) (x0 : Vec Ideal S128x4096 .f32) (x1 : Vec Ideal S4096x256 .f32) (r : Fin 128) (d : Fin 256) :
    k2_pay2 a x0 x1 (ix2 r d) = a (ix2 r d) + ∑ n : Fin 4096, x0 (ix2 r n) * x1 (ix2 n d) := by
  unfold k2_pay2
  simp only [shapeCast_self]
  refine congrArg (a (ix2 r d) + ·) ?_
  refine (Ideal.matmul_plain_apply none x0 x1 _ r d).trans ?_
  rw [constant_apply]
  exact (congrArg (· + _) Ideal.ofBits_zero_f32).trans (zero_add _)

/-- The accumulator starts at zero. -/
theorem start_apply (r : Fin 128) (d : Fin 256) : k2_pay1 (F := Ideal) (ix2 r d) = 0 := Ideal.ofBits_zero_f32

section Run
variable (c : Dev nD) (i : grid2.Coords) (arg1 : Memref sig .tc .vmem S128x4096 .f32) (harg1 : arg1.IsWhole) (arg2 : Memref sig .tc .vmem S4096x256 .f32)
  (harg2 : arg2.IsWhole) (arg3 : Memref sig .tc .vmem S128x256 .f32) (harg3 : arg3.IsWhole) (x0 : Vec Ideal S128x4096 .f32) (x1 : Vec Ideal S4096x256 .f32)

/-- The first block adds its product to the starting value. -/
theorem out2_A (hc0 : cond2_0 i) : out2_A_2 c i arg1 harg1 arg2 harg2 arg3 harg3 hc0 x0 x1 = k2_pay2 k2_pay1 x0 x1 := by
  unfold out2_A_2
  rw [View.read_writes_eq_canon _ _ _ (cover2_A_2 c i arg1 harg1 arg2 harg2 arg3 harg3 hc0 x0 x1)]
  unfold kernelRun2_A
  dsimp only
  rw [View.canon_cons_unit_zero origin2]
  unfold kernelRun2_A.sl.v3 kernelRun2_A.sl.H2_1
  rw [View.readCov_unit_zero (S := S128x256) _ origin2, View.readAt_eq_ld, View.readAt_eq_ld, harg1.read_unread, harg2.read_unread,
    View.ld_unit_zero (S := S128x4096) origin2, View.ld_unit_zero (S := S4096x256) origin2]

/-- A later block adds its product to what is there. -/
theorem out2_B (hc0 : ¬cond2_0 i) (xo : Vec Ideal S128x256 .f32) :
    out2_B_2 c i arg1 harg1 arg2 harg2 arg3 harg3 hc0 x0 x1 xo = k2_pay2 xo x0 x1 := by
  unfold out2_B_2
  rw [View.read_writes_eq_canon _ _ _ (cover2_B_2 c i arg1 harg1 arg2 harg2 arg3 harg3 hc0 x0 x1 xo)]
  unfold kernelRun2_B
  dsimp only
  rw [View.canon_unit_zero origin2]
  rw [View.readAt_eq_ld, View.readAt_eq_ld, View.readAt_eq_ld, harg1.read_unread, harg2.read_unread, harg3.read_unread,
    View.ld_unit_zero (S := S128x256) origin2, View.ld_unit_zero (S := S128x4096) origin2, View.ld_unit_zero (S := S4096x256) origin2]

end Run

/-- One product, indexed by a number. -/
def term (A : FVec Ideal S128x32768 .f32) (B : FVec Ideal S32768x256 .f32) (r : Fin 128) (d : Fin 256) (n : ℕ) : EReal :=
  if h : n < 32768 then A (ix2 r ⟨n, h⟩) * B (ix2 ⟨n, h⟩ d) else 0

/-- The products up to a bound. -/
theorem mixed_eq (A : FVec Ideal S128x32768 .f32) (B : FVec Ideal S32768x256 .f32) (r : Fin 128) (d : Fin 256) :
    mixed A B (ix2 r d) = ∑ n ∈ Finset.range 32768, term A B r d n := by
  rw [Finset.sum_range]
  refine Finset.sum_congr rfl fun n _ => ?_
  unfold term
  rw [dif_pos n.isLt]

variable (V : (c : Dev nD) → (b : Ref sig .tc) → Buf (Elt Ideal) ((c : Thread nD τ).loc b))

/-- A block's product is a stretch of the products. -/
theorem block_term (c : Dev nD) (t : Fin cfg2.N) (r : Fin 128) (d : Fin 256) (x0 : FVec Ideal S128x4096 .f32) (x1 : FVec Ideal S4096x256 .f32)
    (h0 : x0 = iblk2 V c 0 t) (h1 : x1 = iblk2 V c 1 t) : ∑ n : Fin 4096, x0 (ix2 r n) * x1 (ix2 n d)
      = ∑ n ∈ Finset.range 4096, term (V c main_v61) (V c main_v4) r d (t.val * 4096 + n) := by
  have hi : ∀ t : Fin cfg2.N, win2_0.index t 0 = 0 ∧ win2_0.index t 1 = t.val ∧ win2_1.index t 0 = t.val ∧ win2_1.index t 1 = 0 := by decide +kernel
  obtain ⟨e1, e2, e3, e4⟩ := hi t
  have hN : t.val < 8 := lt_of_lt_of_eq t.isLt (show cfg2.N = 8 from N_2)
  rw [Finset.sum_range]
  refine Finset.sum_congr rfl fun n _ => ?_
  have hn := n.isLt
  unfold term
  rw [dif_pos (by omega : t.val * 4096 + n.val < 32768)]
  congr 1
  · rw [h0]
    unfold iblk2
    rw [View.read_apply]
    show V c main_v61 _ = V c main_v61 _
    congr 1
    funext a
    apply Fin.ext
    match a with
    | ⟨0, _⟩ => show win2_0.index t 0 * 128 + 1 * r.val = r.val; rw [e1]; omega
    | ⟨1, _⟩ => show win2_0.index t 1 * 4096 + 1 * n.val = t.val * 4096 + n.val; rw [e2]; omega
  · rw [h1]
    unfold iblk2
    rw [View.read_apply]
    show V c main_v4 _ = V c main_v4 _
    congr 1
    funext a
    apply Fin.ext
    match a with
    | ⟨0, _⟩ => show win2_1.index t 0 * 4096 + 1 * n.val = t.val * 4096 + n.val; rw [e3]; omega
    | ⟨1, _⟩ => show win2_1.index t 1 * 256 + 1 * d.val = d.val; rw [e4]; omega

/-- The running sum after a grid step. -/
theorem running (c : Dev nD) : ∀ (n : ℕ) (hn : n < cfg2.N) (r : Fin 128) (d : Fin 256),
    outsAt2 V c n hn (ix2 r d) = ∑ k ∈ Finset.range ((n + 1) * 4096), term (V c main_v61) (V c main_v4) r d k
  | 0, hn, r, d => by
    rw [outsAt2_A V c ⟨0, hn⟩ rfl, out2_A, mix_apply, start_apply, zero_add, block_term V c ⟨0, hn⟩ r d _ _ rfl rfl]
    refine Finset.sum_congr (by simp) fun k _ => congrArg _ (by simp)
  | n + 1, hn, r, d => by
    have hN : n + 1 < 8 := lt_of_lt_of_eq hn (show cfg2.N = 8 from N_2)
    rw [outsAt2_B V c ⟨n + 1, hn⟩ (by show ¬ (n + 1) % 8 = 0; omega), out2_B, mix_apply, block_term V c ⟨n + 1, hn⟩ r d _ _ rfl rfl]
    rw [show (n + 1 + 1) * 4096 = (n + 1) * 4096 + 4096 by omega, Finset.sum_range_add]
    exact congrArg (· + _) (running c n (by omega) r d)

/-- What region 2 writes back is the whole product. -/
theorem region2_flushed (c : Dev nD) (t : Fin cfg2.N) (hf : (cfg2.win 2).flush t = true) :
    (dat2 V c).flushed 2 t = ((cfg2.win 2).blk t).view.read (Elt Ideal) (mixed (V c main_v61) (V c main_v4)) := by
  have hN : t.val < 8 := lt_of_lt_of_eq t.isLt (show cfg2.N = 8 from N_2)
  have h7 : t.val = 7 := by have := (flush2_2 t).mp hf; omega
  show (cfg2.win 2).cut (grid2.coords t) ((dat2 V c).after 2 t) = _
  rw [after2_2]
  have hi : ∀ t : Fin cfg2.N, win2_2.index t 0 = 0 ∧ win2_2.index t 1 = 0 := by decide +kernel
  obtain ⟨e1, e2⟩ := hi t
  have hr := running V c t.val t.isLt
  rw [show (t.val + 1) * 4096 = 32768 by omega] at hr
  have hr' : ∀ r d, outsAt2 V c t.val t.isLt (ix2 r d) = mixed (V c main_v61) (V c main_v4) (ix2 r d) := fun r d => (hr r d).trans (mixed_eq _ _ r d).symm
  clear hr
  generalize outsAt2 V c t.val t.isLt = X at hr' ⊢
  generalize mixed (V c main_v61) (V c main_v4) = M at hr' ⊢
  funext j
  show X j = _
  rw [View.read_apply]
  refine ((congrArg X (eq_ix2 (n0 := 128) (n1 := 256) j)).trans (hr' (j 0) (j 1))).trans ?_
  refine congrArg M ?_
  funext a
  apply Fin.ext
  match a with
  | ⟨0, _⟩ => show (j 0).val = win2_2.index t 0 * 128 + 1 * (j 0).val; rw [e1]; omega
  | ⟨1, _⟩ => show (j 1).val = win2_2.index t 1 * 256 + 1 * (j 1).val; rw [e2]; omega

/-- The last step's block is the array. -/
theorem region2_cover (i : S128x256.Idx) : ∃ t : Fin cfg2.N, (cfg2.win 2).flush t = true ∧ i ∈ ((cfg2.win 2).blk t).view.set := by
  have h0 : (i 0 : Nat) < 128 := (i 0).isLt
  have h1 : (i 1 : Nat) < 256 := (i 1).isLt
  have hN : cfg2.N = 8 := N_2
  have ht : 7 < cfg2.N := by omega
  refine ⟨⟨7, ht⟩, (flush2_2 _).mpr rfl, ?_⟩
  show i ∈ ((View.whole main_v86).slice (win2_2.rect ⟨7, ht⟩)).set
  rw [View.set_slice_whole, Rect.mem_set_unit]
  have hi : ∀ t : Fin cfg2.N, win2_2.index t 0 * win2_2.size 0 = 0 ∧ win2_2.xsize (grid2.coords t) 0 = 128
      ∧ win2_2.index t 1 * win2_2.size 1 = 0 ∧ win2_2.xsize (grid2.coords t) 1 = 256 := by decide +kernel
  obtain ⟨e1, e2, e3, e4⟩ := hi ⟨7, ht⟩
  intro a
  match a with
  | ⟨0, _⟩ =>
    show win2_2.index _ 0 * win2_2.size 0 ≤ (i 0 : Nat) ∧ (i 0 : Nat) < win2_2.index _ 0 * win2_2.size 0 + win2_2.xsize (grid2.coords _) 0
    rw [e1, e2]; omega
  | ⟨1, _⟩ =>
    show win2_2.index _ 1 * win2_2.size 1 ≤ (i 1 : Nat) ∧ (i 1 : Nat) < win2_2.index _ 1 * win2_2.size 1 + win2_2.xsize (grid2.coords _) 1
    rw [e3, e4]; omega

/-- After region 2 its result array holds the whole product. -/
theorem region2_final (c : Dev nD) : (dat2 V c).arrAt 2 cfg2.N = mixed (V c main_v61) (V c main_v4) :=
  (dat2 V c).arrAt_eq_of_cover 2 (mixed (V c main_v61) (V c main_v4)) (fun t ht => region2_flushed V c t ht) region2_cover

end Cert.KernelIdeal.Val
-- ==== Proof.RefRow.lean ====
module

public import proofs.«01_k».proof.Proof.RefRun
public import proofs.«01_k».proof.Proof.RowOps
public import proofs.«01_k».proof.Proof.TopK
public import proofs.«01_k».proof.Proof.Soft
public import proofs.«01_k».proof.Proof.Lanes
public import Idealize.ShloMosaic.Lib.ValueIdxRank1

@[expose] public section

set_option maxRecDepth 16384

noncomputable section

/-! One trip of the reference's loop: what it computes for its slot. -/

namespace Cert.ReferenceIdeal.Val

open Idealize.ShloMosaic Idealize.ShloMosaic.TcCoe Idealize.SL.Sem
open Idealize.ShloMosaic.StableHlo
open Idealize.ShloMosaic.ValueIdx
open Cert.ReferenceIdeal Cert.ReferenceIdeal.Gen Cert.ReferenceIdeal.Value
open Cert.Proof.Rank Cert.Proof.RowOps

/-- The value that stands for a masked logit. -/
abbrev low : EReal := Ideal.ofBits .f32 0xCE6E6B28#32

/-- Slot `k` is next, with its row of logits, its noise, the temperature, and the positions taken so far. -/
structure Ready (V : Valuation τ sig (Elt Ideal)) (k : Fin 128) (L : Fin 32768 → EReal) (S : Finset (Fin 32768)) (g : Fin 512 → EReal) (t : EReal) : Prop where
  ctr : (V (Proc.devRef .tc main_v38_5) : IVec S_ 32) = fun _ => BitVec.ofNat 32 k.val
  row : ∀ i, (V (Proc.devRef .tc main_v38_0) : FVec Ideal S128x32768 .f32) (ix2 k i) = L i
  noise : ∀ s, (V (Proc.devRef .tc main_v38_1) : FVec Ideal S128x512 .f32) (ix2 k s) = g s
  temp : ∀ j, (sitofp (F := Ideal) .f32 (V (Proc.devRef .tc main_v38_2) : IVec S_ 32)) j = t
  mask : ∀ i, (V (Proc.devRef .tc main_v38_6) : IVec S32768 1) (ix1 i) = if i ∈ S then 1#1 else 0#1

section Pure

/-- Reducing a vector takes all its entries. -/
theorem drop_vec (h : S512.ReducesTo [0] S_) (j : S_.Idx) : (Finset.univ.filter fun i => h.drop i = j) = Finset.univ :=
  Finset.filter_true_of_mem fun i _ => (eq_ix0 _).trans (eq_ix0 j).symm

/-- The maximum of a vector. -/
theorem max_vec (x : FVec Ideal S512 .f32) (j : S_.Idx) :
    (maximumf (constant (F := Ideal) S_ .f32 0xFF800000#32) (Host.reduce FloatOps.maximumf x (constant (F := Ideal) S_ .f32 0xFF800000#32) reducesTo_S512_S_d0 h_S_)) j
      = Finset.univ.sup fun s : Fin 512 => x (ix1 s) := by
  have h : (Host.reduce FloatOps.maximumf x (constant (F := Ideal) S_ .f32 0xFF800000#32) reducesTo_S512_S_d0 h_S_) j = Finset.univ.sup fun s : Fin 512 => x (ix1 s) := by
    rw [Host.reduce_eq_fold FloatOps.maximumf, drop_vec]
    show Finset.fold max (Ideal.ofBits .f32 0xFF800000#32) _ _ = _
    rw [Cert.KernelIdeal.Val.ofBits_neg_inf]
    show Finset.univ.sup x = _
    apply le_antisymm
    · refine Finset.sup_le fun i _ => ?_
      rw [eq_ix1 i]
      exact Finset.le_sup (f := fun s : Fin 512 => x (ix1 s)) (Finset.mem_univ (i 0))
    · exact Finset.sup_le fun s _ => Finset.le_sup (f := x) (Finset.mem_univ (ix1 s))
  show max (Ideal.ofBits .f32 0xFF800000#32) _ = _
  rw [h, Cert.KernelIdeal.Val.ofBits_neg_inf]
  exact max_eq_right bot_le

/-- The sum of a vector. -/
theorem sum_vec (x : FVec Ideal S512 .f32) (j : S_.Idx) :
    (Host.reduceAdd (F := Ideal) x (constant (F := Ideal) S_ .f32 0x00000000#32) reducesTo_S512_S_d0 h_S_) j = ∑ s : Fin 512, x (ix1 s) := by
  show Ideal.ofBits .f32 0x00000000#32 + ∑ i ∈ Finset.univ.filter (fun i => reducesTo_S512_S_d0.drop i = j), x i = _
  rw [drop_vec, Ideal.ofBits_zero_f32, zero_add]
  symm
  exact Fintype.sum_equiv idxEquiv1.symm _ _ fun s => rfl

/-- The softmax as it is printed. -/
theorem soft_vec (x : FVec Ideal S512 .f32) (e : FVec Ideal S512 .f32)
    (he : e = Host.exp (subf x (broadcastInDim S512 ![0] bcast_S1_S512_0 (broadcastInDim S1 ![] bcast_S_S1 (maximumf (constant S_ .f32 0xFF800000#32) (Host.reduce FloatOps.maximumf x (constant S_ .f32 0xFF800000#32) reducesTo_S512_S_d0 h_S_))))))
    (s : Fin 512) :
    (Host.divf e (broadcastInDim S512 ![0] bcast_S1_S512_0 (broadcastInDim S1 ![] bcast_S_S1 (Host.reduceAdd e (constant S_ .f32 0x00000000#32) reducesTo_S512_S_d0 h_S_)))) (ix1 s)
      = softmax (fun s : Fin 512 => x (ix1 s)) s := by
  have h1 : ∀ s : Fin 512, e (ix1 s) = Ideal.exp (x (ix1 s) - Finset.univ.sup fun s : Fin 512 => x (ix1 s)) := fun s => by
    rw [he]
    exact congrArg (fun y => Ideal.exp (x (ix1 s) - y)) (max_vec x _)
  refine (congrArg₂ Ideal.div (h1 s) ((sum_vec e _).trans (Finset.sum_congr rfl fun s _ => h1 s))).trans rfl

end Pure

section Step
variable {V : Valuation τ sig (Elt Ideal)} {k : Fin 128} {L : Fin 32768 → EReal} {S : Finset (Fin 32768)} {g : Fin 512 → EReal} {t : EReal}
  (h : Ready V k L S g t)

attribute [local irreducible] top rank

/-- The loop's counter, as an integer. -/
theorem ctr_toInt (h : Ready V k L S g t) (j : S_.Idx) : ((V (Proc.devRef .tc main_v38_5) : IVec S_ 32) j).toInt = (k.val : ℤ) := by
  have := k.isLt
  rw [h.ctr]
  exact toInt_small (by omega)

include h

/-- The masked row. -/
theorem row_masked (i : Fin 32768) : (res_main_while0b_v74 V : FVec Ideal S32768 .f32) (ix1 i) = masked L S low i := by
  unfold res_main_while0b_v74
  have h1 : (shapeCast S32768 (Host.dynamicSlice S1x32768 (V (Proc.devRef .tc main_v38_0)) (fun k => (((![V (Proc.devRef .tc main_v38_5), constantI S_ 32 0#32] : Fin 2 → (⟨S_, .i32⟩ : BufTy).Contents (Elt Ideal))) k (Shape.Idx.first h_S_)).toInt) sliceFits_S128x32768_S1x32768) shapeCasts_S1x32768_S32768 : FVec Ideal S32768 .f32) (ix1 i) = L i := by
    refine (shapeCast_apply _ _ (ix1 i) (ix2 (0 : Fin 1) i) ?_).trans ((slice_row _ _ _ k (ctr_toInt h _) rfl i).trans (h.row i))
    rw [Shape.rowMajor_val_two, Shape.rowMajor_val_one]
    show 0 * 32768 + i.val = i.val
    omega
  show Scalar.select ((V (Proc.devRef .tc main_v38_6) : IVec S32768 1) (ix1 i)) (Ideal.ofBits .f32 0xCE6E6B28#32) _ = _
  rw [h.mask]
  refine (congrArg (Scalar.select _ _) h1).trans ?_
  unfold masked
  by_cases hi : i ∈ S
  · rw [if_pos hi, if_pos hi]; rfl
  · rw [if_neg hi, if_neg hi]; rfl

/-- The reference's masked row is the row with the selected positions at the mask's value. -/
theorem masked_fun : (fun i : Fin 32768 => (res_main_while0b_v74 V : FVec Ideal S32768 .f32) (ix1 i)) = masked L S low := funext (row_masked h)

/-- The positions of the 512 greatest. -/
theorem picks (s : Fin 512) : (res_main_while0b_indices V : IVec S512 32) (ix1 s) = BitVec.ofNat 32 (pick L S low s).val := by
  unfold res_main_while0b_indices
  refine (topK1_snd (res_main_while0b_v74 V : FVec Ideal S32768 .f32) _ (by decide) s).trans ?_
  rw [masked_fun h]
  rfl

/-- Their scores. -/
theorem scores (s : Fin 512) : (res_main_while0b_v78 V : FVec Ideal S512 .f32) (ix1 s) = score L S low g t s := by
  unfold res_main_while0b_v78
  have h1 : ((Host.topK S512 0 (FloatOps.cmpfTotal .gt) (res_main_while0b_v74 V) sliceFits_S32768_S512).1 : FVec Ideal S512 .f32) (ix1 s) = masked L S low (pick L S low s) := by
    refine (topK1_fst (res_main_while0b_v74 V : FVec Ideal S32768 .f32) _ (by decide) s).trans ?_
    rw [masked_fun h, row_masked h]
    rfl
  have h2 : (shapeCast S512 (Host.dynamicSlice S1x512 (V (Proc.devRef .tc main_v38_1)) (fun k => (((![V (Proc.devRef .tc main_v38_5), constantI S_ 32 0#32] : Fin 2 → (⟨S_, .i32⟩ : BufTy).Contents (Elt Ideal))) k (Shape.Idx.first h_S_)).toInt) sliceFits_S128x512_S1x512) shapeCasts_S1x512_S512 : FVec Ideal S512 .f32) (ix1 s) = g s := by
    refine (shapeCast_apply _ _ (ix1 s) (ix2 (0 : Fin 1) s) ?_).trans ((slice_row _ _ _ k (ctr_toInt h _) rfl s).trans (h.noise s))
    rw [Shape.rowMajor_val_two, Shape.rowMajor_val_one]
    show 0 * 512 + s.val = s.val
    omega
  refine (congrArg₂ Ideal.div (congrArg₂ (· + ·) h1 h2) (h.temp _)).trans rfl

/-- Their probabilities. -/
theorem probs (s : Fin 512) : (res_main_while0b_v88 V : FVec Ideal S512 .f32) (ix1 s) = prob L S low g t s := by
  unfold res_main_while0b_v88
  refine (soft_vec (res_main_while0b_v78 V) (res_main_while0b_v84 V) rfl s).trans ?_
  rw [funext (scores h)]
  rfl

/-- The place of the greatest. -/
theorem hard (j : S_.Idx) : (res_main_while0b_v89 V : IVec S_ 32) j = BitVec.ofNat 32 (best L S low g t).val := by
  unfold res_main_while0b_v89
  refine (shapeCast_apply _ _ j (ix1 (0 : Fin 1)) ?_).trans ?_
  · rw [Shape.rowMajor_val_one]
    exact (Nat.lt_one_iff.1 (S_.rowMajor j).isLt).symm
  · refine (topK1_snd (res_main_while0b_v88 V : FVec Ideal S512 .f32) _ (by decide) 0).trans ?_
    rw [funext (probs h)]
    rfl

/-- The place with the wrap of a negative index. -/
theorem hard_wrap (j : S_.Idx) : (select (cmpi .slt (res_main_while0b_v89 V) (constantI S_ 32 0#32)) (addi (res_main_while0b_v89 V) (constantI S_ 32 512#32)) (res_main_while0b_v89 V) : IVec S_ 32) j
    = BitVec.ofNat 32 (best L S low g t).val := by
  have := (best L S low g t).isLt
  show Scalar.select (IntOp.cmpi .slt ((res_main_while0b_v89 V : IVec S_ 32) j) 0#32) _ ((res_main_while0b_v89 V : IVec S_ 32) j) = _
  rw [hard h j]
  exact wrap_small (by omega) _

/-- The slot's position. -/
theorem chosen_word (j : S_.Idx) : (res_main_while0b_v113 V : IVec S_ 32) j = BitVec.ofNat 32 (choice L S low g t).val := by
  have := (best L S low g t).isLt
  unfold res_main_while0b_v113
  refine (shapeCast_apply _ _ j (ix1 (0 : Fin 1)) ?_).trans ?_
  · rw [Shape.rowMajor_val_one]
    exact (Nat.lt_one_iff.1 (S_.rowMajor j).isLt).symm
  · have e := (congrArg BitVec.toInt (hard_wrap h (Shape.Idx.first h_S_))).trans (toInt_small (n := (best L S low g t).val) (by omega))
    generalize (select (cmpi .slt (res_main_while0b_v89 V) (constantI S_ 32 0#32)) (addi (res_main_while0b_v89 V) (constantI S_ 32 512#32)) (res_main_while0b_v89 V) : IVec S_ 32) = w at e ⊢
    exact (slice_entry (res_main_while0b_indices V : IVec S512 32) _ _ (best L S low g t) e).trans (picks h _)

end Step

end Cert.ReferenceIdeal.Val
-- ==== Proof.RefStep.lean ====
module

public import proofs.«01_k».proof.Proof.RefRow
public import proofs.«01_k».proof.Proof.Slots

@[expose] public section

set_option maxRecDepth 16384

noncomputable section

/-! One trip of the reference's loop: what it writes for its slot. -/

namespace Cert.ReferenceIdeal.Val

open Idealize.ShloMosaic Idealize.ShloMosaic.TcCoe Idealize.SL.Sem
open Idealize.ShloMosaic.StableHlo
open Idealize.ShloMosaic.ValueIdx
open Cert.ReferenceIdeal Cert.ReferenceIdeal.Gen Cert.ReferenceIdeal.Value
open Cert.Proof.Rank Cert.Proof.RowOps

/-- Reducing the rows of a matrix sums over the entries of a column. -/
theorem lift_mat (h : S512x256.Reduces [0] S256) (j : Fin 256) (k : Fin 512) : h.lift (ix1 j) k = ix2 k j := by
  funext b; apply Fin.ext
  match b with
  | ⟨0, _⟩ => rfl
  | ⟨1, _⟩ => rfl

/-- Reducing the first axis sums over it at fixed other coordinates. -/
theorem lift_cube (h : S512x8x256.Reduces [0] S8x256) (i : Fin 8) (j : Fin 256) (k : Fin 512) : h.lift (ix2 i j) k = ix3 k i j := by
  funext b; apply Fin.ext
  match b with
  | ⟨0, _⟩ => rfl
  | ⟨1, _⟩ => rfl
  | ⟨2, _⟩ => rfl

/-- Weighted rows of a table, summed. -/
theorem mix_rows (x : FVec Ideal S32768x256 .f32) (w : FVec Ideal S512 .f32) (idx : IVec S512x1 32) (P : Fin 512 → Fin 32768)
    (hP : ∀ s, idx (ix2 s 0) = BitVec.ofNat 32 (P s).val) (d : Fin 256) :
    (Host.reduceAdd (F := Ideal) (mulf (broadcastInDim S512x256 ![0, 1] bcast_S512x1_S512x256_0_1 (broadcastInDim S512x1 ![0] bcast_S512_S512x1_0 w))
      (Host.gather gather_S32768x256_S512x1_S512x256_1_0_n_n_0_1_1256 x idx)) (constant S_ .f32 0x00000000#32) reducesTo_S512x256_S256_d0 h_S_) (ix1 d)
      = ∑ s : Fin 512, w (ix1 s) * x (ix2 (P s) d) := by
  refine (Ideal.hostReduceAdd_single reducesTo_S512x256_S256_d0 (by decide : S512x256.Reduces [0] S256) _ _ _).trans ?_
  refine (congrArg₂ (· + ·) Ideal.ofBits_zero_f32 (Finset.sum_congr rfl fun s _ => ?_)).trans (zero_add _)
  refine (congrArg _ (lift_mat (by decide) d s)).trans ?_
  refine congrArg₂ (· * ·) ?_ (Routing.gather_row _ rfl rfl rfl rfl rfl x idx s d (P s) (hP s) (by decide))
  show w _ = w _
  refine congrArg w (funext fun b => ?_)
  match b with
  | ⟨0, _⟩ => rfl

/-- Weighted planes of a table, summed. -/
theorem mix_planes (x : FVec Ideal S32768x8x256 .f32) (w : FVec Ideal S512 .f32) (idx : IVec S512x1 32) (P : Fin 512 → Fin 32768)
    (hP : ∀ s, idx (ix2 s 0) = BitVec.ofNat 32 (P s).val) (i : Fin 8) (d : Fin 256) :
    (Host.reduceAdd (F := Ideal) (mulf (broadcastInDim S512x8x256 ![0, 1, 2] bcast_S512x1x1_S512x8x256_0_1_2 (broadcastInDim S512x1x1 ![0] bcast_S512_S512x1x1_0 w))
      (Host.gather gather_S32768x8x256_S512x1_S512x8x256_12_0_n_n_0_1_18256 x idx)) (constant S_ .f32 0x00000000#32) reducesTo_S512x8x256_S8x256_d0 h_S_) (ix2 i d)
      = ∑ s : Fin 512, w (ix1 s) * x (ix3 (P s) i d) := by
  refine (Ideal.hostReduceAdd_single reducesTo_S512x8x256_S8x256_d0 (by decide : S512x8x256.Reduces [0] S8x256) _ _ _).trans ?_
  refine (congrArg₂ (· + ·) Ideal.ofBits_zero_f32 (Finset.sum_congr rfl fun s _ => ?_)).trans (zero_add _)
  refine (congrArg _ (lift_cube (by decide) i d s)).trans ?_
  refine congrArg₂ (· * ·) ?_ (gather_plane (by decide) gather_S32768x8x256_S512x1_S512x8x256_12_0_n_n_0_1_18256_wf x idx s (P s) i d (hP s))
  show w _ = w _
  refine congrArg w (funext fun b => ?_)
  match b with
  | ⟨0, _⟩ => rfl

/-- A sum weighted by a one-hot vector. -/
theorem sum_hot {n : ℕ} (b : Fin n) (w f : Fin n → EReal) (hw : ∀ s, w s = if s = b then (1 : EReal) else (0 : EReal)) : ∑ s, w s * f s = f b := by
  refine (Finset.sum_eq_single b (fun s _ hs => ?_) fun h' => absurd (Finset.mem_univ _) h').trans ?_
  · rw [hw, if_neg hs, zero_mul]
  · rw [hw, if_pos rfl, one_mul]

/-- The wrap of a negative index leaves a small number, at one entry. -/
theorem wrap_one (x : IVec S_ 32) (y : BitVec 32) {n : ℕ} (hn : n < 32768) (hx : ∀ j, x j = BitVec.ofNat 32 n) (j : S1.Idx) :
    (broadcastInDim S1 ![] bcast_S_S1 (select (cmpi .slt x (constantI S_ 32 0#32)) (addi x (constantI S_ 32 y)) x) : IVec S1 32) j = BitVec.ofNat 32 n := by
  show Scalar.select (IntOp.cmpi .slt (x _) 0#32) _ (x _) = _
  rw [hx]
  exact wrap_small (by omega) _

section Step
variable {V : Valuation τ sig (Elt Ideal)} {k : Fin 128} {L : Fin 32768 → EReal} {S : Finset (Fin 32768)} {g : Fin 512 → EReal} {t : EReal}
  (h : Ready V k L S g t)

attribute [local irreducible] top rank

include h

/-- The taken positions with the slot's own. -/
theorem step_mask (i : Fin 32768) : (STEP V (Proc.devRef .tc main_v38_6) : IVec S32768 1) (ix1 i) = if i ∈ insert (choice L S low g t) S then 1#1 else 0#1 := by
  have hlt := (choice L S low g t).isLt
  rw [STEP_main_v38_6]
  unfold step_main_v38_6
  have e : ∀ j, (broadcastInDim S1 ![] bcast_S_S1 (select (cmpi .slt (res_main_while0b_v113 V) (constantI S_ 32 0#32)) (addi (res_main_while0b_v113 V) (constantI S_ 32 32768#32)) (res_main_while0b_v113 V)) : IVec S1 32) j = BitVec.ofNat 32 (choice L S low g t).val := fun j => by
    exact wrap_one (res_main_while0b_v113 V) 32768#32 hlt (chosen_word h) j
  generalize (broadcastInDim S1 ![] bcast_S_S1 (select (cmpi .slt (res_main_while0b_v113 V) (constantI S_ 32 0#32)) (addi (res_main_while0b_v113 V) (constantI S_ 32 32768#32)) (res_main_while0b_v113 V)) : IVec S1 32) = w at e ⊢
  refine (set_entry scatter_S32768_S1_S__n_0_0_0 rfl rfl (V (Proc.devRef .tc main_v38_6) : IVec S32768 1) w (constantI S_ 1 1#1) (choice L S low g t) ?_ i).trans ?_
  · rw [e]
    exact toInt_small (by omega)
  · rw [h.mask i]
    by_cases hi : i = choice L S low g t
    · rw [if_pos hi, if_pos (Finset.mem_insert.2 (Or.inl hi))]; rfl
    · rw [if_neg hi]
      by_cases hS : i ∈ S
      · rw [if_pos hS, if_pos (Finset.mem_insert_of_mem hS)]
      · rw [if_neg hS, if_neg fun h' => (Finset.mem_insert.1 h').elim hi hS]

/-- The selected position is written in the slot's entry. -/
theorem step_idx (a : Fin 128) : (STEP V (Proc.devRef .tc main_v38_8) : IVec S128 32) (ix1 a)
    = if a = k then BitVec.ofNat 32 (choice L S low g t).val else (V (Proc.devRef .tc main_v38_8) : IVec S128 32) (ix1 a) := by
  rw [STEP_main_v38_8]
  unfold step_main_v38_8
  refine (update_entry (V (Proc.devRef .tc main_v38_8) : IVec S128 32) _ _ _ k (ctr_toInt h _) a).trans ?_
  refine if_congr Iff.rfl ?_ rfl
  exact chosen_word h _

/-- The 512 positions are written in the slot's row. -/
theorem step_picks (a : Fin 128) (s : Fin 512) : (STEP V (Proc.devRef .tc main_v38_10) : IVec S128x512 32) (ix2 a s)
    = if a = k then BitVec.ofNat 32 (pick L S low s).val else (V (Proc.devRef .tc main_v38_10) : IVec S128x512 32) (ix2 a s) := by
  rw [STEP_main_v38_10]
  unfold step_main_v38_10
  refine (update_row (V (Proc.devRef .tc main_v38_10) : IVec S128x512 32) _ _ _ k (ctr_toInt h _) rfl a s).trans ?_
  refine if_congr Iff.rfl ?_ rfl
  refine Eq.trans (congrArg (res_main_while0b_indices V : IVec S512 32) (a₂ := ix1 s) ?_) (picks h s)
  funext b
  match b with
  | ⟨0, _⟩ => rfl

/-- Their probabilities are written in the slot's row. -/
theorem step_probs (a : Fin 128) (s : Fin 512) : (STEP V (Proc.devRef .tc main_v38_11) : FVec Ideal S128x512 .f32) (ix2 a s)
    = if a = k then prob L S low g t s else (V (Proc.devRef .tc main_v38_11) : FVec Ideal S128x512 .f32) (ix2 a s) := by
  rw [STEP_main_v38_11]
  unfold step_main_v38_11
  refine (update_row (V (Proc.devRef .tc main_v38_11) : FVec Ideal S128x512 .f32) _ _ _ k (ctr_toInt h _) rfl a s).trans ?_
  refine if_congr Iff.rfl ?_ rfl
  refine Eq.trans (congrArg (res_main_while0b_v88 V : FVec Ideal S512 .f32) (a₂ := ix1 s) ?_) (probs h s)
  funext b
  match b with
  | ⟨0, _⟩ => rfl

/-- The index words of the gathers. -/
theorem gather_words (s : Fin 512) : (broadcastInDim S512x1 ![0] bcast_S512_S512x1_0 (select (cmpi .slt (res_main_while0b_indices V) (broadcastInDim S512 ![] bcast_S_S512 (constantI S_ 32 0#32))) (addi (res_main_while0b_indices V) (broadcastInDim S512 ![] bcast_S_S512 (constantI S_ 32 32768#32))) (res_main_while0b_indices V)) : IVec S512x1 32) (ix2 s 0)
    = BitVec.ofNat 32 (pick L S low s).val := by
  have hlt := (pick L S low s).isLt
  refine Eq.trans (congrArg (select (cmpi .slt (res_main_while0b_indices V) (broadcastInDim S512 ![] bcast_S_S512 (constantI S_ 32 0#32))) (addi (res_main_while0b_indices V) (broadcastInDim S512 ![] bcast_S_S512 (constantI S_ 32 32768#32))) (res_main_while0b_indices V) : IVec S512 32) (a₂ := ix1 s) ?_) ?_
  · funext b
    match b with
    | ⟨0, _⟩ => rfl
  · show Scalar.select (IntOp.cmpi .slt ((res_main_while0b_indices V : IVec S512 32) (ix1 s)) 0#32) _ ((res_main_while0b_indices V : IVec S512 32) (ix1 s)) = _
    rw [picks h]
    exact wrap_small (by omega) _

/-- The mixed keys are written in the slot's row. -/
theorem step_keys (a : Fin 128) (d : Fin 256) : (STEP V (Proc.devRef .tc main_v38_9) : FVec Ideal S128x256 .f32) (ix2 a d)
    = if a = k then ∑ s, prob L S low g t s * (V (Proc.devRef .tc main_v38_4) : FVec Ideal S32768x256 .f32) (ix2 (pick L S low s) d)
      else (V (Proc.devRef .tc main_v38_9) : FVec Ideal S128x256 .f32) (ix2 a d) := by
  rw [STEP_main_v38_9]
  unfold step_main_v38_9
  have e := gather_words h
  generalize (broadcastInDim S512x1 ![0] bcast_S512_S512x1_0 (select (cmpi .slt (res_main_while0b_indices V) (broadcastInDim S512 ![] bcast_S_S512 (constantI S_ 32 0#32))) (addi (res_main_while0b_indices V) (broadcastInDim S512 ![] bcast_S_S512 (constantI S_ 32 32768#32))) (res_main_while0b_indices V)) : IVec S512x1 32) = w at e ⊢
  have hm := mix_rows (V (Proc.devRef .tc main_v38_4) : FVec Ideal S32768x256 .f32) (res_main_while0b_v88 V) w (pick L S low) e d
  generalize (Host.reduceAdd (F := Ideal) (mulf (broadcastInDim S512x256 ![0, 1] bcast_S512x1_S512x256_0_1 (broadcastInDim S512x1 ![0] bcast_S512_S512x1_0 (res_main_while0b_v88 V)))
      (Host.gather gather_S32768x256_S512x1_S512x256_1_0_n_n_0_1_1256 (V (Proc.devRef .tc main_v38_4) : FVec Ideal S32768x256 .f32) w)) (constant S_ .f32 0x00000000#32) reducesTo_S512x256_S256_d0 h_S_ : FVec Ideal S256 .f32) = q at hm ⊢
  refine (update_row (V (Proc.devRef .tc main_v38_9) : FVec Ideal S128x256 .f32) _ _ _ k (ctr_toInt h _) rfl a d).trans ?_
  refine if_congr Iff.rfl ?_ rfl
  refine Eq.trans (congrArg q (a₂ := ix1 d) ?_) (hm.trans (Finset.sum_congr rfl fun s _ => congrArg (· * _) (probs h s)))
  funext b
  match b with
  | ⟨0, _⟩ => rfl

variable (hc : ∀ i, low < L i) (hS : S.card ≤ 128) (hL : ∀ i, ∃ r : ℝ, L i = r) (hg : ∀ s, ∃ r : ℝ, g s = r) (ht : ∃ r : ℝ, r ≠ 0 ∧ t = r)
include hc hS hL hg ht

/-- The straight-through weights are one at the selected place and zero elsewhere. -/
theorem weights (s : Fin 512) : (res_main_while0b_v97 V : FVec Ideal S512 .f32) (ix1 s) = if s = best L S low g t then (1 : EReal) else (0 : EReal) := by
  have hlt := (best L S low g t).isLt
  obtain ⟨r, -, hr⟩ := prob_real hc hS hL hg ht s
  unfold res_main_while0b_v97
  have e := hard_wrap h
  generalize (select (cmpi .slt (res_main_while0b_v89 V) (constantI S_ 32 0#32)) (addi (res_main_while0b_v89 V) (constantI S_ 32 512#32)) (res_main_while0b_v89 V) : IVec S_ 32) = w at e ⊢
  have h1 : (Host.scatter scatter_S512_S1_S__n_0_0_0 (fun _ b => b) (broadcastInDim S512 ![] bcast_S_S512 (constant S_ .f32 0x00000000#32)) (broadcastInDim S1 ![] bcast_S_S1 w) (constant S_ .f32 0x3F800000#32) : FVec Ideal S512 .f32) (ix1 s)
      = if s = best L S low g t then (1 : EReal) else (0 : EReal) := by
    refine (set_entry scatter_S512_S1_S__n_0_0_0 rfl rfl _ _ _ (best L S low g t) ((congrArg BitVec.toInt (e _)).trans (toInt_small (by omega))) s).trans ?_
    exact if_congr Iff.rfl Cert.KernelIdeal.Val.ofBits_one Ideal.ofBits_zero_f32
  refine (congrArg₂ (· + ·) (congrArg₂ (· - ·) h1 ((probs h s).trans hr)) ((probs h s).trans hr)).trans ?_
  split
  · rw [← EReal.coe_one]
    show ((1 : ℝ) : EReal) - (r : EReal) + (r : EReal) = ((1 : ℝ) : EReal)
    rw [← EReal.coe_sub, ← EReal.coe_add, sub_add_cancel]
  · rw [← EReal.coe_zero]
    show ((0 : ℝ) : EReal) - (r : EReal) + (r : EReal) = ((0 : ℝ) : EReal)
    rw [← EReal.coe_sub, ← EReal.coe_add, sub_add_cancel]

/-- The weights are written in the slot's row. -/
theorem step_weights (a : Fin 128) (s : Fin 512) : (STEP V (Proc.devRef .tc main_v38_12) : FVec Ideal S128x512 .f32) (ix2 a s)
    = if a = k then (if s = best L S low g t then (1 : EReal) else (0 : EReal)) else (V (Proc.devRef .tc main_v38_12) : FVec Ideal S128x512 .f32) (ix2 a s) := by
  rw [STEP_main_v38_12]
  unfold step_main_v38_12
  refine (update_row (V (Proc.devRef .tc main_v38_12) : FVec Ideal S128x512 .f32) _ _ _ k (ctr_toInt h _) rfl a s).trans ?_
  refine if_congr Iff.rfl ?_ rfl
  refine Eq.trans (congrArg (res_main_while0b_v97 V : FVec Ideal S512 .f32) (a₂ := ix1 s) ?_) (weights h hc hS hL hg ht s)
  funext b
  match b with
  | ⟨0, _⟩ => rfl

/-- The memory at the selected position is written in the slot's plane. -/
theorem step_memory (a : Fin 128) (i : Fin 8) (d : Fin 256) : (STEP V (Proc.devRef .tc main_v38_7) : FVec Ideal S128x8x256 .f32) (ix3 a i d)
    = if a = k then (V (Proc.devRef .tc main_v38_3) : FVec Ideal S32768x8x256 .f32) (ix3 (choice L S low g t) i d)
      else (V (Proc.devRef .tc main_v38_7) : FVec Ideal S128x8x256 .f32) (ix3 a i d) := by
  rw [STEP_main_v38_7]
  unfold step_main_v38_7
  have e := gather_words h
  generalize (broadcastInDim S512x1 ![0] bcast_S512_S512x1_0 (select (cmpi .slt (res_main_while0b_indices V) (broadcastInDim S512 ![] bcast_S_S512 (constantI S_ 32 0#32))) (addi (res_main_while0b_indices V) (broadcastInDim S512 ![] bcast_S_S512 (constantI S_ 32 32768#32))) (res_main_while0b_indices V)) : IVec S512x1 32) = w at e ⊢
  have hm := mix_planes (V (Proc.devRef .tc main_v38_3) : FVec Ideal S32768x8x256 .f32) (res_main_while0b_v97 V) w (pick L S low) e i d
  generalize (Host.reduceAdd (F := Ideal) (mulf (broadcastInDim S512x8x256 ![0, 1, 2] bcast_S512x1x1_S512x8x256_0_1_2 (broadcastInDim S512x1x1 ![0] bcast_S512_S512x1x1_0 (res_main_while0b_v97 V)))
      (Host.gather gather_S32768x8x256_S512x1_S512x8x256_12_0_n_n_0_1_18256 (V (Proc.devRef .tc main_v38_3) : FVec Ideal S32768x8x256 .f32) w)) (constant S_ .f32 0x00000000#32) reducesTo_S512x8x256_S8x256_d0 h_S_ : FVec Ideal S8x256 .f32) = q at hm ⊢
  refine (update_plane (V (Proc.devRef .tc main_v38_7) : FVec Ideal S128x8x256 .f32) _ _ _ k (ctr_toInt h _) rfl rfl a i d).trans ?_
  refine if_congr Iff.rfl ?_ rfl
  refine Eq.trans (congrArg q (a₂ := ix2 i d) ?_) (hm.trans ?_)
  · funext b
    match b with
    | ⟨0, _⟩ => rfl
    | ⟨1, _⟩ => rfl
  · exact sum_hot (best L S low g t) _ (fun s => (V (Proc.devRef .tc main_v38_3) : FVec Ideal S32768x8x256 .f32) (ix3 (pick L S low s) i d)) (weights h hc hS hL hg ht)

end Step

end Cert.ReferenceIdeal.Val
-- ==== Proof.RefLoop.lean ====
module

public import proofs.«01_k».proof.Proof.RefStep

@[expose] public section

set_option maxRecDepth 16384

noncomputable section

/-! The reference's loop: what its 128 trips leave. -/

namespace Cert.ReferenceIdeal.Val

open Idealize.ShloMosaic Idealize.ShloMosaic.TcCoe Idealize.SL.Sem
open Idealize.ShloMosaic.StableHlo
open Idealize.ShloMosaic.ValueIdx
open Cert.ReferenceIdeal Cert.ReferenceIdeal.Gen Cert.ReferenceIdeal.Value
open Cert.Proof.Rank Cert.Proof.RowOps

/-- What the loop starts from. -/
structure Start (E : Valuation τ sig (Elt Ideal)) (L : Fin 128 → Fin 32768 → EReal) (G : Fin 128 → Fin 512 → EReal) (t : EReal) : Prop where
  row : ∀ k i, (E (Proc.devRef .tc main_v38_0) : FVec Ideal S128x32768 .f32) (ix2 k i) = L k i
  noise : ∀ k s, (E (Proc.devRef .tc main_v38_1) : FVec Ideal S128x512 .f32) (ix2 k s) = G k s
  temp : ∀ j, (sitofp (F := Ideal) .f32 (E (Proc.devRef .tc main_v38_2) : IVec S_ 32)) j = t
  ctr : (E (Proc.devRef .tc main_v38_5) : IVec S_ 32) = fun _ => 0#32
  mask : ∀ i, (E (Proc.devRef .tc main_v38_6) : IVec S32768 1) (ix1 i) = 0#1

/-- What the loop has after `n` trips. -/
structure Done (E X : Valuation τ sig (Elt Ideal)) (n : ℕ) (L : Fin 128 → Fin 32768 → EReal) (G : Fin 128 → Fin 512 → EReal) (t : EReal) : Prop where
  keep0 : X (Proc.devRef .tc main_v38_0) = E (Proc.devRef .tc main_v38_0)
  keep1 : X (Proc.devRef .tc main_v38_1) = E (Proc.devRef .tc main_v38_1)
  keep2 : X (Proc.devRef .tc main_v38_2) = E (Proc.devRef .tc main_v38_2)
  keep3 : X (Proc.devRef .tc main_v38_3) = E (Proc.devRef .tc main_v38_3)
  keep4 : X (Proc.devRef .tc main_v38_4) = E (Proc.devRef .tc main_v38_4)
  ctr : (X (Proc.devRef .tc main_v38_5) : IVec S_ 32) = fun _ => BitVec.ofNat 32 n
  mask : ∀ i, (X (Proc.devRef .tc main_v38_6) : IVec S32768 1) (ix1 i) = if i ∈ chosen L low G t n then 1#1 else 0#1
  memory : ∀ a : Fin 128, a.val < n → ∀ (i : Fin 8) (d : Fin 256), (X (Proc.devRef .tc main_v38_7) : FVec Ideal S128x8x256 .f32) (ix3 a i d)
    = (E (Proc.devRef .tc main_v38_3) : FVec Ideal S32768x8x256 .f32) (ix3 (chosenAt L low G t a) i d)
  idx : ∀ a : Fin 128, a.val < n → (X (Proc.devRef .tc main_v38_8) : IVec S128 32) (ix1 a) = BitVec.ofNat 32 (chosenAt L low G t a).val
  keys : ∀ a : Fin 128, a.val < n → ∀ d : Fin 256, (X (Proc.devRef .tc main_v38_9) : FVec Ideal S128x256 .f32) (ix2 a d)
    = ∑ s, prob (L a) (chosen L low G t a.val) low (G a) t s
        * (E (Proc.devRef .tc main_v38_4) : FVec Ideal S32768x256 .f32) (ix2 (pick (L a) (chosen L low G t a.val) low s) d)
  picks : ∀ a : Fin 128, a.val < n → ∀ s : Fin 512, (X (Proc.devRef .tc main_v38_10) : IVec S128x512 32) (ix2 a s)
    = BitVec.ofNat 32 (pick (L a) (chosen L low G t a.val) low s).val
  probs : ∀ a : Fin 128, a.val < n → ∀ s : Fin 512, (X (Proc.devRef .tc main_v38_11) : FVec Ideal S128x512 .f32) (ix2 a s)
    = prob (L a) (chosen L low G t a.val) low (G a) t s
  weights : ∀ a : Fin 128, a.val < n → ∀ s : Fin 512, (X (Proc.devRef .tc main_v38_12) : FVec Ideal S128x512 .f32) (ix2 a s)
    = if s = best (L a) (chosen L low G t a.val) low (G a) t then (1 : EReal) else (0 : EReal)

section Loop
variable {E : Valuation τ sig (Elt Ideal)} {L : Fin 128 → Fin 32768 → EReal} {G : Fin 128 → Fin 512 → EReal} {t : EReal}
  (hE : Start E L G t) (hc : ∀ k i, low < L k i) (hL : ∀ k i, ∃ r : ℝ, L k i = r) (hG : ∀ k s, ∃ r : ℝ, G k s = r) (ht : ∃ r : ℝ, r ≠ 0 ∧ t = r)

/-- A row is the slot's own or an earlier one's. -/
theorem before_or {n : ℕ} (hn : n < 128) {P : Fin 128 → Prop} (h : P ⟨n, hn⟩) (h' : ∀ a : Fin 128, a ≠ ⟨n, hn⟩ → a.val < n → P a) :
    ∀ a : Fin 128, a.val < n + 1 → P a := fun a ha => by
  by_cases e : a = ⟨n, hn⟩
  · rw [e]; exact h
  · exact h' a e (by have : a.val ≠ n := fun h => e (Fin.ext h); omega)

attribute [local irreducible] top rank prob pick best

/-- Before the first trip nothing has been done. -/
theorem done_zero (hE : Start E L G t) : Done E E 0 L G t where
  keep0 := rfl
  keep1 := rfl
  keep2 := rfl
  keep3 := rfl
  keep4 := rfl
  ctr := hE.ctr
  mask := fun i => by rw [hE.mask, if_neg (by simp [chosen])]
  memory := fun a h => absurd h (Nat.not_lt_zero _)
  idx := fun a h => absurd h (Nat.not_lt_zero _)
  keys := fun a h => absurd h (Nat.not_lt_zero _)
  picks := fun a h => absurd h (Nat.not_lt_zero _)
  probs := fun a h => absurd h (Nat.not_lt_zero _)
  weights := fun a h => absurd h (Nat.not_lt_zero _)

/-- A state with `n` slots done is ready for trip `n`. -/
theorem ready (hE : Start E L G t) {X : Valuation τ sig (Elt Ideal)} {n : ℕ} (hX : Done E X n L G t) (hn : n < 128) :
    Ready X ⟨n, hn⟩ (L ⟨n, hn⟩) (chosen L low G t n) (G ⟨n, hn⟩) t where
  ctr := hX.ctr
  row := fun i => by rw [hX.keep0]; exact hE.row _ i
  noise := fun s => by rw [hX.keep1]; exact hE.noise _ s
  temp := fun j => by rw [hX.keep2]; exact hE.temp j
  mask := hX.mask

include hE hc hL hG ht

/-- One trip does one more slot. -/
theorem done_step {X : Valuation τ sig (Elt Ideal)} {n : ℕ} (hX : Done E X n L G t) (hn : n < 128) : Done E (STEP X) (n + 1) L G t := by
  have h := ready hE hX hn
  have hS : (chosen L low G t n).card ≤ 128 := (card_chosen n).trans hn.le
  refine ⟨?_, ?_, ?_, ?_, ?_, ?_, ?_, ?_, ?_, ?_, ?_, ?_, ?_⟩
  · rw [STEP_main_v38_0]; exact hX.keep0
  · rw [STEP_main_v38_1]; exact hX.keep1
  · rw [STEP_main_v38_2]; exact hX.keep2
  · rw [STEP_main_v38_3]; exact hX.keep3
  · rw [STEP_main_v38_4]; exact hX.keep4
  · rw [STEP_main_v38_5]
    unfold step_main_v38_5
    rw [hX.ctr]
    funext j
    show BitVec.ofNat 32 n + 1#32 = BitVec.ofNat 32 (n + 1)
    rw [BitVec.ofNat_add]
  · intro i
    rw [chosen, dif_pos hn]
    exact step_mask h i
  · refine before_or hn (fun i d => ?_) fun a ha ha' i d => ?_
    · refine (step_memory h (hc _) hS (hL _) (hG _) ht _ i d).trans ?_
      rw [if_pos rfl, hX.keep3]
      rfl
    · refine (step_memory h (hc _) hS (hL _) (hG _) ht a i d).trans ?_
      rw [if_neg ha]
      exact hX.memory a ha' i d
  · refine before_or hn ?_ fun a ha ha' => ?_
    · refine (step_idx h _).trans ?_
      rw [if_pos rfl]
      rfl
    · refine (step_idx h a).trans ?_
      rw [if_neg ha]
      exact hX.idx a ha'
  · refine before_or hn (fun d => ?_) fun a ha ha' d => ?_
    · refine (step_keys h _ d).trans ?_
      rw [if_pos rfl, hX.keep4]
    · refine (step_keys h a d).trans ?_
      rw [if_neg ha]
      exact hX.keys a ha' d
  · refine before_or hn (fun s => ?_) fun a ha ha' s => ?_
    · refine (step_picks h _ s).trans ?_
      rw [if_pos rfl]
    · refine (step_picks h a s).trans ?_
      rw [if_neg ha]
      exact hX.picks a ha' s
  · refine before_or hn (fun s => ?_) fun a ha ha' s => ?_
    · refine (step_probs h _ s).trans ?_
      rw [if_pos rfl]
    · refine (step_probs h a s).trans ?_
      rw [if_neg ha]
      exact hX.probs a ha' s
  · refine before_or hn (fun s => ?_) fun a ha ha' s => ?_
    · refine (step_weights h (hc _) hS (hL _) (hG _) ht _ s).trans ?_
      rw [if_pos rfl]
    · refine (step_weights h (hc _) hS (hL _) (hG _) ht a s).trans ?_
      rw [if_neg ha]
      exact hX.weights a ha' s

/-- After `n` trips the first `n` slots are done. -/
theorem done_all : ∀ n : ℕ, n ≤ 128 → Done E (STEP^[n] E) n L G t
  | 0, _ => done_zero hE
  | n + 1, hn => by
    rw [Function.iterate_succ_apply']
    exact done_step hE hc hL hG ht (done_all n (by omega)) (by omega)

end Loop

/-! ## The entry -/

section Entry
variable (m : (ℓ : Loc nD τ sig) → Buf (Elt Ideal) ℓ)

/-- The loop starts with no position masked. -/
theorem entry_mask (c : Dev nD) : entryContents preI m c (Proc.devRef .tc main_v38_6) = (fun _ => 0#1 : IVec S32768 1) := by
  simp only [entryContents, afterL_cons, afterL_nil]
  after_reads_simp
  rfl

/-- A buffer at the entry that is a copy. -/
theorem entry_copy0 (c : Dev nD) : entryContents preI m c (Proc.devRef .tc main_v38_0) = entryContents preI m c (Proc.devRef .tc main_v11) := by
  simp only [entryContents, afterL_cons, afterL_nil]
  generalize after (hostOps0_6 (F := Ideal)) _ = V
  after_reads_simp
  rfl

/-- The loop is given the normalised keys. -/
theorem entry_copy4 (c : Dev nD) : entryContents preI m c (Proc.devRef .tc main_v38_4) = entryContents preI m c (Proc.devRef .tc main_v4) := by
  simp only [entryContents, afterL_cons, afterL_nil]
  generalize after (hostOps0_6 (F := Ideal)) _ = V
  after_reads_simp
  rfl

/-- The loop is given the temperature. -/
theorem entry_copy2 (c : Dev nD) : entryContents preI m c (Proc.devRef .tc main_v38_2) = entryContents preI m c (Proc.devRef .tc main_arg3) := by
  simp only [entryContents, afterL_cons, afterL_nil]
  generalize after (hostOps0_6 (F := Ideal)) _ = V
  after_reads_simp
  rfl

/-- The loop is given the memory. -/
theorem entry_copy3 (c : Dev nD) : entryContents preI m c (Proc.devRef .tc main_v38_3) = entryContents preI m c (Proc.devRef .tc main_arg1) := by
  simp only [entryContents, afterL_cons, afterL_nil]
  generalize after (hostOps0_6 (F := Ideal)) _ = V
  after_reads_simp
  rfl

/-- A carried buffer, when the reference ends. -/
theorem final_carried {r : Ref sig .tc} (hr : r ∈ carriedRefs) (hc : r ∉ condOps_W) (h8 : r ∉ hostOps0_8_W) (c : Dev nD) :
    finalContents condOps preI bodyI postI 128 m c (Proc.devRef .tc r) = STEP^[128] (entryContents preI m c) (Proc.devRef .tc r) :=
  (after_of_writes_sub hostOps0_8 _ hostOps0_8_writes h8).trans <| (after_of_writes_sub condOps _ condOps_writes hc).trans <|
    atK_agree m c 128 _ hr

end Entry

end Cert.ReferenceIdeal.Val
-- ==== Proof.RefFinal.lean ====
module

public import proofs.«01_k».proof.Proof.RefLoop
public import proofs.«01_k».proof.Proof.Spread

@[expose] public section

set_option maxRecDepth 16384

noncomputable section

/-! What the reference makes of the loop's rows: the two matrices scattered from them. -/

namespace Cert.ReferenceIdeal.Val

open Idealize.ShloMosaic Idealize.ShloMosaic.TcCoe Idealize.SL.Sem
open Idealize.ShloMosaic.StableHlo
open Idealize.ShloMosaic.ValueIdx
open Cert.ReferenceIdeal Cert.ReferenceIdeal.Gen Cert.ReferenceIdeal.Value
open Cert.Proof.Rank Cert.Proof.RowOps

/-- Row numbers, a negative one wrapped. -/
def rowNumbers : IVec S128x512 32 :=
  select (cmpi .slt (broadcastInDim S128x512 ![0, 1] bcast_S128x1_S128x512_0_1 (broadcastInDim S128x1 ![0] bcast_S128_S128x1_0 (iotaInDim S128 32 0)))
      (broadcastInDim S128x512 ![] bcast_S_S128x512 (constantI S_ 32 0#32)))
    (addi (broadcastInDim S128x512 ![0, 1] bcast_S128x1_S128x512_0_1 (broadcastInDim S128x1 ![0] bcast_S128_S128x1_0 (iotaInDim S128 32 0)))
      (broadcastInDim S128x512 ![] bcast_S_S128x512 (constantI S_ 32 128#32)))
    (broadcastInDim S128x512 ![0, 1] bcast_S128x1_S128x512_0_1 (broadcastInDim S128x1 ![0] bcast_S128_S128x1_0 (iotaInDim S128 32 0)))

/-- Column numbers, a negative one wrapped. -/
def colNumbers (x : IVec S128x512 32) : IVec S128x512 32 :=
  select (cmpi .slt x (broadcastInDim S128x512 ![] bcast_S_S128x512 (constantI S_ 32 0#32)))
    (addi x (broadcastInDim S128x512 ![] bcast_S_S128x512 (constantI S_ 32 32768#32))) x

/-- A matrix of zeros with values scattered along its rows. -/
def spreadRows (x : IVec S128x512 32) (u : FVec Ideal S128x512 .f32) : FVec Ideal S128x32768 .f32 :=
  Host.scatter scatter_S128x32768_S128x512x2_S128x512_n_01_01_2 (fun _ b => b)
    (broadcastInDim S128x32768 ![] bcast_S_S128x32768 (constant S_ .f32 0x00000000#32))
    (concatenate S128x512x2 2 [⟨S128x512x1, broadcastInDim S128x512x1 ![0, 1] bcast_S128x512_S128x512x1_0_1 rowNumbers⟩,
      ⟨S128x512x1, broadcastInDim S128x512x1 ![0, 1] bcast_S128x512_S128x512x1_0_1 (colNumbers x)⟩] concatenates_S128x512x1_S128x512x1_S128x512x2_d2) u

/-- The reference's probabilities are the stacked ones, spread over the rows. -/
theorem tail_56 (V : Valuation τ sig (Elt Ideal)) : after hostOps0_8 V (Proc.devRef .tc main_v56)
    = spreadRows (V (Proc.devRef .tc main_v38_10)) (V (Proc.devRef .tc main_v38_11)) := by
  after_reads_simp
  rfl

/-- The reference's one-hot weights are the stacked ones, spread over the rows. -/
theorem tail_71 (V : Valuation τ sig (Elt Ideal)) : after hostOps0_8 V (Proc.devRef .tc main_v71)
    = spreadRows (V (Proc.devRef .tc main_v38_10)) (V (Proc.devRef .tc main_v38_12)) := by
  after_reads_simp
  rfl

/-- The row half of a scatter's index is the number of the row. -/
theorem rowNumbers_apply (a : Fin 128) (b : Fin 512) : rowNumbers (ix2 a b) = BitVec.ofNat 32 a.val :=
  wrap_small (n := a.val) (by have := a.isLt; omega) _

/-- A matrix given a last axis of length one keeps its entries. -/
theorem unit_apply (x : IVec S128x512 32) (a : Fin 128) (b : Fin 512) :
    broadcastInDim S128x512x1 ![0, 1] bcast_S128x512_S128x512x1_0_1 x (ix3 a b 0) = x (ix2 a b) :=
  congrArg x (funext fun q => match q with
    | ⟨0, _⟩ => rfl
    | ⟨1, _⟩ => rfl)

/-- A column number in range is not wrapped. -/
theorem colNumbers_apply (x : IVec S128x512 32) (a : Fin 128) (b : Fin 512) (n : ℕ) (hn : n < 32768) (h : x (ix2 a b) = BitVec.ofNat 32 n) :
    colNumbers x (ix2 a b) = BitVec.ofNat 32 n := by
  show Scalar.select (IntOp.cmpi .slt (x (ix2 a b)) 0#32) _ (x (ix2 a b)) = _
  rw [h]
  exact wrap_small (by omega) _

section
variable (x : IVec S128x512 32) (u : FVec Ideal S128x512 .f32) (p : Fin 128 → Fin 512 → Fin 32768)
  (hx : ∀ a b, x (ix2 a b) = BitVec.ofNat 32 (p a b).val)
include hx

/-- The spread row at a candidate's position is that candidate's value. -/
theorem spreadRows_hit (hp : ∀ a, Function.Injective (p a)) (a : Fin 128) (b : Fin 512) : spreadRows x u (ix2 a (p a b)) = u (ix2 a b) :=
  rows_hit (by decide) (by decide) scatter_S128x32768_S128x512x2_S128x512_n_01_01_2 rfl rfl rfl _ _ u p
    (fun a b => (pair_left (A := 128) (B := 512) _ _ _ a b).trans <| (unit_apply _ a b).trans (rowNumbers_apply a b))
    (fun a b => (pair_right (A := 128) (B := 512) _ _ _ a b).trans <| (unit_apply _ a b).trans (colNumbers_apply x a b _ (p a b).isLt (hx a b))) hp a b

/-- The spread row at a position of no candidate is zero. -/
theorem spreadRows_miss (a : Fin 128) (c : Fin 32768) (hn : ∀ b, p a b ≠ c) : spreadRows x u (ix2 a c) = 0 :=
  (rows_miss (by decide) (by decide) scatter_S128x32768_S128x512x2_S128x512_n_01_01_2 rfl rfl rfl _ _ u p
    (fun a b => (pair_left (A := 128) (B := 512) _ _ _ a b).trans <| (unit_apply _ a b).trans (rowNumbers_apply a b))
    (fun a b => (pair_right (A := 128) (B := 512) _ _ _ a b).trans <| (unit_apply _ a b).trans (colNumbers_apply x a b _ (p a b).isLt (hx a b))) a c hn).trans Ideal.ofBits_zero_f32

end

section Final
variable (m : (ℓ : Loc nD τ sig) → Buf (Elt Ideal) ℓ) {L : Fin 128 → Fin 32768 → EReal} {G : Fin 128 → Fin 512 → EReal} {t : EReal}

/-- The probabilities at the end of the run, from the loop's last state. -/
theorem final_56 (c : Dev nD) : finalContents condOps preI bodyI postI 128 m c (Proc.devRef .tc main_v56)
    = spreadRows (STEP^[128] (entryContents preI m c) (Proc.devRef .tc main_v38_10)) (STEP^[128] (entryContents preI m c) (Proc.devRef .tc main_v38_11)) := by
  have h10 := (after_of_writes_sub condOps (atK m 128 c) condOps_writes (r := main_v38_10) (by decide +kernel)).trans (atK_agree m c 128 main_v38_10 (by decide +kernel))
  have h11 := (after_of_writes_sub condOps (atK m 128 c) condOps_writes (r := main_v38_11) (by decide +kernel)).trans (atK_agree m c 128 main_v38_11 (by decide +kernel))
  refine (tail_56 _).trans ?_
  exact congrArg₂ spreadRows h10 h11

/-- The one-hot weights at the end of the run, from the loop's last state. -/
theorem final_71 (c : Dev nD) : finalContents condOps preI bodyI postI 128 m c (Proc.devRef .tc main_v71)
    = spreadRows (STEP^[128] (entryContents preI m c) (Proc.devRef .tc main_v38_10)) (STEP^[128] (entryContents preI m c) (Proc.devRef .tc main_v38_12)) := by
  have h10 := (after_of_writes_sub condOps (atK m 128 c) condOps_writes (r := main_v38_10) (by decide +kernel)).trans (atK_agree m c 128 main_v38_10 (by decide +kernel))
  have h12 := (after_of_writes_sub condOps (atK m 128 c) condOps_writes (r := main_v38_12) (by decide +kernel)).trans (atK_agree m c 128 main_v38_12 (by decide +kernel))
  refine (tail_71 _).trans ?_
  exact congrArg₂ spreadRows h10 h12

variable {E X : Valuation τ sig (Elt Ideal)} (hX : Done E X 128 L G t)
include hX

/-- The scattered probabilities. -/
theorem spread_probs (a : Fin 128) (i : Fin 32768) :
    spreadRows (X (Proc.devRef .tc main_v38_10)) (X (Proc.devRef .tc main_v38_11)) (ix2 a i) = spread (L a) (chosen L low G t a.val) low (G a) t i := by
  by_cases h : ∃ s, pick (L a) (chosen L low G t a.val) low s = i
  · obtain ⟨s, rfl⟩ := h
    rw [spreadRows_hit _ _ (fun a s => pick (L a) (chosen L low G t a.val) low s) (fun a b => hX.picks a a.isLt b) (fun a => pick_injective) a s,
      hX.probs a a.isLt, spread_pick]
  · rw [spreadRows_miss _ _ (fun a s => pick (L a) (chosen L low G t a.val) low s) (fun a b => hX.picks a a.isLt b) a i fun s h' => h ⟨s, h'⟩,
      spread_off fun s h' => h ⟨s, h'⟩]

/-- The scattered choice. -/
theorem spread_choice (a : Fin 128) (i : Fin 32768) :
    spreadRows (X (Proc.devRef .tc main_v38_10)) (X (Proc.devRef .tc main_v38_12)) (ix2 a i)
      = if i = chosenAt L low G t a then (1 : EReal) else (0 : EReal) := by
  by_cases h : ∃ s, pick (L a) (chosen L low G t a.val) low s = i
  · obtain ⟨s, rfl⟩ := h
    rw [spreadRows_hit _ _ (fun a s => pick (L a) (chosen L low G t a.val) low s) (fun a b => hX.picks a a.isLt b) (fun a => pick_injective) a s,
      hX.weights a a.isLt]
    unfold chosenAt choice
    by_cases e : s = best (L a) (chosen L low G t a.val) low (G a) t
    · rw [if_pos e, if_pos (congrArg _ e)]
    · rw [if_neg e, if_neg fun e' => e (pick_injective e')]
  · rw [spreadRows_miss _ _ (fun a s => pick (L a) (chosen L low G t a.val) low s) (fun a b => hX.picks a a.isLt b) a i fun s h' => h ⟨s, h'⟩]
    refine (if_neg fun e => h ⟨best (L a) (chosen L low G t a.val) low (G a) t, ?_⟩).symm
    exact e.symm

end Final

end Cert.ReferenceIdeal.Val
-- ==== Proof.Results.lean ====
module

public import proofs.«01_k».proof.Proof.KernelFinal
public import proofs.«01_k».proof.Proof.ExpKeys
public import proofs.«01_k».proof.Proof.RefFinal

@[expose] public section

set_option maxRecDepth 16384

noncomputable section

/-! The results of kernel and reference, each against the other. -/

namespace Cert.Proof.Results

open Idealize.ShloMosaic Idealize.ShloMosaic.TcCoe Idealize.SL.Sem
open Idealize.ShloMosaic.StableHlo
open Idealize.ShloMosaic.ValueIdx
open Cert.Proof.Rank Cert.Proof.RowOps
open Cert.KernelIdeal (τ sig nD)
open Cert.KernelIdeal.Gen
open Cert.KernelIdeal.Val (rowsL noiseG tempT low)
open Cert.ReferenceIdeal.Value (preI)
open Cert.ReferenceIdeal.Val (Start Done)

/-- What the reference leaves in a buffer. -/
abbrev refFinal (m' : (ℓ : Loc Cert.ReferenceIdeal.nD Cert.ReferenceIdeal.τ Cert.ReferenceIdeal.sig) → Buf (Elt Ideal) ℓ) (c : Dev nD) :
    Valuation Cert.ReferenceIdeal.τ Cert.ReferenceIdeal.sig (Elt Ideal) :=
  finalContents Cert.ReferenceIdeal.Value.condOps preI Cert.ReferenceIdeal.Value.bodyI Cert.ReferenceIdeal.Value.postI 128 m' c

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ) (c : Dev nD)
  (e0 : (m' ((c.tc : Thread Cert.ReferenceIdeal.nD Cert.ReferenceIdeal.τ).loc Cert.ReferenceIdeal.main_arg0) : FVec Ideal Cert.KernelIdeal.S32768x256 .f32)
    = m ((c : Thread nD τ).loc Cert.KernelIdeal.main_arg0))
  (e1 : (m' ((c.tc : Thread Cert.ReferenceIdeal.nD Cert.ReferenceIdeal.τ).loc Cert.ReferenceIdeal.main_arg1) : FVec Ideal Cert.KernelIdeal.S32768x8x256 .f32)
    = m ((c : Thread nD τ).loc Cert.KernelIdeal.main_arg1))
  (e3 : (m' ((c.tc : Thread Cert.ReferenceIdeal.nD Cert.ReferenceIdeal.τ).loc Cert.ReferenceIdeal.main_arg3) : IVec Cert.KernelIdeal.S_ 32)
    = m ((c : Thread nD τ).loc Cert.KernelIdeal.main_arg3))
  (e4 : (m' ((c.tc : Thread Cert.ReferenceIdeal.nD Cert.ReferenceIdeal.τ).loc Cert.ReferenceIdeal.main_arg4) : FVec Ideal Cert.KernelIdeal.S128x256 .f32)
    = m ((c : Thread nD τ).loc Cert.KernelIdeal.main_arg4))

include e0 e3 e4 in
/-- The loop starts from the kernel's logits, noise and temperature. -/
theorem start : Start (entryContents preI m' c) (rowsL m c) (noiseG m ρ c) (tempT m c) where
  row := fun k i => by
    rw [Cert.ReferenceIdeal.Val.entry_copy0, Cert.ReferenceIdeal.Val.entry_logits, e0, e4]
    rfl
  noise := fun k s => by
    rw [Cert.Proof.Noise.noise_eq m ρ m' c c]
    rfl
  temp := fun j => by
    rw [Cert.ReferenceIdeal.Val.entry_copy2, Cert.ReferenceIdeal.Val.entry_keeps m' (by decide +kernel), e3]
    exact congrArg (sitofp (F := Ideal) .f32 (m ((c : Thread nD τ).loc Cert.KernelIdeal.main_arg3) : IVec Cert.KernelIdeal.S_ 32)) (eq_ix0 j)
  ctr := Cert.ReferenceIdeal.Value.ctr_entry m' c
  mask := fun i => by rw [Cert.ReferenceIdeal.Val.entry_mask]

variable (ht : ∃ r : ℝ, r ≠ 0 ∧ tempT m c = r)

include e0 e3 e4 ht in
/-- What the loop ends with. -/
theorem done : Done (entryContents preI m' c) (Cert.ReferenceIdeal.Value.STEP^[128] (entryContents preI m' c)) 128 (rowsL m c) (noiseG m ρ c) (tempT m c) :=
  Cert.ReferenceIdeal.Val.done_all (start m ρ m' c e0 e3 e4) (fun k i => Cert.KernelIdeal.Val.masked_lt _ _ k i) (fun k i => by
    obtain ⟨r, _, h⟩ := Cert.KernelIdeal.Val.logits_real (m ((c : Thread nD τ).loc Cert.KernelIdeal.main_arg0)) (m ((c : Thread nD τ).loc Cert.KernelIdeal.main_arg4)) k i
    exact ⟨r, h⟩) (fun k s => Cert.Proof.Noise.W12_noise_real m ρ c _) ht 128 le_rfl

/-- The normalised keys, in the kernel's last region. -/
theorem keys_kept : W14 m ρ c (Proc.devRef .tc Cert.KernelIdeal.main_v4) = Cert.KernelIdeal.Val.keysNorm (m ((c : Thread nD τ).loc Cert.KernelIdeal.main_arg0)) :=
  (W14_of m ρ c Cert.KernelIdeal.main_v4 (by decide)).trans <| (W13_of m ρ c Cert.KernelIdeal.main_v4 (by decide)).trans <|
    (Cert.KernelIdeal.Val.W12_of_W5 m ρ c Cert.KernelIdeal.main_v4 (by decide) (by decide) (by decide) (by decide) (by decide) (by decide) (by decide)).trans <|
    (W5_of m ρ c Cert.KernelIdeal.main_v4 (by decide)).trans (Cert.KernelIdeal.Val.W4_keys m ρ c)

include e0 e1 e3 e4 ht

/-- Result 1: the memory rows chosen. -/
theorem memory_eq : refFinal m' c (Proc.devRef .tc Cert.ReferenceIdeal.main_v38_7)
    = (W15 m ρ c (Proc.devRef .tc Cert.KernelIdeal.main_v85) : FVec Ideal Cert.KernelIdeal.S128x8x256 .f32) := by
  have hd := done m ρ m' c e0 e3 e4 ht
  refine (Cert.ReferenceIdeal.Val.final_carried m' (r := Cert.ReferenceIdeal.main_v38_7) (by decide +kernel) (by decide +kernel) (by decide +kernel) c).trans ?_
  rw [W15_of m ρ c Cert.KernelIdeal.main_v85 (by decide)]
  funext j
  rw [eq_ix3 (n0 := 128) (n1 := 8) (n2 := 256) j]
  refine (hd.memory (j 0) (j 0).isLt (j 1) (j 2)).trans ?_
  rw [Cert.ReferenceIdeal.Val.entry_copy3, Cert.ReferenceIdeal.Val.entry_keeps m' (by decide +kernel), e1]
  exact (Cert.KernelIdeal.Val.W14_memory m ρ c ht (j 0) (j 1) (j 2)).symm

/-- Result 2: the indices chosen. -/
theorem idx_eq : refFinal m' c (Proc.devRef .tc Cert.ReferenceIdeal.main_v38_8)
    = (W15 m ρ c (Proc.devRef .tc Cert.KernelIdeal.main_v43) : IVec Cert.KernelIdeal.S128 32) := by
  have hd := done m ρ m' c e0 e3 e4 ht
  refine (Cert.ReferenceIdeal.Val.final_carried m' (r := Cert.ReferenceIdeal.main_v38_8) (by decide +kernel) (by decide +kernel) (by decide +kernel) c).trans ?_
  rw [W15_of m ρ c Cert.KernelIdeal.main_v43 (by decide)]
  funext j
  rw [eq_ix1 (n := 128) j]
  exact (hd.idx (j 0) (j 0).isLt).trans (Cert.KernelIdeal.Val.W14_idx m ρ c ht (j 0)).symm

/-- Result 4: the probabilities. -/
theorem probs_eq : refFinal m' c (Proc.devRef .tc Cert.ReferenceIdeal.main_v56)
    = (W15 m ρ c (Proc.devRef .tc Cert.KernelIdeal.main_v61) : FVec Ideal Cert.KernelIdeal.S128x32768 .f32) := by
  have hd := done m ρ m' c e0 e3 e4 ht
  refine (Cert.ReferenceIdeal.Val.final_56 m' c).trans ?_
  rw [W15_of m ρ c Cert.KernelIdeal.main_v61 (by decide)]
  funext j
  rw [eq_ix2 (n0 := 128) (n1 := 32768) j]
  exact (Cert.ReferenceIdeal.Val.spread_probs hd (j 0) (j 1)).trans (Cert.KernelIdeal.Val.W14_probs m ρ c ht (j 0) (j 1)).symm

/-- Result 5: the choice as a one-hot row. -/
theorem ones_eq : refFinal m' c (Proc.devRef .tc Cert.ReferenceIdeal.main_v71)
    = (W15 m ρ c (Proc.devRef .tc Cert.KernelIdeal.main_v78) : FVec Ideal Cert.KernelIdeal.S128x32768 .f32) := by
  have hd := done m ρ m' c e0 e3 e4 ht
  refine (Cert.ReferenceIdeal.Val.final_71 m' c).trans ?_
  rw [W15_of m ρ c Cert.KernelIdeal.main_v78 (by decide)]
  funext j
  rw [eq_ix2 (n0 := 128) (n1 := 32768) j]
  exact (Cert.ReferenceIdeal.Val.spread_choice hd (j 0) (j 1)).trans (Cert.KernelIdeal.Val.W14_ones m ρ c ht (j 0) (j 1)).symm

/-- Result 6: the expected keys. -/
theorem expected_eq : refFinal m' c (Proc.devRef .tc Cert.ReferenceIdeal.main_v38_9)
    = (W15 m ρ c (Proc.devRef .tc Cert.KernelIdeal.main_v86) : FVec Ideal Cert.KernelIdeal.S128x256 .f32) := by
  have hd := done m ρ m' c e0 e3 e4 ht
  refine (Cert.ReferenceIdeal.Val.final_carried m' (r := Cert.ReferenceIdeal.main_v38_9) (by decide +kernel) (by decide +kernel) (by decide +kernel) c).trans ?_
  rw [show W15 m ρ c (Proc.devRef .tc Cert.KernelIdeal.main_v86) = _ from (W15_arr m ρ c 2).trans (Cert.KernelIdeal.Val.region2_final (V14 m ρ) c)]
  funext j
  rw [eq_ix2 (n0 := 128) (n1 := 256) j]
  refine (hd.keys (j 0) (j 0).isLt (j 1)).trans ?_
  have hk : entryContents preI m' c (Proc.devRef .tc Cert.ReferenceIdeal.main_v38_4)
      = Cert.KernelIdeal.Val.keysNorm (m ((c : Thread nD τ).loc Cert.KernelIdeal.main_arg0)) := by
    rw [Cert.ReferenceIdeal.Val.entry_copy4, Cert.ReferenceIdeal.Val.entry_of_atNorms m' (by decide +kernel) (by decide +kernel) (by decide +kernel) (by decide +kernel),
      Cert.ReferenceIdeal.Val.norms_keys, e0]
  rw [hk]
  refine (sum_spread (fun i => Cert.KernelIdeal.Val.keysNorm (m ((c : Thread nD τ).loc Cert.KernelIdeal.main_arg0)) (ix2 i (j 1)))).symm.trans ?_
  refine Finset.sum_congr rfl fun i _ => ?_
  refine congrArg₂ (· * ·) (Cert.KernelIdeal.Val.W14_probs m ρ c ht (j 0) i).symm ?_
  exact congrFun (keys_kept m ρ c).symm (ix2 i (j 1))

end Cert.Proof.Results
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_tau_nonzero
public import proofs.«01_k».proof.Proof.KernelRun
public import proofs.«01_k».proof.Proof.RefRun
public import proofs.«01_k».proof.Proof.Results
public import Idealize.ShloMosaic.Adequacy
public import Idealize.ShloMosaic.Init

@[expose] public section

set_option maxRecDepth 16384

noncomputable section

/-! The claims: the frames, the named constant, and every result of kernel and reference equal. -/

namespace Cert.Proof

open Idealize.ShloMosaic Idealize.ShloMosaic.TcCoe Idealize.SL.Sem

/-- The kernel as written ends with its arguments kept. -/
theorem frame_kernel : Cert.quiescent_Kernel := fun m ρ _ => Cert.Kernel.Gen.frame m ρ

/-- The idealised kernel ends with its arguments kept. -/
theorem frame_ideal : Cert.quiescent_KernelIdeal := fun m ρ _ => Cert.KernelIdeal.Gen.frame m ρ

/-- The reference ends with its arguments kept. -/
theorem frame_reference : Cert.quiescent_ReferenceIdeal := fun m ρ _ => Cert.ReferenceIdeal.Val.frame m ρ

/-- The named constant is minus infinity. -/
theorem constant_named : Cert.preserves_Kernel_KernelIdeal :=
  IdealRules.named_const.statement Cert.KernelIdeal.κ "neg" .f32 0xF149F2CA#32 ⊥ rfl

/-- The idealised kernel ends with its arguments kept, at a temperature other than 0. -/
theorem frame_ideal_pre : Cert.quiescent_KernelIdeal_pre_tau_nonzero := fun m ρ _ => Cert.KernelIdeal.Gen.frame m ρ

/-- The reference ends with its arguments kept, at a temperature other than 0. -/
theorem frame_reference_pre : Cert.quiescent_ReferenceIdeal_pre_tau_nonzero := fun m ρ _ => Cert.ReferenceIdeal.Val.frame m ρ

/-- The precondition says that the temperature's word is not 0. -/
theorem word_nonzero {w : IVec Cert.Pre_tau_nonzero.S_ 32} (h : cmpi .ne w (constantI Cert.Pre_tau_nonzero.S_ 32 0#32) = fun _ => 1#1) :
    w ValueIdx.ix0 ≠ 0#32 := by
  intro e
  have h' : BitVec.ofBool (w ValueIdx.ix0 != 0#32) = 1#1 := congrFun h ValueIdx.ix0
  rw [e] at h'
  exact absurd h' (by decide)

open Cert.KernelIdeal Cert.KernelIdeal.Gen in
/-- Every result of kernel and reference is equal. -/
theorem results_equal : Cert.algebraic_KernelIdeal_ReferenceIdeal_pre_tau_nonzero := by
  intro m g m' g' hpre hargs
  refine ⟨fun c => W15 m g c (Proc.devRef .tc main_v85), fun c => W15 m g c (Proc.devRef .tc main_v43),
    fun c => Cert.KernelIdeal.Val.logits (m ((c : Thread nD τ).loc main_arg0)) (m ((c : Thread nD τ).loc main_arg4)),
    fun c => W15 m g c (Proc.devRef .tc main_v61), fun c => W15 m g c (Proc.devRef .tc main_v78), fun c => W15 m g c (Proc.devRef .tc main_v86), ?_, ?_⟩
  · refine (θ_run (Cert.KernelIdeal.defs (F := Ideal)) _ _).mono (fun r h c => ?_) (run_all m g)
    exact ⟨h c _ (mem_uc main_v85 (by decide)), h c _ (mem_uc main_v43 (by decide)),
      (h c _ (mem_uc main_v10 (by decide))).trans (Cert.KernelIdeal.Val.W15_logits m g c),
      h c _ (mem_uc main_v61 (by decide)), h c _ (mem_uc main_v78 (by decide)), h c _ (mem_uc main_v86 (by decide)),
      (h c _ (mem_uc main_arg0 (by decide))).trans (W15_main_arg0 m g c), (h c _ (mem_uc main_arg1 (by decide))).trans (W15_main_arg1 m g c),
      (h c _ (mem_uc main_arg2 (by decide))).trans (W15_main_arg2 m g c), (h c _ (mem_uc main_arg3 (by decide))).trans (W15_main_arg3 m g c),
      (h c _ (mem_uc main_arg4 (by decide))).trans (W15_main_arg4 m g c)⟩
  · refine (θ_run (Cert.ReferenceIdeal.defs (F := Ideal)) _ _).mono (fun r h c => ?_)
      (Cert.ReferenceIdeal.Value.run_fold (F := Ideal) m' g')
    obtain ⟨e0, e1, e2, e3, e4⟩ := hargs c
    have ht := Cert.KernelIdeal.Val.temp_real m c (word_nonzero (hpre c))
    have k (r : Ref Cert.ReferenceIdeal.sig .tc) (h1) (h2) (h3) := Cert.ReferenceIdeal.Val.final_arg m' (r := r) h1 h2 h3 c
    exact ⟨(h c Cert.ReferenceIdeal.main_v38_7 (by decide)).trans (Results.memory_eq m g m' c e0 e1 e3 e4 ht),
      (h c Cert.ReferenceIdeal.main_v38_8 (by decide)).trans (Results.idx_eq m g m' c e0 e1 e3 e4 ht),
      (h c Cert.ReferenceIdeal.main_v11 (by decide)).trans ((Cert.ReferenceIdeal.Val.final_logits m' c).trans (congrArg₂ Cert.KernelIdeal.Val.logits e0 e4)),
      (h c Cert.ReferenceIdeal.main_v56 (by decide)).trans (Results.probs_eq m g m' c e0 e1 e3 e4 ht),
      (h c Cert.ReferenceIdeal.main_v71 (by decide)).trans (Results.ones_eq m g m' c e0 e1 e3 e4 ht),
      (h c Cert.ReferenceIdeal.main_v38_9 (by decide)).trans (Results.expected_eq m g m' c e0 e1 e3 e4 ht),
      (h c Cert.ReferenceIdeal.main_arg0 (by decide)).trans (k _ (by decide +kernel) (by decide +kernel) (by decide +kernel)),
      (h c Cert.ReferenceIdeal.main_arg1 (by decide)).trans (k _ (by decide +kernel) (by decide +kernel) (by decide +kernel)),
      (h c Cert.ReferenceIdeal.main_arg2 (by decide)).trans (k _ (by decide +kernel) (by decide +kernel) (by decide +kernel)),
      (h c Cert.ReferenceIdeal.main_arg3 (by decide)).trans (k _ (by decide +kernel) (by decide +kernel) (by decide +kernel)),
      (h c Cert.ReferenceIdeal.main_arg4 (by decide)).trans (k _ (by decide +kernel) (by decide +kernel) (by decide +kernel))⟩

/-- All that is claimed. -/
theorem claim : Cert.Claim := ⟨Cert.Kernel.Gen.facts, Cert.KernelIdeal.Gen.facts, Cert.ReferenceIdeal.Gen.facts, Cert.Pre_tau_nonzero.Gen.facts,
  frame_kernel, frame_ideal, frame_ideal_pre, frame_reference, frame_reference_pre, constant_named, results_equal⟩

end Cert.Proof

end
